-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![4, 512, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![1, 512, 1024]⟩ ⟨3, ![4, 512, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S4x2048x32x128 : Shape := ⟨4, ![4, 2048, 32, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S1x512x1024 .f32) (main_arg1 : FVec F S1024x1024 .f32) (main_arg2 : FVec F S1024x1024 .f32) (main_arg3 : FVec F S4x2048x32x128 .f32) (main_arg4 : FVec F S4x2048x32x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x2048x32x128 .f32 := Host.absf main_arg3
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Pre_finite_ReferenceIdeal.lean ====
abbrev S4x512x1024 : Shape := ⟨3, ![4, 512, 1024]⟩
abbrev S1024x4096 : Shape := ⟨2, ![1024, 4096]⟩
abbrev S4096x1024 : Shape := ⟨2, ![4096, 1024]⟩
abbrev S4x2048x32x128 : Shape := ⟨4, ![4, 2048, 32, 128]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S4x512x1024 .f32) (main_arg1 : FVec F S1024x4096 .f32) (main_arg2 : FVec F S4096x1024 .f32) (main_arg3 : FVec F S4x2048x32x128 .f32) (main_arg4 : FVec F S4x2048x32x128 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x2048x32x128 .f32 := Host.absf main_arg3
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S4x2048x32x128 : Shape := ⟨4, ![4, 2048, 32, 128]⟩
abbrev S512x1024 : Shape := ⟨2, ![512, 1024]⟩
abbrev S1024x8x128 : Shape := ⟨3, ![1024, 8, 128]⟩
abbrev S8x1024x128 : Shape := ⟨3, ![8, 1024, 128]⟩
abbrev S8x128x1024 : Shape := ⟨3, ![8, 128, 1024]⟩
abbrev S4x512x1024 : Shape := ⟨3, ![4, 512, 1024]⟩
abbrev S2x2048x1x128 : Shape := ⟨4, ![2, 2048, 1, 128]⟩
abbrev S2x2048x256 : Shape := ⟨3, ![2, 2048, 256]⟩
abbrev S3x512x1024 : Shape := ⟨3, ![3, 512, 1024]⟩
abbrev S4 : Shape := ⟨1, ![4]⟩
abbrev S2 : Shape := ⟨1, ![2]⟩
abbrev S1 : Shape := ⟨1, ![1]⟩
abbrev S_ : Shape := ⟨0, ![]⟩
abbrev S1x2048x1x128 : Shape := ⟨4, ![1, 2048, 1, 128]⟩
abbrev S2048x1x128 : Shape := ⟨3, ![2048, 1, 128]⟩
abbrev S2048x128 : Shape := ⟨2, ![2048, 128]⟩
abbrev S1x2048x128 : Shape := ⟨3, ![1, 2048, 128]⟩
abbrev S1x1024x128 : Shape := ⟨3, ![1, 1024, 128]⟩
abbrev S1024x128 : Shape := ⟨2, ![1024, 128]⟩
abbrev S512x128 : Shape := ⟨2, ![512, 128]⟩
abbrev S512x2048 : Shape := ⟨2, ![512, 2048]⟩
abbrev S1x2048x256 : Shape := ⟨3, ![1, 2048, 256]⟩
abbrev S2048x256 : Shape := ⟨2, ![2048, 256]⟩
abbrev S512x256 : Shape := ⟨2, ![512, 256]⟩
abbrev S512x1 : Shape := ⟨2, ![512, 1]⟩
abbrev S1x128x1024 : Shape := ⟨3, ![1, 128, 1024]⟩
abbrev S128x1024 : Shape := ⟨2, ![128, 1024]⟩

abbrev nBuf : Space → Nat
  | .hbm => 13
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S4x2048x32x128, .f32⟩
  | .hbm, ⟨4, _⟩ => ⟨S4x2048x32x128, .f32⟩
  | .hbm, ⟨5, _⟩ => ⟨S512x1024, .f32⟩
  | .hbm, ⟨6, _⟩ => ⟨S512x1024, .bf16⟩
  | .hbm, ⟨7, _⟩ => ⟨S1024x1024, .bf16⟩
  | .hbm, ⟨8, _⟩ => ⟨S1024x8x128, .bf16⟩
  | .hbm, ⟨9, _⟩ => ⟨S8x1024x128, .bf16⟩
  | .hbm, ⟨10, _⟩ => ⟨S1024x1024, .bf16⟩
  | .hbm, ⟨11, _⟩ => ⟨S8x128x1024, .bf16⟩
  | .hbm, ⟨12, _⟩ => ⟨S1x512x1024, .f32⟩
  | .local _ .vmem, ⟨0, _⟩ => ⟨S512x1024, .bf16⟩
  | .local _ .vmem, ⟨1, _⟩ => ⟨S8x1024x128, .bf16⟩
  | .local _ .vmem, ⟨2, _⟩ => ⟨S8x128x1024, .bf16⟩
  | .local _ .vmem, ⟨3, _⟩ => ⟨S1x512x1024, .f32⟩
  | .local _ .vmem, ⟨4, _⟩ => ⟨S4x512x1024, .bf16⟩
  | .local _ .vmem, ⟨5, _⟩ => ⟨S2x2048x1x128, .f32⟩
  | .local _ .vmem, ⟨6, _⟩ => ⟨S2x2048x1x128, .f32⟩
  | .local _ .vmem, ⟨7, _⟩ => ⟨S2x2048x256, .bf16⟩
  | .local _ .vmem, ⟨8, _⟩ => ⟨S512x1024, .f32⟩
  | .local _ .vmem, ⟨9, _⟩ => ⟨S3x512x1024, .bf16⟩
  | .local _ .vmem, ⟨10, _⟩ => ⟨S4x512x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_9 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_15 : BitVec 32 := 0#32
  let c8_i32 : BitVec 32 := 8#32
  let v15 : BitVec 32 := Scalar.muli v2 c8_i32
  let v16 : BitVec 32 := Scalar.addi v15 c0_i32_9
  let c0_i32_16 : BitVec 32 := 0#32
  ![v5.toNat, 0, v16.toNat, 0]
def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v58 : BitVec 32 := Scalar.addi v2 c1_i32_46
  let c4_i32_47 : BitVec 32 := 4#32
  let v59 : BitVec 32 := Scalar.remsi v58 c4_i32_47
  let c1_i32_49 : BitVec 32 := 1#32
  let v60 : BitVec 32 := Scalar.muli v59 c1_i32_49
  let v61 : BitVec 32 := Scalar.addi c0_i32_50 v60
  v61.toNat
def k0_dev2 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v62 : BitVec 32 := Scalar.addi v2 c2_i32_51
  let c4_i32_52 : BitVec 32 := 4#32
  let v63 : BitVec 32 := Scalar.remsi v62 c4_i32_52
  let c1_i32_54 : BitVec 32 := 1#32
  let v64 : BitVec 32 := Scalar.muli v63 c1_i32_54
  let v65 : BitVec 32 := Scalar.addi c0_i32_55 v64
  v65.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v66 : BitVec 32 := Scalar.addi v2 c3_i32_56
  let c4_i32_57 : BitVec 32 := 4#32
  let v67 : BitVec 32 := Scalar.remsi v66 c4_i32_57
  let c1_i32_59 : BitVec 32 := 1#32
  let v68 : BitVec 32 := Scalar.muli v67 c1_i32_59
  let v69 : BitVec 32 := Scalar.addi c0_i32_60 v68
  v69.toNat
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_67 : BitVec 32 := 0#32
  let c0_i32_68 : BitVec 32 := 0#32
  ![v2.toNat, 0, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_62 : BitVec 32 := 1#32
  let v70 : BitVec 32 := Scalar.addi v2 c1_i32_62
  let c4_i32_63 : BitVec 32 := 4#32
  let v71 : BitVec 32 := Scalar.remsi v70 c4_i32_63
  let c1_i32_65 : BitVec 32 := 1#32
  let v72 : BitVec 32 := Scalar.muli v71 c1_i32_65
  let v73 : BitVec 32 := Scalar.addi c0_i32_66 v72
  v73.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v80 : BitVec 32 := Scalar.addi v2 c2_i32_69
  let c4_i32_70 : BitVec 32 := 4#32
  let v81 : BitVec 32 := Scalar.remsi v80 c4_i32_70
  let c1_i32_72 : BitVec 32 := 1#32
  let v82 : BitVec 32 := Scalar.muli v81 c1_i32_72
  let v83 : BitVec 32 := Scalar.addi c0_i32_73 v82
  v83.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_76 : BitVec 32 := 3#32
  let v90 : BitVec 32 := Scalar.addi v2 c3_i32_76
  let c4_i32_77 : BitVec 32 := 4#32
  let v91 : BitVec 32 := Scalar.remsi v90 c4_i32_77
  let c1_i32_79 : BitVec 32 := 1#32
  let v92 : BitVec 32 := Scalar.muli v91 c1_i32_79
  let v93 : BitVec 32 := Scalar.addi c0_i32_80 v92
  v93.toNat
def k0_off4 (d0 : Dev nD) (c0_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  ![v5.toNat]
def k0_off5 (d0 : Dev nD) (c0_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c0_i32_90 : BitVec 32 := 0#32
  let c0_i32_91 : BitVec 32 := 0#32
  ![v5.toNat, 0, 0]
@[reducible] def k0_t1_loop : Scf.Loop 32 :=
  let c0_i32_95 : BitVec 32 := 0#32
  let c4_i32_96 : BitVec 32 := 4#32
  let v114 : BitVec 32 := Scalar.addi c0_i32_95 c4_i32_96
  let c1_i32_97 : BitVec 32 := 1#32
  ⟨c0_i32_95, v114, c1_i32_97⟩
def k0_cond1 (k0_t1 : Fin k0_t1_loop.trips) : BitVec 1 :=
  let c2_i32_262 : BitVec 32 := 2#32
  let c0_i32_95 : BitVec 32 := 0#32
  let c1_i32_97 : BitVec 32 := 1#32
  let arg20 : BitVec 32 := Scf.iv c0_i32_95 c1_i32_97 k0_t1
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_294 : BitVec 32 := 8#32
  let v288 : BitVec 1 := Scalar.cmpi .slt v287 c8_i32_294
  let v289 : BitVec 32 := Scalar.extui v288
  let c0_i32_295 : BitVec 32 := 0#32
  let v290 : BitVec 1 := Scalar.cmpi .ne v289 c0_i32_295
  v290

def k0_off6 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_375 : BitVec 32 := 0#32
  let c8_i32 : BitVec 32 := 8#32
  let v15 : BitVec 32 := Scalar.muli v2 c8_i32
  let c2_i32_262 : BitVec 32 := 2#32
  let c0_i32_95 : BitVec 32 := 0#32
  let c1_i32_97 : BitVec 32 := 1#32
  let arg20 : BitVec 32 := Scf.iv c0_i32_95 c1_i32_97 k0_t1
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let v384 : BitVec 32 := Scalar.addi v15 v287
  let c0_i32_376 : BitVec 32 := 0#32
  ![v5.toNat, 0, v384.toNat, 0]
def k0_cond2 (k0_t1 : Fin k0_t1_loop.trips) : BitVec 1 :=
  let c2_i32_262 : BitVec 32 := 2#32
  let c0_i32_95 : BitVec 32 := 0#32
  let c1_i32_97 : BitVec 32 := 1#32
  let arg20 : BitVec 32 := Scf.iv c0_i32_95 c1_i32_97 k0_t1
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_296 : BitVec 32 := 8#32
  let v291 : BitVec 1 := Scalar.cmpi .sge v287 c8_i32_296
  let v292 : BitVec 32 := Scalar.extui v291
  let c0_i32_297 : BitVec 32 := 0#32
  let v293 : BitVec 1 := Scalar.cmpi .ne v292 c0_i32_297
  v293

def k0_off7 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_376 : BitVec 32 := 0#32
  let c8_i32 : BitVec 32 := 8#32
  let v15 : BitVec 32 := Scalar.muli v2 c8_i32
  let c2_i32_262 : BitVec 32 := 2#32
  let c0_i32_95 : BitVec 32 := 0#32
  let c1_i32_97 : BitVec 32 := 1#32
  let arg20 : BitVec 32 := Scf.iv c0_i32_95 c1_i32_97 k0_t1
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_370 : BitVec 32 := 8#32
  let v384 : BitVec 32 := Scalar.subi v287 c8_i32_370
  let v385 : BitVec 32 := Scalar.addi v15 v384
  let c0_i32_377 : BitVec 32 := 0#32
  ![v8.toNat, 0, v385.toNat, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let v294 : Index := Scalar.indexCast v5
  let c0_298 : Index := 0#32
  let c0_299 : Index := 0#32
  ![v294.toNat, 0, 0]
def k0_off9 (k0_t1 : Fin k0_t1_loop.trips) (c0_i32_263 : BitVec 32) : Fin 3 → Nat :=
  let c2_i32_262 : BitVec 32 := 2#32
  let c0_i32_95 : BitVec 32 := 0#32
  let c1_i32_97 : BitVec 32 := 1#32
  let arg20 : BitVec 32 := Scf.iv c0_i32_95 c1_i32_97 k0_t1
  let v264 : BitVec 32 := Scalar.muli c2_i32_262 arg20
  let v265 : BitVec 32 := Scalar.addi v264 c0_i32_263
  let v297 : Index := Scalar.indexCast v265
  let c0_300 : Index := 0#32
  let c0_301 : Index := 0#32
  ![v297.toNat, 0, 0]
def k0_off10 (k0_t1 : Fin k0_t1_loop.trips) (c0_i32_263 : BitVec 32) : Fin 3 → Nat :=
  let c2_i32_262 : BitVec 32 := 2#32
  let c0_i32_95 : BitVec 32 := 0#32
  let c1_i32_97 : BitVec 32 := 1#32
  let arg20 : BitVec 32 := Scf.iv c0_i32_95 c1_i32_97 k0_t1
  let v264 : BitVec 32 := Scalar.muli c2_i32_262 arg20
  let v265 : BitVec 32 := Scalar.addi v264 c0_i32_263
  let v316 : Index := Scalar.indexCast v265
  let c0_311 : Index := 0#32
  let c0_312 : Index := 0#32
  ![v316.toNat, 0, 0]
def k0_cond3 (k0_t1 : Fin k0_t1_loop.trips) : BitVec 1 :=
  let c2_i32_316 : BitVec 32 := 2#32
  let c0_i32_95 : BitVec 32 := 0#32
  let c1_i32_97 : BitVec 32 := 1#32
  let arg20 : BitVec 32 := Scf.iv c0_i32_95 c1_i32_97 k0_t1
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_348 : BitVec 32 := 8#32
  let v348 : BitVec 1 := Scalar.cmpi .slt v347 c8_i32_348
  let v349 : BitVec 32 := Scalar.extui v348
  let c0_i32_349 : BitVec 32 := 0#32
  let v350 : BitVec 1 := Scalar.cmpi .ne v349 c0_i32_349
  v350

def k0_off11 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_375 : BitVec 32 := 0#32
  let c8_i32 : BitVec 32 := 8#32
  let v15 : BitVec 32 := Scalar.muli v2 c8_i32
  let c2_i32_316 : BitVec 32 := 2#32
  let c0_i32_95 : BitVec 32 := 0#32
  let c1_i32_97 : BitVec 32 := 1#32
  let arg20 : BitVec 32 := Scf.iv c0_i32_95 c1_i32_97 k0_t1
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let v384 : BitVec 32 := Scalar.addi v15 v347
  let c0_i32_376 : BitVec 32 := 0#32
  ![v5.toNat, 0, v384.toNat, 0]
def k0_cond4 (k0_t1 : Fin k0_t1_loop.trips) : BitVec 1 :=
  let c2_i32_316 : BitVec 32 := 2#32
  let c0_i32_95 : BitVec 32 := 0#32
  let c1_i32_97 : BitVec 32 := 1#32
  let arg20 : BitVec 32 := Scf.iv c0_i32_95 c1_i32_97 k0_t1
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_350 : BitVec 32 := 8#32
  let v351 : BitVec 1 := Scalar.cmpi .sge v347 c8_i32_350
  let v352 : BitVec 32 := Scalar.extui v351
  let c0_i32_351 : BitVec 32 := 0#32
  let v353 : BitVec 1 := Scalar.cmpi .ne v352 c0_i32_351
  v353

def k0_off12 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_376 : BitVec 32 := 0#32
  let c8_i32 : BitVec 32 := 8#32
  let v15 : BitVec 32 := Scalar.muli v2 c8_i32
  let c2_i32_316 : BitVec 32 := 2#32
  let c0_i32_95 : BitVec 32 := 0#32
  let c1_i32_97 : BitVec 32 := 1#32
  let arg20 : BitVec 32 := Scf.iv c0_i32_95 c1_i32_97 k0_t1
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_370 : BitVec 32 := 8#32
  let v384 : BitVec 32 := Scalar.subi v347 c8_i32_370
  let v385 : BitVec 32 := Scalar.addi v15 v384
  let c0_i32_377 : BitVec 32 := 0#32
  ![v8.toNat, 0, v385.toNat, 0]
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_106 : BitVec 32 := 1#32
  let v120 : BitVec 32 := Scalar.muli v5 c1_i32_106
  let v121 : BitVec 32 := Scalar.addi c0_i32_107 v120
  v121.toNat
@[reducible] def k0_t2_loop : Scf.Loop 32 :=
  let c0_i32_121 : BitVec 32 := 0#32
  let c4_i32_122 : BitVec 32 := 4#32
  let v140 : BitVec 32 := Scalar.addi c0_i32_121 c4_i32_122
  let c1_i32_123 : BitVec 32 := 1#32
  ⟨c0_i32_121, v140, c1_i32_123⟩
def k0_cond5 (k0_t2 : Fin k0_t2_loop.trips) : BitVec 1 :=
  let c2_i32_262 : BitVec 32 := 2#32
  let c0_i32_121 : BitVec 32 := 0#32
  let c1_i32_123 : BitVec 32 := 1#32
  let arg20 : BitVec 32 := Scf.iv c0_i32_121 c1_i32_123 k0_t2
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_294 : BitVec 32 := 8#32
  let v288 : BitVec 1 := Scalar.cmpi .slt v287 c8_i32_294
  let v289 : BitVec 32 := Scalar.extui v288
  let c0_i32_295 : BitVec 32 := 0#32
  let v290 : BitVec 1 := Scalar.cmpi .ne v289 c0_i32_295
  v290

def k0_off13 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_375 : BitVec 32 := 0#32
  let c8_i32 : BitVec 32 := 8#32
  let v15 : BitVec 32 := Scalar.muli v2 c8_i32
  let c2_i32_262 : BitVec 32 := 2#32
  let c0_i32_121 : BitVec 32 := 0#32
  let c1_i32_123 : BitVec 32 := 1#32
  let arg20 : BitVec 32 := Scf.iv c0_i32_121 c1_i32_123 k0_t2
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let v384 : BitVec 32 := Scalar.addi v15 v287
  let c0_i32_376 : BitVec 32 := 0#32
  ![v8.toNat, 0, v384.toNat, 0]
def k0_cond6 (k0_t2 : Fin k0_t2_loop.trips) : BitVec 1 :=
  let c2_i32_262 : BitVec 32 := 2#32
  let c0_i32_121 : BitVec 32 := 0#32
  let c1_i32_123 : BitVec 32 := 1#32
  let arg20 : BitVec 32 := Scf.iv c0_i32_121 c1_i32_123 k0_t2
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_296 : BitVec 32 := 8#32
  let v291 : BitVec 1 := Scalar.cmpi .sge v287 c8_i32_296
  let v292 : BitVec 32 := Scalar.extui v291
  let c0_i32_297 : BitVec 32 := 0#32
  let v293 : BitVec 1 := Scalar.cmpi .ne v292 c0_i32_297
  v293

def k0_off14 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_376 : BitVec 32 := 0#32
  let c8_i32 : BitVec 32 := 8#32
  let v15 : BitVec 32 := Scalar.muli v2 c8_i32
  let c2_i32_262 : BitVec 32 := 2#32
  let c0_i32_121 : BitVec 32 := 0#32
  let c1_i32_123 : BitVec 32 := 1#32
  let arg20 : BitVec 32 := Scf.iv c0_i32_121 c1_i32_123 k0_t2
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_370 : BitVec 32 := 8#32
  let v384 : BitVec 32 := Scalar.subi v287 c8_i32_370
  let v385 : BitVec 32 := Scalar.addi v15 v384
  let c0_i32_377 : BitVec 32 := 0#32
  ![v11.toNat, 0, v385.toNat, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let v294 : Index := Scalar.indexCast v8
  let c0_298 : Index := 0#32
  let c0_299 : Index := 0#32
  ![v294.toNat, 0, 0]
def k0_off16 (k0_t2 : Fin k0_t2_loop.trips) (c0_i32_263 : BitVec 32) : Fin 3 → Nat :=
  let c2_i32_262 : BitVec 32 := 2#32
  let c0_i32_121 : BitVec 32 := 0#32
  let c1_i32_123 : BitVec 32 := 1#32
  let arg20 : BitVec 32 := Scf.iv c0_i32_121 c1_i32_123 k0_t2
  let v264 : BitVec 32 := Scalar.muli c2_i32_262 arg20
  let v265 : BitVec 32 := Scalar.addi v264 c0_i32_263
  let v297 : Index := Scalar.indexCast v265
  let c0_300 : Index := 0#32
  let c0_301 : Index := 0#32
  ![v297.toNat, 0, 0]
def k0_off17 (k0_t2 : Fin k0_t2_loop.trips) (c0_i32_263 : BitVec 32) : Fin 3 → Nat :=
  let c2_i32_262 : BitVec 32 := 2#32
  let c0_i32_121 : BitVec 32 := 0#32
  let c1_i32_123 : BitVec 32 := 1#32
  let arg20 : BitVec 32 := Scf.iv c0_i32_121 c1_i32_123 k0_t2
  let v264 : BitVec 32 := Scalar.muli c2_i32_262 arg20
  let v265 : BitVec 32 := Scalar.addi v264 c0_i32_263
  let v316 : Index := Scalar.indexCast v265
  let c0_311 : Index := 0#32
  let c0_312 : Index := 0#32
  ![v316.toNat, 0, 0]
def k0_cond7 (k0_t2 : Fin k0_t2_loop.trips) : BitVec 1 :=
  let c2_i32_316 : BitVec 32 := 2#32
  let c0_i32_121 : BitVec 32 := 0#32
  let c1_i32_123 : BitVec 32 := 1#32
  let arg20 : BitVec 32 := Scf.iv c0_i32_121 c1_i32_123 k0_t2
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_348 : BitVec 32 := 8#32
  let v348 : BitVec 1 := Scalar.cmpi .slt v347 c8_i32_348
  let v349 : BitVec 32 := Scalar.extui v348
  let c0_i32_349 : BitVec 32 := 0#32
  let v350 : BitVec 1 := Scalar.cmpi .ne v349 c0_i32_349
  v350

def k0_off18 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_375 : BitVec 32 := 0#32
  let c8_i32 : BitVec 32 := 8#32
  let v15 : BitVec 32 := Scalar.muli v2 c8_i32
  let c2_i32_316 : BitVec 32 := 2#32
  let c0_i32_121 : BitVec 32 := 0#32
  let c1_i32_123 : BitVec 32 := 1#32
  let arg20 : BitVec 32 := Scf.iv c0_i32_121 c1_i32_123 k0_t2
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let v384 : BitVec 32 := Scalar.addi v15 v347
  let c0_i32_376 : BitVec 32 := 0#32
  ![v8.toNat, 0, v384.toNat, 0]
def k0_cond8 (k0_t2 : Fin k0_t2_loop.trips) : BitVec 1 :=
  let c2_i32_316 : BitVec 32 := 2#32
  let c0_i32_121 : BitVec 32 := 0#32
  let c1_i32_123 : BitVec 32 := 1#32
  let arg20 : BitVec 32 := Scf.iv c0_i32_121 c1_i32_123 k0_t2
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_350 : BitVec 32 := 8#32
  let v351 : BitVec 1 := Scalar.cmpi .sge v347 c8_i32_350
  let v352 : BitVec 32 := Scalar.extui v351
  let c0_i32_351 : BitVec 32 := 0#32
  let v353 : BitVec 1 := Scalar.cmpi .ne v352 c0_i32_351
  v353

def k0_off19 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_376 : BitVec 32 := 0#32
  let c8_i32 : BitVec 32 := 8#32
  let v15 : BitVec 32 := Scalar.muli v2 c8_i32
  let c2_i32_316 : BitVec 32 := 2#32
  let c0_i32_121 : BitVec 32 := 0#32
  let c1_i32_123 : BitVec 32 := 1#32
  let arg20 : BitVec 32 := Scf.iv c0_i32_121 c1_i32_123 k0_t2
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_370 : BitVec 32 := 8#32
  let v384 : BitVec 32 := Scalar.subi v347 c8_i32_370
  let v385 : BitVec 32 := Scalar.addi v15 v384
  let c0_i32_377 : BitVec 32 := 0#32
  ![v11.toNat, 0, v385.toNat, 0]
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_132 : BitVec 32 := 1#32
  let v146 : BitVec 32 := Scalar.muli v8 c1_i32_132
  let v147 : BitVec 32 := Scalar.addi c0_i32_133 v146
  v147.toNat
@[reducible] def k0_t3_loop : Scf.Loop 32 :=
  let c0_i32_147 : BitVec 32 := 0#32
  let c4_i32_148 : BitVec 32 := 4#32
  let v166 : BitVec 32 := Scalar.addi c0_i32_147 c4_i32_148
  let c1_i32_149 : BitVec 32 := 1#32
  ⟨c0_i32_147, v166, c1_i32_149⟩
def k0_cond9 (k0_t3 : Fin k0_t3_loop.trips) : BitVec 1 :=
  let c2_i32_262 : BitVec 32 := 2#32
  let c0_i32_147 : BitVec 32 := 0#32
  let c1_i32_149 : BitVec 32 := 1#32
  let arg20 : BitVec 32 := Scf.iv c0_i32_147 c1_i32_149 k0_t3
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_294 : BitVec 32 := 8#32
  let v288 : BitVec 1 := Scalar.cmpi .slt v287 c8_i32_294
  let v289 : BitVec 32 := Scalar.extui v288
  let c0_i32_295 : BitVec 32 := 0#32
  let v290 : BitVec 1 := Scalar.cmpi .ne v289 c0_i32_295
  v290

def k0_off20 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_375 : BitVec 32 := 0#32
  let c8_i32 : BitVec 32 := 8#32
  let v15 : BitVec 32 := Scalar.muli v2 c8_i32
  let c2_i32_262 : BitVec 32 := 2#32
  let c0_i32_147 : BitVec 32 := 0#32
  let c1_i32_149 : BitVec 32 := 1#32
  let arg20 : BitVec 32 := Scf.iv c0_i32_147 c1_i32_149 k0_t3
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let v384 : BitVec 32 := Scalar.addi v15 v287
  let c0_i32_376 : BitVec 32 := 0#32
  ![v11.toNat, 0, v384.toNat, 0]
def k0_cond10 (k0_t3 : Fin k0_t3_loop.trips) : BitVec 1 :=
  let c2_i32_262 : BitVec 32 := 2#32
  let c0_i32_147 : BitVec 32 := 0#32
  let c1_i32_149 : BitVec 32 := 1#32
  let arg20 : BitVec 32 := Scf.iv c0_i32_147 c1_i32_149 k0_t3
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_296 : BitVec 32 := 8#32
  let v291 : BitVec 1 := Scalar.cmpi .sge v287 c8_i32_296
  let v292 : BitVec 32 := Scalar.extui v291
  let c0_i32_297 : BitVec 32 := 0#32
  let v293 : BitVec 1 := Scalar.cmpi .ne v292 c0_i32_297
  v293

def k0_off21 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 32 := Scalar.addi v2 c1_i32_7
  let c3_i32 : BitVec 32 := 3#32
  let v13 : BitVec 32 := Scalar.addi v12 c3_i32
  let c4_i32_8 : BitVec 32 := 4#32
  let v14 : BitVec 32 := Scalar.remsi v13 c4_i32_8
  let c0_i32_376 : BitVec 32 := 0#32
  let c8_i32 : BitVec 32 := 8#32
  let v15 : BitVec 32 := Scalar.muli v2 c8_i32
  let c2_i32_262 : BitVec 32 := 2#32
  let c0_i32_147 : BitVec 32 := 0#32
  let c1_i32_149 : BitVec 32 := 1#32
  let arg20 : BitVec 32 := Scf.iv c0_i32_147 c1_i32_149 k0_t3
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_370 : BitVec 32 := 8#32
  let v384 : BitVec 32 := Scalar.subi v287 c8_i32_370
  let v385 : BitVec 32 := Scalar.addi v15 v384
  let c0_i32_377 : BitVec 32 := 0#32
  ![v14.toNat, 0, v385.toNat, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let v294 : Index := Scalar.indexCast v11
  let c0_298 : Index := 0#32
  let c0_299 : Index := 0#32
  ![v294.toNat, 0, 0]
def k0_off23 (k0_t3 : Fin k0_t3_loop.trips) (c0_i32_263 : BitVec 32) : Fin 3 → Nat :=
  let c2_i32_262 : BitVec 32 := 2#32
  let c0_i32_147 : BitVec 32 := 0#32
  let c1_i32_149 : BitVec 32 := 1#32
  let arg20 : BitVec 32 := Scf.iv c0_i32_147 c1_i32_149 k0_t3
  let v264 : BitVec 32 := Scalar.muli c2_i32_262 arg20
  let v265 : BitVec 32 := Scalar.addi v264 c0_i32_263
  let v297 : Index := Scalar.indexCast v265
  let c0_300 : Index := 0#32
  let c0_301 : Index := 0#32
  ![v297.toNat, 0, 0]
def k0_off24 (k0_t3 : Fin k0_t3_loop.trips) (c0_i32_263 : BitVec 32) : Fin 3 → Nat :=
  let c2_i32_262 : BitVec 32 := 2#32
  let c0_i32_147 : BitVec 32 := 0#32
  let c1_i32_149 : BitVec 32 := 1#32
  let arg20 : BitVec 32 := Scf.iv c0_i32_147 c1_i32_149 k0_t3
  let v264 : BitVec 32 := Scalar.muli c2_i32_262 arg20
  let v265 : BitVec 32 := Scalar.addi v264 c0_i32_263
  let v316 : Index := Scalar.indexCast v265
  let c0_311 : Index := 0#32
  let c0_312 : Index := 0#32
  ![v316.toNat, 0, 0]
def k0_cond11 (k0_t3 : Fin k0_t3_loop.trips) : BitVec 1 :=
  let c2_i32_316 : BitVec 32 := 2#32
  let c0_i32_147 : BitVec 32 := 0#32
  let c1_i32_149 : BitVec 32 := 1#32
  let arg20 : BitVec 32 := Scf.iv c0_i32_147 c1_i32_149 k0_t3
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_348 : BitVec 32 := 8#32
  let v348 : BitVec 1 := Scalar.cmpi .slt v347 c8_i32_348
  let v349 : BitVec 32 := Scalar.extui v348
  let c0_i32_349 : BitVec 32 := 0#32
  let v350 : BitVec 1 := Scalar.cmpi .ne v349 c0_i32_349
  v350

def k0_off25 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_375 : BitVec 32 := 0#32
  let c8_i32 : BitVec 32 := 8#32
  let v15 : BitVec 32 := Scalar.muli v2 c8_i32
  let c2_i32_316 : BitVec 32 := 2#32
  let c0_i32_147 : BitVec 32 := 0#32
  let c1_i32_149 : BitVec 32 := 1#32
  let arg20 : BitVec 32 := Scf.iv c0_i32_147 c1_i32_149 k0_t3
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let v384 : BitVec 32 := Scalar.addi v15 v347
  let c0_i32_376 : BitVec 32 := 0#32
  ![v11.toNat, 0, v384.toNat, 0]
def k0_cond12 (k0_t3 : Fin k0_t3_loop.trips) : BitVec 1 :=
  let c2_i32_316 : BitVec 32 := 2#32
  let c0_i32_147 : BitVec 32 := 0#32
  let c1_i32_149 : BitVec 32 := 1#32
  let arg20 : BitVec 32 := Scf.iv c0_i32_147 c1_i32_149 k0_t3
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_350 : BitVec 32 := 8#32
  let v351 : BitVec 1 := Scalar.cmpi .sge v347 c8_i32_350
  let v352 : BitVec 32 := Scalar.extui v351
  let c0_i32_351 : BitVec 32 := 0#32
  let v353 : BitVec 1 := Scalar.cmpi .ne v352 c0_i32_351
  v353

def k0_off26 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 32 := Scalar.addi v2 c1_i32_7
  let c3_i32 : BitVec 32 := 3#32
  let v13 : BitVec 32 := Scalar.addi v12 c3_i32
  let c4_i32_8 : BitVec 32 := 4#32
  let v14 : BitVec 32 := Scalar.remsi v13 c4_i32_8
  let c0_i32_376 : BitVec 32 := 0#32
  let c8_i32 : BitVec 32 := 8#32
  let v15 : BitVec 32 := Scalar.muli v2 c8_i32
  let c2_i32_316 : BitVec 32 := 2#32
  let c0_i32_147 : BitVec 32 := 0#32
  let c1_i32_149 : BitVec 32 := 1#32
  let arg20 : BitVec 32 := Scf.iv c0_i32_147 c1_i32_149 k0_t3
  let v324 : BitVec 32 := Scalar.muli c2_i32_316 arg20
  let c1_i32_317 : BitVec 32 := 1#32
  let v325 : BitVec 32 := Scalar.addi v324 c1_i32_317
  let c2_i32_347 : BitVec 32 := 2#32
  let v347 : BitVec 32 := Scalar.addi v325 c2_i32_347
  let c8_i32_370 : BitVec 32 := 8#32
  let v384 : BitVec 32 := Scalar.subi v347 c8_i32_370
  let v385 : BitVec 32 := Scalar.addi v15 v384
  let c0_i32_377 : BitVec 32 := 0#32
  ![v14.toNat, 0, v385.toNat, 0]
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_157 : BitVec 32 := 1#32
  let v172 : BitVec 32 := Scalar.muli v11 c1_i32_157
  let v173 : BitVec 32 := Scalar.addi c0_i32_158 v172
  v173.toNat
@[reducible] def k0_t4_loop : Scf.Loop 32 :=
  let c0_i32_169 : BitVec 32 := 0#32
  let c4_i32_170 : BitVec 32 := 4#32
  let v190 : BitVec 32 := Scalar.addi c0_i32_169 c4_i32_170
  let c1_i32_171 : BitVec 32 := 1#32
  ⟨c0_i32_169, v190, c1_i32_171⟩
def k0_cond13 (k0_t4 : Fin k0_t4_loop.trips) : BitVec 1 :=
  let c2_i32_262 : BitVec 32 := 2#32
  let c0_i32_169 : BitVec 32 := 0#32
  let c1_i32_171 : BitVec 32 := 1#32
  let arg20 : BitVec 32 := Scf.iv c0_i32_169 c1_i32_171 k0_t4
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let c8_i32_294 : BitVec 32 := 8#32
  let v288 : BitVec 1 := Scalar.cmpi .slt v287 c8_i32_294
  let v289 : BitVec 32 := Scalar.extui v288
  let c0_i32_295 : BitVec 32 := 0#32
  let v290 : BitVec 1 := Scalar.cmpi .ne v289 c0_i32_295
  v290

def k0_off27 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 32 := Scalar.addi v2 c1_i32_7
  let c3_i32 : BitVec 32 := 3#32
  let v13 : BitVec 32 := Scalar.addi v12 c3_i32
  let c4_i32_8 : BitVec 32 := 4#32
  let v14 : BitVec 32 := Scalar.remsi v13 c4_i32_8
  let c0_i32_371 : BitVec 32 := 0#32
  let c8_i32 : BitVec 32 := 8#32
  let v15 : BitVec 32 := Scalar.muli v2 c8_i32
  let c2_i32_262 : BitVec 32 := 2#32
  let c0_i32_169 : BitVec 32 := 0#32
  let c1_i32_171 : BitVec 32 := 1#32
  let arg20 : BitVec 32 := Scf.iv c0_i32_169 c1_i32_171 k0_t4
  let v264 : BitVec 32 := Scalar.muli c2_i32_262 arg20
  let c0_i32_263 : BitVec 32 := 0#32
  let v265 : BitVec 32 := Scalar.addi v264 c0_i32_263
  let c2_i32_293 : BitVec 32 := 2#32
  let v287 : BitVec 32 := Scalar.addi v265 c2_i32_293
  let v378 : BitVec 32 := Scalar.addi v15 v287
  let c0_i32_372 : BitVec 32 := 0#32
  ![v14.toNat, 0, v378.toNat, 0]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 32 := Scalar.addi v2 c1_i32_7
  let c3_i32 : BitVec 32 := 3#32
  let v13 : BitVec 32 := Scalar.addi v12 c3_i32
  let c4_i32_8 : BitVec 32 := 4#32
  let v14 : BitVec 32 := Scalar.remsi v13 c4_i32_8
  let v291 : Index := Scalar.indexCast v14
  let c0_296 : Index := 0#32
  let c0_297 : Index := 0#32
  ![v291.toNat, 0, 0]
def k0_off29 (k0_t4 : Fin k0_t4_loop.trips) (c0_i32_263 : BitVec 32) : Fin 3 → Nat :=
  let c2_i32_262 : BitVec 32 := 2#32
  let c0_i32_169 : BitVec 32 := 0#32
  let c1_i32_171 : BitVec 32 := 1#32
  let arg20 : BitVec 32 := Scf.iv c0_i32_169 c1_i32_171 k0_t4
  let v264 : BitVec 32 := Scalar.muli c2_i32_262 arg20
  let v265 : BitVec 32 := Scalar.addi v264 c0_i32_263
  let v294 : Index := Scalar.indexCast v265
  let c0_298 : Index := 0#32
  let c0_299 : Index := 0#32
  ![v294.toNat, 0, 0]
def k0_off30 (k0_t4 : Fin k0_t4_loop.trips) (c0_i32_263 : BitVec 32) : Fin 3 → Nat :=
  let c2_i32_262 : BitVec 32 := 2#32
  let c0_i32_169 : BitVec 32 := 0#32
  let c1_i32_171 : BitVec 32 := 1#32
  let arg20 : BitVec 32 := Scf.iv c0_i32_169 c1_i32_171 k0_t4
  let v264 : BitVec 32 := Scalar.muli c2_i32_262 arg20
  let v265 : BitVec 32 := Scalar.addi v264 c0_i32_263
  let v313 : Index := Scalar.indexCast v265
  let c0_309 : Index := 0#32
  let c0_310 : Index := 0#32
  ![v313.toNat, 0, 0]
def k0_cond14 (k0_t4 : Fin k0_t4_loop.trips) : BitVec 1 :=
  let c2_i32_314 : BitVec 32 := 2#32
  let c0_i32_169 : BitVec 32 := 0#32
  let c1_i32_171 : BitVec 32 := 1#32
  let arg20 : BitVec 32 := Scf.iv c0_i32_169 c1_i32_171 k0_t4
  let v321 : BitVec 32 := Scalar.muli c2_i32_314 arg20
  let c1_i32_315 : BitVec 32 := 1#32
  let v322 : BitVec 32 := Scalar.addi v321 c1_i32_315
  let c2_i32_345 : BitVec 32 := 2#32
  let v344 : BitVec 32 := Scalar.addi v322 c2_i32_345
  let c8_i32_346 : BitVec 32 := 8#32
  let v345 : BitVec 1 := Scalar.cmpi .slt v344 c8_i32_346
  let v346 : BitVec 32 := Scalar.extui v345
  let c0_i32_347 : BitVec 32 := 0#32
  let v347 : BitVec 1 := Scalar.cmpi .ne v346 c0_i32_347
  v347

def k0_off31 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 32 := Scalar.addi v2 c1_i32_7
  let c3_i32 : BitVec 32 := 3#32
  let v13 : BitVec 32 := Scalar.addi v12 c3_i32
  let c4_i32_8 : BitVec 32 := 4#32
  let v14 : BitVec 32 := Scalar.remsi v13 c4_i32_8
  let c0_i32_371 : BitVec 32 := 0#32
  let c8_i32 : BitVec 32 := 8#32
  let v15 : BitVec 32 := Scalar.muli v2 c8_i32
  let c2_i32_314 : BitVec 32 := 2#32
  let c0_i32_169 : BitVec 32 := 0#32
  let c1_i32_171 : BitVec 32 := 1#32
  let arg20 : BitVec 32 := Scf.iv c0_i32_169 c1_i32_171 k0_t4
  let v321 : BitVec 32 := Scalar.muli c2_i32_314 arg20
  let c1_i32_315 : BitVec 32 := 1#32
  let v322 : BitVec 32 := Scalar.addi v321 c1_i32_315
  let c2_i32_345 : BitVec 32 := 2#32
  let v344 : BitVec 32 := Scalar.addi v322 c2_i32_345
  let v378 : BitVec 32 := Scalar.addi v15 v344
  let c0_i32_372 : BitVec 32 := 0#32
  ![v14.toNat, 0, v378.toNat, 0]
def k0_off32 (d0 : Dev nD) (c0_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let v216 : Index := Scalar.indexCast v5
  let c0_202 : Index := 0#32
  let c0_203 : Index := 0#32
  ![v216.toNat, 0, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x1024 : Shape := ⟨3, ![4, 512, 1024]⟩
abbrev S1024x4096 : Shape := ⟨2, ![1024, 4096]⟩
abbrev S4096x1024 : Shape := ⟨2, ![4096, 1024]⟩
abbrev S4x2048x32x128 : Shape := ⟨4, ![4, 2048, 32, 128]⟩
abbrev S4x512x4096 : Shape := ⟨3, ![4, 512, 4096]⟩
abbrev S4x512x32x128 : Shape := ⟨4, ![4, 512, 32, 128]⟩
abbrev S_ : Shape := ⟨0, ![]⟩
abbrev S4x32x512x1 : Shape := ⟨4, ![4, 32, 512, 1]⟩
abbrev S4x1024x32x128 : Shape := ⟨4, ![4, 1024, 32, 128]⟩
abbrev S4x32x512x1024 : Shape := ⟨4, ![4, 32, 512, 1024]⟩
abbrev S4x32x512 : Shape := ⟨3, ![4, 32, 512]⟩
abbrev S4x512x32x1 : Shape := ⟨4, ![4, 512, 32, 1]⟩
abbrev S4x32x128x512 : Shape := ⟨4, ![4, 32, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S1024x4096, .f32⟩
  | .hbm, ⟨2, _⟩ => ⟨S4096x1024, .f32⟩
  | .hbm, ⟨3, _⟩ => ⟨S4x2048x32x128, .f32⟩
  | .hbm, ⟨4, _⟩ => ⟨S4x2048x32x128, .f32⟩
  | .hbm, ⟨5, _⟩ => ⟨S4x512x4096, .f32⟩
  | .hbm, ⟨6, _⟩ => ⟨S4x512x32x128, .f32⟩
  | .hbm, ⟨7, _⟩ => ⟨S_, .f32⟩
  | .hbm, ⟨8, _⟩ => ⟨S4x512x32x128, .f32⟩
  | .hbm, ⟨9, _⟩ => ⟨S_, .f32⟩
  | .hbm, ⟨10, _⟩ => ⟨S4x32x512x1, .f32⟩
  | .hbm, ⟨11, _⟩ => ⟨S_, .f32⟩
  | .hbm, ⟨12, _⟩ => ⟨S4x32x512x1, .f32⟩
  | .hbm, ⟨13, _⟩ => ⟨S4x1024x32x128, .f32⟩
  | .hbm, ⟨14, _⟩ => ⟨S4x1024x32x128, .f32⟩
  | .hbm, ⟨15, _⟩ => ⟨S4x32x512x1024, .f32⟩
  | .hbm, ⟨16, _⟩ => ⟨S_, .f32⟩
  | .hbm, ⟨17, _⟩ => ⟨S4x32x512x1024, .f32⟩
  | .hbm, ⟨18, _⟩ => ⟨S4x32x512x1024, .f32⟩
  | .hbm, ⟨19, _⟩ => ⟨S_, .f32⟩
  | .hbm, ⟨20, _⟩ => ⟨S4x32x512, .f32⟩
  | .hbm, ⟨21, _⟩ => ⟨S4x32x512x1, .f32⟩
  | .hbm, ⟨22, _⟩ => ⟨S4x32x512x1, .f32⟩
  | .hbm, ⟨23, _⟩ => ⟨S4x32x512x1, .f32⟩
  | .hbm, ⟨24, _⟩ => ⟨S4x32x512x1, .f32⟩
  | .hbm, ⟨25, _⟩ => ⟨S4x32x512x1024, .f32⟩
  | .hbm, ⟨26, _⟩ => ⟨S4x32x512x1024, .f32⟩
  | .hbm, ⟨27, _⟩ => ⟨S4x32x512x1024, .f32⟩
  | .hbm, ⟨28, _⟩ => ⟨S4x32x512x1, .f32⟩
  | .hbm, ⟨29, _⟩ => ⟨S_, .f32⟩
  | .hbm, ⟨30, _⟩ => ⟨S4x32x512, .f32⟩
  | .hbm, ⟨31, _⟩ => ⟨S4x32x512x1, .f32⟩
  | .hbm, ⟨32, _⟩ => ⟨S4x32x512x1, .f32⟩
  | .hbm, ⟨33, _⟩ => ⟨S4x512x32x1, .f32⟩
  | .hbm, ⟨34, _⟩ => ⟨S4x512x32x128, .f32⟩
  | .hbm, ⟨35, _⟩ => ⟨S4x512x32x128, .f32⟩
  | .hbm, ⟨36, _⟩ => ⟨S4x32x128x512, .f32⟩
  | .hbm, ⟨37, _⟩ => ⟨S4x512x32x128, .f32⟩
  | .hbm, ⟨38, _⟩ => ⟨S4x512x32x128, .f32⟩
  | .hbm, ⟨39, _⟩ => ⟨S4x1024x32x128, .f32⟩
  | .hbm, ⟨40, _⟩ => ⟨S4x1024x32x128, .f32⟩
  | .hbm, ⟨41, _⟩ => ⟨S4x32x512x1024, .f32⟩
  | .hbm, ⟨42, _⟩ => ⟨S_, .f32⟩
  | .hbm, ⟨43, _⟩ => ⟨S4x32x512x1024, .f32⟩
  | .hbm, ⟨44, _⟩ => ⟨S4x32x512x1024, .f32⟩
  | .hbm, ⟨45, _⟩ => ⟨S_, .f32⟩
  | .hbm, ⟨46, _⟩ => ⟨S4x32x512, .f32⟩
  | .hbm, ⟨47, _⟩ => ⟨S4x32x512x1, .f32⟩
  | .hbm, ⟨48, _⟩ => ⟨S4x32x512x1, .f32⟩
  | .hbm, ⟨49, _⟩ => ⟨S4x32x512x1, .f32⟩
  | .hbm, ⟨50, _⟩ => ⟨S4x32x512x1, .f32⟩
  | .hbm, ⟨51, _⟩ => ⟨S4x32x512x1024, .f32⟩
  | .hbm, ⟨52, _⟩ => ⟨S4x32x512x1024, .f32⟩
  | .hbm, ⟨53, _⟩ => ⟨S4x32x512x1024, .f32⟩
  | .hbm, ⟨54, _⟩ => ⟨S4x32x512x1, .f32⟩
  | .hbm, ⟨55, _⟩ => ⟨S_, .f32⟩
  | .hbm, ⟨56, _⟩ => ⟨S4x32x512, .f32⟩
  | .hbm, ⟨57, _⟩ => ⟨S4x32x512x1, .f32⟩
  | .hbm, ⟨58, _⟩ => ⟨S4x32x512x1, .f32⟩
  | .hbm, ⟨59, _⟩ => ⟨S4x512x32x1, .f32⟩
  | .hbm, ⟨60, _⟩ => ⟨S4x512x32x128, .f32⟩
  | .hbm, ⟨61, _⟩ => ⟨S4x512x32x128, .f32⟩
  | .hbm, ⟨62, _⟩ => ⟨S4x32x128x512, .f32⟩
  | .hbm, ⟨63, _⟩ => ⟨S4x512x32x128, .f32⟩
  | .hbm, ⟨64, _⟩ => ⟨S4x512x32x128, .f32⟩
  | .hbm, ⟨65, _⟩ => ⟨S4x512x32x1, .f32⟩
  | .hbm, ⟨66, _⟩ => ⟨S4x512x32x128, .f32⟩
  | .hbm, ⟨67, _⟩ => ⟨S4x512x32x128, .f32⟩
  | .hbm, ⟨68, _⟩ => ⟨S4x512x4096, .f32⟩
  | .hbm, ⟨69, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.KGeo.lean ====
module

public import proofs.«01_k».proof.Proof.Gen.KernelIdeal
public import proofs.«01_k».proof.Proof.Gen.KernelIdeal.Points
public import proofs.«01_k».proof.Proof.Gen.KernelIdeal.Skeleton

@[expose] public section

noncomputable section

namespace Cert.KernelIdeal

open Idealize.ShloMosaic Idealize.ShloMosaic.TcCoe

/-! ## The ring of four devices -/

/-- The device `k + 1` places on from `d` round the ring of four (`k = 3` is `d` itself). -/
def pr (k : ℕ) (d : Dev nD) : Dev nD := ⟨(d.val + 1 + k) % 4, Nat.mod_lt _ (by decide)⟩

theorem pr_three (d : Dev nD) : pr 3 d = d := by revert d; decide

/-- Going `k + 1` and then `4 - (k + 1)` places on comes back. -/
theorem pr_rev (k : Fin 3) (d : Dev nD) : pr (Fin.rev k).val (pr k.val d) = d := by revert k d; decide

theorem pr_rev' (k : Fin 3) (d : Dev nD) : pr k.val (pr (Fin.rev k).val d) = d := by revert k d; decide

theorem pr_ne (k : Fin 3) (d : Dev nD) : pr k.val d ≠ d := by revert k d; decide

/-! ## The program's offsets and device numbers, in closed form -/

theorem off1_eq (d : Dev nD) (s : Fin 2) : k0_off1 d (BitVec.ofNat 32 s.val) = ![(pr 0 d).val, 0, 8 * d.val + s.val, 0] := by
  revert d s; decide
theorem off2_eq (d : Dev nD) : k0_off2 d = ![d.val] := by revert d; decide
theorem off3_eq (d : Dev nD) : k0_off3 d = ![d.val, 0, 0] := by revert d; decide
theorem off4_eq (d : Dev nD) (k : Fin 3) : k0_off4 d (BitVec.ofNat 32 k.val) = ![(pr k.val d).val] := by revert d k; decide
theorem off5_eq (d : Dev nD) (k : Fin 3) : k0_off5 d (BitVec.ofNat 32 k.val) = ![(pr k.val d).val, 0, 0] := by revert d k; decide
theorem off32_eq (d : Dev nD) (k : Fin 3) : k0_off32 d (BitVec.ofNat 32 k.val) = ![(pr k.val d).val, 0, 0] := by revert d k; decide
theorem dev1_eq (d : Dev nD) : k0_dev1 d = (pr 0 d).val := by revert d; decide
theorem dev2_eq (d : Dev nD) : k0_dev2 d = (pr 1 d).val := by revert d; decide
theorem dev3_eq (d : Dev nD) : k0_dev3 d = (pr 2 d).val := by revert d; decide
theorem dev4_eq (d : Dev nD) : k0_dev4 d = (pr 0 d).val := by revert d; decide
theorem dev5_eq (d : Dev nD) : k0_dev5 d = (pr 1 d).val := by revert d; decide
theorem dev6_eq (d : Dev nD) : k0_dev6 d = (pr 2 d).val := by revert d; decide
theorem dev7_eq (d : Dev nD) : k0_dev7 d = (pr 0 d).val := by revert d; decide
theorem dev8_eq (d : Dev nD) : k0_dev8 d = (pr 1 d).val := by revert d; decide
theorem dev9_eq (d : Dev nD) : k0_dev9 d = (pr 2 d).val := by revert d; decide

/-! The loops' offsets, at trip `t`. -/
theorem cond1_iff (t : Fin k0_t1_loop.trips) : k0_cond1 t = 1#1 ↔ t.val < 3 := by revert t; decide
theorem cond2_iff (t : Fin k0_t1_loop.trips) : k0_cond2 t = 1#1 ↔ ¬ t.val < 3 := by revert t; decide
theorem cond3_iff (t : Fin k0_t1_loop.trips) : k0_cond3 t = 1#1 ↔ t.val < 3 := by revert t; decide
theorem cond4_iff (t : Fin k0_t1_loop.trips) : k0_cond4 t = 1#1 ↔ ¬ t.val < 3 := by revert t; decide
theorem cond5_iff (t : Fin k0_t2_loop.trips) : k0_cond5 t = 1#1 ↔ t.val < 3 := by revert t; decide
theorem cond6_iff (t : Fin k0_t2_loop.trips) : k0_cond6 t = 1#1 ↔ ¬ t.val < 3 := by revert t; decide
theorem cond7_iff (t : Fin k0_t2_loop.trips) : k0_cond7 t = 1#1 ↔ t.val < 3 := by revert t; decide
theorem cond8_iff (t : Fin k0_t2_loop.trips) : k0_cond8 t = 1#1 ↔ ¬ t.val < 3 := by revert t; decide
theorem cond9_iff (t : Fin k0_t3_loop.trips) : k0_cond9 t = 1#1 ↔ t.val < 3 := by revert t; decide
theorem cond10_iff (t : Fin k0_t3_loop.trips) : k0_cond10 t = 1#1 ↔ ¬ t.val < 3 := by revert t; decide
theorem cond11_iff (t : Fin k0_t3_loop.trips) : k0_cond11 t = 1#1 ↔ t.val < 3 := by revert t; decide
theorem cond12_iff (t : Fin k0_t3_loop.trips) : k0_cond12 t = 1#1 ↔ ¬ t.val < 3 := by revert t; decide
theorem cond13_iff (t : Fin k0_t4_loop.trips) : k0_cond13 t = 1#1 ↔ t.val < 3 := by revert t; decide
theorem cond14_iff (t : Fin k0_t4_loop.trips) : k0_cond14 t = 1#1 ↔ t.val < 3 := by revert t; decide

theorem off6_eq (d : Dev nD) (t : Fin k0_t1_loop.trips) : t.val < 3 → k0_off6 d t = ![(pr 0 d).val, 0, 8 * d.val + 2 * (t.val + 1), 0] := by
  revert d t; decide
theorem off7_eq (d : Dev nD) (t : Fin k0_t1_loop.trips) : ¬ t.val < 3 → k0_off7 d t = ![(pr 1 d).val, 0, 8 * d.val, 0] := by
  revert d t; decide
theorem off11_eq (d : Dev nD) (t : Fin k0_t1_loop.trips) : t.val < 3 → k0_off11 d t = ![(pr 0 d).val, 0, 8 * d.val + 2 * (t.val + 1) + 1, 0] := by
  revert d t; decide
theorem off12_eq (d : Dev nD) (t : Fin k0_t1_loop.trips) : ¬ t.val < 3 → k0_off12 d t = ![(pr 1 d).val, 0, 8 * d.val + 1, 0] := by
  revert d t; decide
theorem off13_eq (d : Dev nD) (t : Fin k0_t2_loop.trips) : t.val < 3 → k0_off13 d t = ![(pr 1 d).val, 0, 8 * d.val + 2 * (t.val + 1), 0] := by
  revert d t; decide
theorem off14_eq (d : Dev nD) (t : Fin k0_t2_loop.trips) : ¬ t.val < 3 → k0_off14 d t = ![(pr 2 d).val, 0, 8 * d.val, 0] := by
  revert d t; decide
theorem off18_eq (d : Dev nD) (t : Fin k0_t2_loop.trips) : t.val < 3 → k0_off18 d t = ![(pr 1 d).val, 0, 8 * d.val + 2 * (t.val + 1) + 1, 0] := by
  revert d t; decide
theorem off19_eq (d : Dev nD) (t : Fin k0_t2_loop.trips) : ¬ t.val < 3 → k0_off19 d t = ![(pr 2 d).val, 0, 8 * d.val + 1, 0] := by
  revert d t; decide
theorem off20_eq (d : Dev nD) (t : Fin k0_t3_loop.trips) : t.val < 3 → k0_off20 d t = ![(pr 2 d).val, 0, 8 * d.val + 2 * (t.val + 1), 0] := by
  revert d t; decide
theorem off21_eq (d : Dev nD) (t : Fin k0_t3_loop.trips) : ¬ t.val < 3 → k0_off21 d t = ![(pr 3 d).val, 0, 8 * d.val, 0] := by
  revert d t; decide
theorem off25_eq (d : Dev nD) (t : Fin k0_t3_loop.trips) : t.val < 3 → k0_off25 d t = ![(pr 2 d).val, 0, 8 * d.val + 2 * (t.val + 1) + 1, 0] := by
  revert d t; decide
theorem off26_eq (d : Dev nD) (t : Fin k0_t3_loop.trips) : ¬ t.val < 3 → k0_off26 d t = ![(pr 3 d).val, 0, 8 * d.val + 1, 0] := by
  revert d t; decide
theorem off27_eq (d : Dev nD) (t : Fin k0_t4_loop.trips) : t.val < 3 → k0_off27 d t = ![(pr 3 d).val, 0, 8 * d.val + 2 * (t.val + 1), 0] := by
  revert d t; decide
theorem off31_eq (d : Dev nD) (t : Fin k0_t4_loop.trips) : t.val < 3 → k0_off31 d t = ![(pr 3 d).val, 0, 8 * d.val + 2 * (t.val + 1) + 1, 0] := by
  revert d t; decide
theorem off8_eq (d : Dev nD) : k0_off8 d = ![(pr 0 d).val, 0, 0] := by revert d; decide
theorem off15_eq (d : Dev nD) : k0_off15 d = ![(pr 1 d).val, 0, 0] := by revert d; decide
theorem off22_eq (d : Dev nD) : k0_off22 d = ![(pr 2 d).val, 0, 0] := by revert d; decide
theorem off28_eq (d : Dev nD) : k0_off28 d = ![(pr 3 d).val, 0, 0] := by revert d; decide
theorem off9_eq (t : Fin k0_t1_loop.trips) (s : Fin 2) : k0_off9 t (BitVec.ofNat 32 s.val) = ![2 * t.val + s.val, 0, 0] := by revert t s; decide
theorem off10_eq (t : Fin k0_t1_loop.trips) (s : Fin 2) : k0_off10 t (BitVec.ofNat 32 s.val) = ![2 * t.val + s.val, 0, 0] := by revert t s; decide
theorem off16_eq (t : Fin k0_t2_loop.trips) (s : Fin 2) : k0_off16 t (BitVec.ofNat 32 s.val) = ![2 * t.val + s.val, 0, 0] := by revert t s; decide
theorem off17_eq (t : Fin k0_t2_loop.trips) (s : Fin 2) : k0_off17 t (BitVec.ofNat 32 s.val) = ![2 * t.val + s.val, 0, 0] := by revert t s; decide
theorem off23_eq (t : Fin k0_t3_loop.trips) (s : Fin 2) : k0_off23 t (BitVec.ofNat 32 s.val) = ![2 * t.val + s.val, 0, 0] := by revert t s; decide
theorem off24_eq (t : Fin k0_t3_loop.trips) (s : Fin 2) : k0_off24 t (BitVec.ofNat 32 s.val) = ![2 * t.val + s.val, 0, 0] := by revert t s; decide
theorem off29_eq (t : Fin k0_t4_loop.trips) (s : Fin 2) : k0_off29 t (BitVec.ofNat 32 s.val) = ![2 * t.val + s.val, 0, 0] := by revert t s; decide
theorem off30_eq (t : Fin k0_t4_loop.trips) (s : Fin 2) : k0_off30 t (BitVec.ofNat 32 s.val) = ![2 * t.val + s.val, 0, 0] := by revert t s; decide

end Cert.KernelIdeal

end

end
-- ==== Proof.KFly.lean ====
module

public import proofs.«01_k».proof.Proof.KGeo
public import proofs.«01_k».proof.Proof.Gen.KernelIdeal.Launch
public import proofs.«01_k».proof.Proof.Gen.KernelIdeal.Loops
public import Idealize.ShloMosaic.Lib.Pipeline.KitQuiescent
public import Idealize.ShloMosaic.Lib.Transfers
public import Idealize.ShloMosaic.Lib.ViewIndex
public import Idealize.ShloMosaic.Lib.Tactic

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, and the counters of a core's own copies -/

abbrev UU : Type := UR sig nD τ × (URounds (GSem nD τ sig) (Fin 3) × Counters)
local notation "𝕄" => MT nD τ sig Unit (Elt F) ℕ UU ℕ
abbrev 𝒱₀ : Variants := Variants.none

/-! ## The two slots of a staging buffer, the blocks they stage, and their semaphores -/

theorem kr_inb (s : Fin 2) : ∀ a, (![s.val, 0, 0, 0] : Fin 4 → ℕ) a + S1x2048x1x128.size a ≤ S2x2048x1x128.size a := by
  revert s; decide
theorem sem2_inb (s : Fin 2) : ∀ a, (![s.val] : Fin 1 → ℕ) a + S1.size a ≤ S2.size a := by
  revert s; decide

/-- Slot `s` of a two-slot staging buffer. -/
abbrev kr (s : Fin 2) : Rect S2x2048x1x128 := Rect.unit (s := S2x2048x1x128) ![s.val, 0, 0, 0] S1x2048x1x128.size (kr_inb s)
/-- One head of one batch of the cache, by its offset. -/
abbrev sr (o : Fin 4 → ℕ) (h : ∀ a, o a + S1x2048x1x128.size a ≤ S4x2048x32x128.size a) : Rect S4x2048x32x128 :=
  Rect.unit (s := S4x2048x32x128) o S1x2048x1x128.size h

abbrev slotM (B : Memref sig .tc .vmem S2x2048x1x128 .f32) (s : Fin 2) : Memref sig .tc .vmem S2048x1x128 .f32 :=
  (B.slice (kr s) (fun _ => rfl)).squeeze S2048x1x128 squeezes_S1x2048x1x128_S2048x1x128
abbrev srcM (M : Memref sig .tc .hbm S4x2048x32x128 .f32) (o : Fin 4 → ℕ) (h : ∀ a, o a + S1x2048x1x128.size a ≤ S4x2048x32x128.size a) :
    Memref sig .tc .hbm S2048x1x128 .f32 :=
  (M.slice (sr o h) (fun _ => rfl)).squeeze S2048x1x128 squeezes_S1x2048x1x128_S2048x1x128
abbrev semOf (A : DmaSems sig S2) (s : Fin 2) : DmaSem sig :=
  ((A.slice (Rect.unit (s := S2) ![s.val] S1.size (sem2_inb s))).squeeze S_ squeezes_S1_S_).sem

section Fly

variable (c : Dev nD) (B : Memref sig .tc .vmem S2x2048x1x128 .f32) (M : Memref sig .tc .hbm S4x2048x32x128 .f32)
  (sm : DmaSem sig) (s : Fin 2) (q : PosShare TreeShare)

/-- Slot `s` of `B` holds the block `w`. -/
def slotAt (w : S1x2048x1x128.Idx → Elt F .f32) : sProp 𝕄 :=
  iprop(∃ f, ⌜(B.access (kr s)).read (Elt F) f = w⌝ ∗ ((B.access (kr s)).loc (c : Thread nD τ) ↦[(B.access (kr s)).set]{fullShare} f))

/-- The block of the cache at offset `o`. -/
abbrev blk (o : Fin 4 → ℕ) (h : ∀ a, o a + S1x2048x1x128.size a ≤ S4x2048x32x128.size a) (fM : Buf (Elt F) (M.view.loc (c : Thread nD τ))) :
    S1x2048x1x128.Idx → Elt F .f32 :=
  (M.access (sr o h)).read (Elt F) fM

/-- A copy under way of the block at `o` into slot `s`, with the rest of the array lent to it. -/
def fly (o : Fin 4 → ℕ) (h : ∀ a, o a + S1x2048x1x128.size a ≤ S4x2048x32x128.size a) (fM : Buf (Elt F) (M.view.loc (c : Thread nD τ))) : sProp 𝕄 :=
  iprop(Transfers.Flight countersEmb (c : Thread nD τ) (SemLoc.dma sm) () (slotM B s).view.dmaCredit
      iprop(slotAt c B s (blk c M o h fM) ∗ (M.view.loc (c : Thread nD τ) ↦[(M.access (sr o h)).set]{q} fM))
    ∗ (M.view.loc (c : Thread nD τ) ↦[Finset.univ \ (M.access (sr o h)).set]{q} fM))

/-- The slice of the buffer a copy has landed in reads what was copied. -/
theorem read_landed (v : View sig .tc .vmem S1x2048x1x128 .f32) (u : View sig .tc .hbm S1x2048x1x128 .f32)
    (f : v.ty.Contents (Elt F)) (g : u.ty.Contents (Elt F)) (h : S2048x1x128.numel = S1x2048x1x128.numel) :
    v.read (Elt F) ((v.reshape S2048x1x128 h).write (Elt F) f ((u.reshape S2048x1x128 h).read (Elt F) g) Finset.univ) = u.read (Elt F) g := by
  funext x
  obtain ⟨y, rfl⟩ := (Shape.reshapeEquiv h).surjective x
  rw [View.read_write_reshape]
  rfl

theorem wp_issue {α : Type} {Q : α → sProp 𝕄} (o : Fin 4 → ℕ) (h : ∀ a, o a + S1x2048x1x128.size a ≤ S4x2048x32x128.size a)
    (fM : Buf (Elt F) (M.view.loc (c : Thread nD τ))) {w : S1x2048x1x128.Idx → Elt F .f32} {h1 h2 h3}
    {k : PUnit → Prog (TpuEff nD τ sig (Elt F) Λ₀ .tc) α} :
    iprop(slotAt c B s w ∗ semVal ((c : Thread nD τ), SemLoc.dma sm) 0 ∗ (M.view.loc (c : Thread nD τ) ↦{q} fM))
      ⊢ iprop((fly c B M sm s q o h fM -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (srcM M o h) (.here (slotM B s)) (.dma sm) h1 h2 h3) k) Q) := by
  unfold slotAt
  iintro ⟨⟨%f, -, Hs⟩, Hv, HM⟩ Hk
  ihave HM := (pointsTo_split_subset (Finset.subset_univ (M.access (sr o h)).set)).mp $$ HM
  icases HM with ⟨HMi, HMo⟩
  iapply (Transfers.wp_dmaLocal countersEmb 𝒱₀ (c : Thread nD τ) none () (slotM B s).view.dmaCredit rfl
    (View.dmaCredit_pos _ (by decide)) (src := srcM M o h) (dst := slotM B s) (Sd := (B.access (kr s)).set)
    (fd := f) (q := q) (fs := fM) (by rw [View.set_reshape])) $$ [Hs HMi Hv]
  · isplitl [HMi]
    · rw [View.set_reshape]; iexact HMi
    isplitl [Hs] <;> iassumption
  iintro HF
  iapply Hk
  unfold fly
  isplitl [HF]
  · iapply (Transfers.Flight_mono (EC := countersEmb) (c : Thread nD τ) ?_) $$ HF
    rw [View.set_reshape]
    iintro ⟨Hd, Hs⟩
    isplitl [Hd]
    · unfold slotAt
      iexists ((slotM B s).view.write (Elt F) f (ReadAs.same.apply ((srcM M o h).view.read (Elt F) fM)) Finset.univ)
      isplitr
      · ipureintro
        exact read_landed (B.access (kr s)) (M.access (sr o h)) f fM (squeezes_S1x2048x1x128_S2048x1x128).numel_eq
      · iexact Hd
    · iexact Hs
  · iexact HMo

theorem wp_land {α : Type} {Q : α → sProp 𝕄} (o : Fin 4 → ℕ) (h : ∀ a, o a + S1x2048x1x128.size a ≤ S4x2048x32x128.size a)
    (fM : Buf (Elt F) (M.view.loc (c : Thread nD τ))) {srcw : Memref sig .tc .hbm S2048x1x128 .f32} {h1 h2}
    {O : CellTallies nD τ sig Unit} {W : Waits sig Unit} {P : sProp 𝕄} (hP : P ⊢ MayWait (c : Thread nD τ) (.dma sm) () O)
    {k : PUnit → Prog (TpuEff nD τ sig (Elt F) Λ₀ .tc) α} :
    iprop(fly c B M sm s q o h fM ∗ owes (c : Thread nD τ) O W ∗ P)
      ⊢ iprop((iprop(slotAt c B s (blk c M o h fM) ∗ semVal ((c : Thread nD τ), SemLoc.dma sm) 0 ∗ (M.view.loc (c : Thread nD τ) ↦{q} fM)
              ∗ owes (c : Thread nD τ) O (insert (SemLoc.dma sm, ()) W))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 sm srcw (slotM B s) h1 h2) k) Q) := by
  unfold fly
  iintro ⟨⟨HF, HMo⟩, HO, HP⟩ Hk
  iapply (Transfers.wp_waitLocalO countersEmb 𝒱₀ (c : Thread nD τ) none (dstw := slotM B s) () rfl) $$ [HF HO HP]
  · isplitl [HF]; · iexact HF
    isplitl [HO]; · iexact HO
    iapply hP $$ HP
  iintro ⟨⟨HS, HMi⟩, Hv, HO⟩
  iapply Hk
  isplitl [HS]; · iexact HS
  isplitl [Hv]; · iexact Hv
  isplitl [HMi HMo]
  · iapply (pointsTo_split_subset (Finset.subset_univ (M.access (sr o h)).set)).mpr
    isplitl [HMi] <;> iassumption
  · iexact HO

end Fly

end Cert.KernelIdeal

end

end
-- ==== Proof.KHalf.lean ====
module

public import proofs.«01_k».proof.Proof.KFly
public import Idealize.ShloMosaic.Lib.WritesUnit

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev xM : Memref sig .tc .vmem S512x1024 .bf16 := Memref.whole cc0_stg0_0
abbrev wqM : Memref sig .tc .vmem S8x1024x128 .bf16 := Memref.whole cc0_stg1_0
abbrev woM : Memref sig .tc .vmem S8x128x1024 .bf16 := Memref.whole cc0_stg2_0
abbrev oM : Memref sig .tc .vmem S1x512x1024 .f32 := Memref.whole cc0_stg3_0
abbrev KM : Memref sig .tc .hbm S4x2048x32x128 .f32 := Memref.whole main_arg3
abbrev VM : Memref sig .tc .hbm S4x2048x32x128 .f32 := Memref.whole main_arg4
abbrev xgM : Memref sig .tc .vmem S4x512x1024 .bf16 := Memref.whole cc0_scratch0
abbrev kbM : Memref sig .tc .vmem S2x2048x1x128 .f32 := Memref.whole cc0_scratch1
abbrev vbM : Memref sig .tc .vmem S2x2048x1x128 .f32 := Memref.whole cc0_scratch2
abbrev vcM : Memref sig .tc .vmem S2x2048x256 .bf16 := Memref.whole cc0_scratch3
abbrev paM : Memref sig .tc .vmem S512x1024 .f32 := Memref.whole cc0_scratch4
abbrev psM : Memref sig .tc .vmem S3x512x1024 .bf16 := Memref.whole cc0_scratch5
abbrev prM : Memref sig .tc .vmem S4x512x1024 .bf16 := Memref.whole cc0_scratch6

/-! ## The widened value block -/

theorem vrow_inb (s : Fin 2) : ∀ a, (![s.val, 0, 0] : Fin 3 → ℕ) a + S1x2048x256.size a ≤ S2x2048x256.size a := by
  revert s; decide
theorem vlow_inb (s : Fin 2) : ∀ a, (![s.val, 0, 0] : Fin 3 → ℕ) a + S1x2048x128.size a ≤ S2x2048x256.size a := by
  revert s; decide
theorem vone_inb (s : Fin 2) : ∀ a, (![s.val, 0, 128] : Fin 3 → ℕ) a + S1x2048x128.size a ≤ S2x2048x256.size a := by
  revert s; decide

/-- Slot `s` of the widened values, its first 128 columns, and its last 128. -/
abbrev vrow (s : Fin 2) : Rect S2x2048x256 := Rect.unit (s := S2x2048x256) ![s.val, 0, 0] S1x2048x256.size (vrow_inb s)
abbrev vlow (s : Fin 2) : Rect S2x2048x256 := Rect.unit (s := S2x2048x256) ![s.val, 0, 0] S1x2048x128.size (vlow_inb s)
abbrev vone (s : Fin 2) : Rect S2x2048x256 := Rect.unit (s := S2x2048x256) ![s.val, 0, 128] S1x2048x128.size (vone_inb s)

/-- Row `r`, column `j` of a `1 × 2048 × 128` block. -/
def ix128 (r : Fin 2048) (j : Fin 128) : S1x2048x128.Idx := fun a => match a with
  | ⟨0, _⟩ => (⟨0, Nat.one_pos⟩ : Fin 1)
  | ⟨1, _⟩ => r
  | ⟨2, _⟩ => j

/-- The widened values: the block `w` in the first 128 columns, the fixed block (a column of ones, then zeros) in the last. -/
def wide (w : S1x2048x128.Idx → Elt F .bf16) : S1x2048x256.Idx → Elt F .bf16 := fun i =>
  if h : (i 2).val < 128 then w (ix128 (i 1) ⟨(i 2).val, h⟩)
  else k0_pay25 (F := F) (ix128 (i 1) ⟨(i 2).val - 128, by have := (i 2).isLt; change (i 2).val < 256 at this; omega⟩)

theorem ones_kept (v : View sig .tc .vmem S2x2048x256 .bf16) (f : v.ty.Contents (Elt F)) (s s' : Fin 2) (w : S1x2048x128.Idx → Elt F .bf16) :
    (v.slice (vone s')).read (Elt F) ((v.slice (vlow s)).write (Elt F) f w Finset.univ) = (v.slice (vone s')).read (Elt F) f := by
  funext x
  exact View.read_writes_cons_unit_of_not_mem v f (vlow_inb s) w [] ((vone s').emb x) rfl 2
    (Or.inr (by show 0 + 128 ≤ 128 + 1 * (x 2).val; omega))

theorem wide_read (v : View sig .tc .vmem S2x2048x256 .bf16) (f : v.ty.Contents (Elt F)) (s : Fin 2) (w : S1x2048x128.Idx → Elt F .bf16)
    (h1 : (v.slice (vone s)).read (Elt F) f = k0_pay25 (F := F)) :
    (v.slice (vrow s)).read (Elt F) ((v.slice (vlow s)).write (Elt F) f w Finset.univ) = wide w := by
  funext x
  unfold wide
  have hx0 : (x 0).val = 0 := by have : (x 0).val < 1 := (x 0).isLt; omega
  split
  · next h =>
    refine (View.read_writes_cons_unit_of_mem v f (vlow_inb s) w [] ((vrow s).emb x) (ix128 (x 1) ⟨(x 2).val, h⟩) rfl fun a => ?_)
    fin_cases a
    · show s.val + 1 * (x 0).val = s.val + 0; omega
    · show 0 + 1 * (x 1).val = 0 + (x 1).val; omega
    · show 0 + 1 * (x 2).val = 0 + (x 2).val; omega
  · next h =>
    refine (View.read_writes_cons_unit_of_not_mem v f (vlow_inb s) w [] ((vrow s).emb x) rfl 2
      (Or.inr (by show 0 + 128 ≤ 0 + 1 * (x 2).val; omega))).trans ?_
    rw [← h1]
    show v.read (Elt F) f _ = v.read (Elt F) f ((vone s).emb _)
    congr 1
    funext a
    apply Fin.ext
    fin_cases a
    · show s.val + 1 * (x 0).val = s.val + 1 * 0; omega
    · show 0 + 1 * (x 1).val = 0 + 1 * (x 1).val; omega
    · show 0 + 1 * (x 2).val = 128 + 1 * ((x 2).val - 128); omega

section Half

variable (c : Dev nD)

/-- The widened-value buffer with its fixed columns written. -/
def vcOnes : sProp 𝕄 :=
  iprop(∃ f, ⌜∀ s, (vcM.access (vone s)).read (Elt F) f = k0_pay25 (F := F)⌝ ∗ (vcM.view.loc (c : Thread nD τ) ↦{fullShare} f))
/-- The same, slot `s` holding the widened block of `w`. -/
def vcAt (s : Fin 2) (w : S1x2048x128.Idx → Elt F .bf16) : sProp 𝕄 :=
  iprop(∃ f, ⌜(∀ s, (vcM.access (vone s)).read (Elt F) f = k0_pay25 (F := F)) ∧ (vcM.access (vrow s)).read (Elt F) f = wide w⌝
    ∗ (vcM.view.loc (c : Thread nD τ) ↦{fullShare} f))

theorem vcAt_ones (s : Fin 2) (w : S1x2048x128.Idx → Elt F .bf16) : vcAt c s w ⊢ (vcOnes c : sProp 𝕄) := by
  unfold vcAt vcOnes
  iintro ⟨%f, %h, H⟩
  iexists f
  isplitr
  · ipureintro; exact h.1
  · iexact H

/-- Wait for slot `s`'s two copies, read the keys, and put the values into the widened buffer. -/
def wl (s : Fin 2) : Prog (TpuEff nD τ sig (Elt F) Λ₀ .tc) (FVec F S2048x128 .bf16) := do
  Prog.lift (.waitDma2 (semOf cc0_scratch11 s) (srcM KM ![0, 0, 0, 0] inb_S4x2048x32x128_S1x2048x1x128_0_0_0_0) (slotM kbM s)
    ((View.wordExact_bits rfl).reshape _ _) ((View.wordExact_bits rfl).reshape _ _))
  Prog.lift (.waitDma2 (semOf cc0_scratch12 s) (srcM VM ![0, 0, 0, 0] inb_S4x2048x32x128_S1x2048x1x128_0_0_0_0) (slotM vbM s)
    ((View.wordExact_bits rfl).reshape _ _) ((View.wordExact_bits rfl).reshape _ _))
  let v278 : Vec F S1x2048x1x128 .f32 ← Prog.lift (.load kbM (kr s).toLoadRect (View.loadsAt_vmem h_S1x2048x1x128))
  let v281 : Vec F S1x2048x1x128 .f32 ← Prog.lift (.load vbM (kr s).toLoadRect (View.loadsAt_vmem h_S1x2048x1x128))
  let v284 : Vec F S1x2048x128 .bf16 ← Prog.lift (.load vcM (vlow s).toLoadRect (View.loadsAt_vmem h_S1x2048x128))
  Prog.lift (.store vcM (vlow s) (k0_pay2 v281) Finset.univ (View.stores_vmem h_S1x2048x128 (by
    revert s; intro s; fin_cases s
    · exact ((Memref.isWhole_whole cc0_scratch3).storeExact_slice rfl _ packedbf16_S2x2048x256_S1x2048x128_0_0_0)
    · exact ((Memref.isWhole_whole cc0_scratch3).storeExact_slice rfl _ packedbf16_S2x2048x256_S1x2048x128_1_0_0)) (fun _ => rfl)) (.inl rfl))
  pure (k0_pay1 v278)

/-- Slot `s` idle: both copies done, the arrays back whole. -/
def idle (s : Fin 2) (q : PosShare TreeShare) (fK fV : S4x2048x32x128.Idx → Elt F .f32) : sProp 𝕄 :=
  iprop((∃ w, slotAt c kbM s w) ∗ (∃ w, slotAt c vbM s w) ∗ semVal ((c : Thread nD τ), SemLoc.dma (semOf cc0_scratch11 s)) 0
    ∗ semVal ((c : Thread nD τ), SemLoc.dma (semOf cc0_scratch12 s)) 0
    ∗ (KM.view.loc (c : Thread nD τ) ↦{q} fK) ∗ (VM.view.loc (c : Thread nD τ) ↦{q} fV))

/-- Slot `s` being filled with the block at offset `o` of the keys and of the values. -/
def fill (s : Fin 2) (q : PosShare TreeShare) (fK fV : S4x2048x32x128.Idx → Elt F .f32) (o : Fin 4 → ℕ)
    (h : ∀ a, o a + S1x2048x1x128.size a ≤ S4x2048x32x128.size a) : sProp 𝕄 :=
  iprop(fly c kbM KM (semOf cc0_scratch11 s) s q o h fK ∗ fly c vbM VM (semOf cc0_scratch12 s) s q o h fV)

theorem wp_wl {α : Type} {Q : α → sProp 𝕄} (s : Fin 2) (q : PosShare TreeShare) (fK fV : S4x2048x32x128.Idx → Elt F .f32) (o : Fin 4 → ℕ)
    (h : ∀ a, o a + S1x2048x1x128.size a ≤ S4x2048x32x128.size a) {O : CellTallies nD τ sig Unit}
    {P : sProp 𝕄} [BI.Persistent P] (hK : P ⊢ MayWait (c : Thread nD τ) (.dma (semOf cc0_scratch11 s)) () O)
    (hV : P ⊢ MayWait (c : Thread nD τ) (.dma (semOf cc0_scratch12 s)) () O)
    {k : FVec F S2048x128 .bf16 → Prog (TpuEff nD τ sig (Elt F) Λ₀ .tc) α} :
    iprop(fill c s q fK fV o h ∗ vcOnes c ∗ (∃ W, owes (c : Thread nD τ) O W) ∗ P)
      ⊢ iprop((iprop(idle c s q fK fV ∗ vcAt c s (k0_pay2 (blk c VM o h fV)) ∗ (∃ W, owes (c : Thread nD τ) O W))
            -∗ wp frame (wpE (defs₀ (F := F)) 𝒱₀ (c : Thread nD τ) none) Set.univ (k (k0_pay1 (blk c KM o h fK))) Q)
        -∗ wp frame (wpE (defs₀ (F := F)) 𝒱₀ (c : Thread nD τ) none) Set.univ (wl s >>= k) Q) := by
  unfold fill
  iintro ⟨⟨HFK, HFV⟩, Hvc, ⟨%W, HO⟩, #HP⟩ Hk
  unfold wl
  iapply (wp_land c kbM KM (semOf cc0_scratch11 s) s q o h fK hK) $$ [HFK HO]
  · isplitl [HFK]; · iexact HFK
    isplitl [HO]; · iexact HO
    iexact HP
  iintro ⟨HK, HvK, HKa, HO⟩
  iapply (wp_land c vbM VM (semOf cc0_scratch12 s) s q o h fV hV) $$ [HFV HO]
  · isplitl [HFV]; · iexact HFV
    isplitl [HO]; · iexact HO
    iexact HP
  iintro ⟨HV, HvV, HVa, HO⟩
  unfold slotAt
  icases HK with ⟨%fk, %hk, HK⟩
  icases HV with ⟨%fv, %hv, HV⟩
  unfold vcOnes
  icases Hvc with ⟨%f, %hf, Hvc⟩
  iapply (wp_load_rect 𝒱₀ (c : Thread nD τ) none Set.univ (m := kbM) (r := kr s) (Finset.Subset.refl _)) $$ HK
  iintro HK
  iapply (wp_load_rect 𝒱₀ (c : Thread nD τ) none Set.univ (m := vbM) (r := kr s) (Finset.Subset.refl _)) $$ HV
  iintro HV
  iapply (wp_load_rect 𝒱₀ (c : Thread nD τ) none Set.univ (m := vcM) (r := vlow s) (Finset.subset_univ _)) $$ Hvc
  iintro Hvc
  iapply (wp_store 𝒱₀ (c : Thread nD τ) none Set.univ (m := vcM) (r := vlow s) (Finset.subset_univ _)) $$ Hvc
  iintro Hvc
  rw [hk, hv]
  iapply Hk
  isplitl [HK HV HvK HvV HKa HVa]
  · unfold idle slotAt
    isplitl [HK]
    · iexists _, fk
      isplitr
      · ipureintro; rfl
      · iexact HK
    isplitl [HV]
    · iexists _, fv
      isplitr
      · ipureintro; rfl
      · iexact HV
    isplitl [HvK]; · iexact HvK
    isplitl [HvV]; · iexact HvV
    isplitl [HKa] <;> iassumption
  isplitl [Hvc]
  · unfold vcAt
    iexists _
    isplitr
    rotate_left
    · iexact Hvc
    · ipureintro
      exact ⟨fun s' => (ones_kept vcM.view f s s' _).trans (hf s'), wide_read vcM.view f s _ (hf s)⟩
  · iexists _; iexact HO

end Half

end Cert.KernelIdeal

end

end
-- ==== Proof.KTrip.lean ====
module

public import proofs.«01_k».proof.Proof.KHalf

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One trip of a batch's loop: two heads, one per slot -/

theorem xr_inb (b : Fin 4) : ∀ a, (![b.val, 0, 0] : Fin 3 → ℕ) a + S1x512x1024.size a ≤ S4x512x1024.size a := by
  revert b; decide
theorem wqr_inb (n : Fin 8) : ∀ a, (![n.val, 0, 0] : Fin 3 → ℕ) a + S1x1024x128.size a ≤ S8x1024x128.size a := by
  revert n; decide
theorem wor_inb (n : Fin 8) : ∀ a, (![n.val, 0, 0] : Fin 3 → ℕ) a + S1x128x1024.size a ≤ S8x128x1024.size a := by
  revert n; decide
theorem kvo_inb (b : Fin 4) (d : Fin 4) (n : ℕ) (hn : n < 8) :
    ∀ a, (![b.val, 0, 8 * d.val + n, 0] : Fin 4 → ℕ) a + S1x2048x1x128.size a ≤ S4x2048x32x128.size a := by
  intro a
  have := b.isLt; have := d.isLt
  fin_cases a
  · show b.val + 1 ≤ 4; omega
  · show 0 + 2048 ≤ 2048; omega
  · show 8 * d.val + n + 1 ≤ 32; omega
  · show 0 + 128 ≤ 128; omega

/-- Row `b` of a four-row landing buffer; head `n` of the query and of the output weights. -/
abbrev xr (b : Fin 4) : Rect S4x512x1024 := Rect.unit (s := S4x512x1024) ![b.val, 0, 0] S1x512x1024.size (xr_inb b)
abbrev wqr (n : Fin 8) : Rect S8x1024x128 := Rect.unit (s := S8x1024x128) ![n.val, 0, 0] S1x1024x128.size (wqr_inb n)
abbrev wor (n : Fin 8) : Rect S8x128x1024 := Rect.unit (s := S8x128x1024) ![n.val, 0, 0] S1x128x1024.size (wor_inb n)
/-- The whole of the accumulator. -/
abbrev par : Rect S512x1024 := Rect.unit (s := S512x1024) ![0, 0] S512x1024.size inb_S512x1024_S512x1024_0_0

/-- Start the copies of the keys and the values at offset `o` into slot `s`. -/
def issueKV (s : Fin 2) (o : Fin 4 → ℕ) (h : ∀ a, o a + S1x2048x1x128.size a ≤ S4x2048x32x128.size a) :
    Prog (TpuEff nD τ sig (Elt F) Λ₀ .tc) PUnit := do
  Prog.lift (.enqueueDma (srcM KM o h) (.here (slotM kbM s)) (.dma (semOf cc0_scratch11 s)) ((View.wordExact_bits rfl).reshape _ _) ((View.wordExact_bits rfl).reshape _ _) ⟨Or.inl rfl, trivial⟩)
  Prog.lift (.enqueueDma (srcM VM o h) (.here (slotM vbM s)) (.dma (semOf cc0_scratch12 s)) ((View.wordExact_bits rfl).reshape _ _) ((View.wordExact_bits rfl).reshape _ _) ⟨Or.inl rfl, trivial⟩)
  pure ⟨⟩

/-- Read one head's operands and compute the accumulator's next contents. -/
def comp (s : Fin 2) (xo wo oo : Fin 3 → ℕ) (hx : ∀ a, xo a + S1x512x1024.size a ≤ S4x512x1024.size a)
    (hw : ∀ a, wo a + S1x1024x128.size a ≤ S8x1024x128.size a) (ho : ∀ a, oo a + S1x128x1024.size a ≤ S8x128x1024.size a)
    (kh : FVec F S2048x128 .bf16) : Prog (TpuEff nD τ sig (Elt F) Λ₀ .tc) (FVec F S512x1024 .f32) := do
  let v295 : Vec F S1x512x1024 .bf16 ← Prog.lift (.load xgM (Rect.unit (s := S4x512x1024) xo S1x512x1024.size hx).toLoadRect (View.loadsAt_vmem h_S1x512x1024))
  let v298 : Vec F S1x1024x128 .bf16 ← Prog.lift (.load wqM (Rect.unit (s := S8x1024x128) wo S1x1024x128.size hw).toLoadRect (View.loadsAt_vmem h_S1x1024x128))
  let v307 : Vec F S1x2048x256 .bf16 ← Prog.lift (.load vcM (vrow s).toLoadRect (View.loadsAt_vmem h_S1x2048x256))
  let v315 : Vec F S512x1024 .f32 ← Prog.lift (.load paM par.toLoadRect (View.loadsAt_vmem h_S512x1024))
  let v317 : Vec F S1x128x1024 .bf16 ← Prog.lift (.load woM (Rect.unit (s := S8x128x1024) oo S1x128x1024.size ho).toLoadRect (View.loadsAt_vmem h_S1x128x1024))
  let v321 : Vec F S512x1024 .f32 ← Prog.lift (.load paM par.toLoadRect (View.loadsAt_vmem h_S512x1024))
  pure (k0_pay3 kh v295 v298 v307 v315 v317)

/-- Store the accumulator. -/
def storeAcc (v : FVec F S512x1024 .f32) : Prog (TpuEff nD τ sig (Elt F) Λ₀ .tc) PUnit :=
  Prog.lift (.store paM par v Finset.univ (View.stores_vmem_bits_univ h_S512x1024 rfl) (.inl rfl))

/-- One trip: the head in slot 0, then the head in slot 1; `r0` and `r1` refill the slots. -/
def trip (r0 r1 : Prog (TpuEff nD τ sig (Elt F) Λ₀ .tc) PUnit) (xo : Fin 3 → ℕ) (w0 o0 w1 o1 : Fin 3 → ℕ)
    (hx : ∀ a, xo a + S1x512x1024.size a ≤ S4x512x1024.size a)
    (hw0 : ∀ a, w0 a + S1x1024x128.size a ≤ S8x1024x128.size a) (ho0 : ∀ a, o0 a + S1x128x1024.size a ≤ S8x128x1024.size a)
    (hw1 : ∀ a, w1 a + S1x1024x128.size a ≤ S8x1024x128.size a) (ho1 : ∀ a, o1 a + S1x128x1024.size a ≤ S8x128x1024.size a) :
    Prog (TpuEff nD τ sig (Elt F) Λ₀ .tc) Unit :=
  wl 0 >>= fun kh => r0 >>= fun _ => comp 0 xo w0 o0 hx hw0 ho0 kh >>= fun v => storeAcc v >>= fun _ =>
  wl 1 >>= fun kh => r1 >>= fun _ => comp 1 xo w1 o1 hx hw1 ho1 kh >>= fun v => storeAcc v >>= fun _ => pure ⟨⟩

section Trip

variable (c : Dev nD)

/-- Row `b` of the gathered inputs holds `X`. -/
def xgAt (b : Fin 4) (X : S1x512x1024.Idx → Elt F .bf16) : sProp 𝕄 :=
  iprop(∃ f, ⌜(xgM.access (xr b)).read (Elt F) f = X⌝ ∗ ((xgM.access (xr b)).loc (c : Thread nD τ) ↦[(xgM.access (xr b)).set]{fullShare} f))
/-- The accumulator holds `v`. -/
def accAt (v : S512x1024.Idx → Elt F .f32) : sProp 𝕄 :=
  iprop(∃ f, ⌜(paM.access par).read (Elt F) f = v⌝ ∗ (paM.view.loc (c : Thread nD τ) ↦{fullShare} f))

theorem par_read_write (v : View sig .tc .vmem S512x1024 .f32) (f : v.ty.Contents (Elt F)) (w : S512x1024.Idx → Elt F .f32) :
    (v.slice par).read (Elt F) ((v.slice par).write (Elt F) f w Finset.univ) = w :=
  View.read_write_univ (v := v.slice par) f w

variable (qw : PosShare TreeShare) (fwq : S8x1024x128.Idx → Elt F .bf16) (fwo : S8x128x1024.Idx → Elt F .bf16)

/-- The weights in their staging buffers. -/
def wts : sProp 𝕄 := iprop((wqM.view.loc (c : Thread nD τ) ↦{qw} fwq) ∗ (woM.view.loc (c : Thread nD τ) ↦{qw} fwo))

theorem wp_issueKV {α : Type} {Q : α → sProp 𝕄} (s : Fin 2) (q : PosShare TreeShare) (fK fV : S4x2048x32x128.Idx → Elt F .f32) (o : Fin 4 → ℕ)
    (h : ∀ a, o a + S1x2048x1x128.size a ≤ S4x2048x32x128.size a) {k : PUnit → Prog (TpuEff nD τ sig (Elt F) Λ₀ .tc) α} :
    idle c s q fK fV
      ⊢ iprop((fill c s q fK fV o h -∗ wp frame (wpE (defs₀ (F := F)) 𝒱₀ (c : Thread nD τ) none) Set.univ (k ⟨⟩) Q)
        -∗ wp frame (wpE (defs₀ (F := F)) 𝒱₀ (c : Thread nD τ) none) Set.univ (issueKV s o h >>= k) Q) := by
  unfold idle issueKV
  iintro ⟨⟨%wk, Hk⟩, ⟨%wv, Hv⟩, HvK, HvV, HKa, HVa⟩ Hc
  iapply (wp_issue c kbM KM (semOf cc0_scratch11 s) s q o h fK) $$ [Hk HvK HKa]
  · isplitl [Hk]; · iexact Hk
    isplitl [HvK] <;> iassumption
  iintro HFK
  iapply (wp_issue c vbM VM (semOf cc0_scratch12 s) s q o h fV) $$ [Hv HvV HVa]
  · isplitl [Hv]; · iexact Hv
    isplitl [HvV] <;> iassumption
  iintro HFV
  iapply Hc
  unfold fill
  isplitl [HFK] <;> iassumption

theorem wp_comp {α : Type} {Q : α → sProp 𝕄} (s : Fin 2) (b : Fin 4) (n : Fin 8) (xo wo oo : Fin 3 → ℕ) (hx hw ho)
    (exo : xo = ![b.val, 0, 0]) (ewo : wo = ![n.val, 0, 0]) (eoo : oo = ![n.val, 0, 0])
    (kh : FVec F S2048x128 .bf16) (X : S1x512x1024.Idx → Elt F .bf16) (v : S512x1024.Idx → Elt F .f32)
    (vb : S1x2048x128.Idx → Elt F .bf16) {k : FVec F S512x1024 .f32 → Prog (TpuEff nD τ sig (Elt F) Λ₀ .tc) α} :
    iprop(vcAt c s vb ∗ xgAt c b X ∗ wts c qw fwq fwo ∗ accAt c v)
      ⊢ iprop((iprop(vcOnes c ∗ xgAt c b X ∗ wts c qw fwq fwo ∗ accAt c v)
            -∗ wp frame (wpE (defs₀ (F := F)) 𝒱₀ (c : Thread nD τ) none) Set.univ
                (k (k0_pay3 kh X ((wqM.access (wqr n)).read (Elt F) fwq) (wide vb) v ((woM.access (wor n)).read (Elt F) fwo))) Q)
        -∗ wp frame (wpE (defs₀ (F := F)) 𝒱₀ (c : Thread nD τ) none) Set.univ (comp s xo wo oo hx hw ho kh >>= k) Q) := by
  subst exo ewo eoo
  unfold vcAt xgAt wts accAt comp
  iintro ⟨⟨%fc, %hc, Hc⟩, ⟨%fx, %hX, Hx⟩, ⟨Hq, Ho⟩, ⟨%fa, %ha, Ha⟩⟩ Hk
  iapply (wp_load_rect 𝒱₀ (c : Thread nD τ) none Set.univ (m := xgM) (r := xr b) (Finset.Subset.refl _)) $$ Hx
  iintro Hx
  iapply (wp_load_rect 𝒱₀ (c : Thread nD τ) none Set.univ (m := wqM) (r := wqr n) (Finset.subset_univ _)) $$ Hq
  iintro Hq
  iapply (wp_load_rect 𝒱₀ (c : Thread nD τ) none Set.univ (m := vcM) (r := vrow s) (Finset.subset_univ _)) $$ Hc
  iintro Hc
  iapply (wp_load_rect 𝒱₀ (c : Thread nD τ) none Set.univ (m := paM) (r := par) (Finset.subset_univ _)) $$ Ha
  iintro Ha
  iapply (wp_load_rect 𝒱₀ (c : Thread nD τ) none Set.univ (m := woM) (r := wor n) (Finset.subset_univ _)) $$ Ho
  iintro Ho
  iapply (wp_load_rect 𝒱₀ (c : Thread nD τ) none Set.univ (m := paM) (r := par) (Finset.subset_univ _)) $$ Ha
  iintro Ha
  rw [hc.2, hX, ha]
  iapply Hk
  isplitl [Hc]
  · unfold vcOnes; iexists fc
    isplitr
    · ipureintro; exact hc.1
    · iexact Hc
  isplitl [Hx]
  · iexists fx
    isplitr
    · ipureintro; exact hX
    · iexact Hx
  isplitl [Hq Ho]
  · isplitl [Hq] <;> iassumption
  · iexists fa
    isplitr
    · ipureintro; exact ha
    · iexact Ha

theorem wp_storeAcc {α : Type} {Q : α → sProp 𝕄} (v : S512x1024.Idx → Elt F .f32) (w : FVec F S512x1024 .f32)
    {k : PUnit → Prog (TpuEff nD τ sig (Elt F) Λ₀ .tc) α} :
    accAt c v
      ⊢ iprop((accAt c w -∗ wp frame (wpE (defs₀ (F := F)) 𝒱₀ (c : Thread nD τ) none) Set.univ (k ⟨⟩) Q)
        -∗ wp frame (wpE (defs₀ (F := F)) 𝒱₀ (c : Thread nD τ) none) Set.univ (storeAcc w >>= k) Q) := by
  unfold accAt storeAcc
  iintro ⟨%f, -, H⟩ Hk
  iapply (wp_store 𝒱₀ (c : Thread nD τ) none Set.univ (m := paM) (r := par) (Finset.subset_univ _)) $$ H
  iintro H
  iapply Hk
  iexists ((paM.access par).write (Elt F) f w Finset.univ)
  isplitr
  · ipureintro; exact par_read_write paM.view f w
  · iexact H

variable (fK fV : S4x2048x32x128.Idx → Elt F .f32) (b : Fin 4) (X : S1x512x1024.Idx → Elt F .bf16)

/-- The accumulator after head `n` of batch `b` on device `c`, from what it held before. -/
def headStep (n : ℕ) (hn : n < 8) (acc : S512x1024.Idx → Elt F .f32) : S512x1024.Idx → Elt F .f32 :=
  k0_pay3 (k0_pay1 (blk c KM _ (kvo_inb b c n hn) fK)) X ((wqM.access (wqr ⟨n, hn⟩)).read (Elt F) fwq)
    (wide (k0_pay2 (blk c VM _ (kvo_inb b c n hn) fV))) acc ((woM.access (wor ⟨n, hn⟩)).read (Elt F) fwo)

/-- The accumulator after the first `n` heads. -/
def accN : ℕ → S512x1024.Idx → Elt F .f32
  | 0 => k0_pay27
  | n + 1 => if h : n < 8 then headStep c fwq fwo fK fV b X n h (accN n) else accN n

theorem accN_succ (n : ℕ) (hn : n < 8) :
    accN c fwq fwo fK fV b X (n + 1) = headStep c fwq fwo fK fV b X n hn (accN c fwq fwo fK fV b X n) := dif_pos hn

/-- Slot `s` being filled with what lies at offset `o`. -/
def fillO (s : Fin 2) (q : PosShare TreeShare) (o : Fin 4 → ℕ) : sProp 𝕄 := iprop(∃ h, fill c s q fK fV o h)

theorem wp_trip {Q : Unit → sProp 𝕄} (q : Fin 2 → PosShare TreeShare) (t : ℕ) (ht : t < 4) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    (r0 r1 : Prog (TpuEff nD τ sig (Elt F) Λ₀ .tc) PUnit) (N0 N1 : sProp 𝕄)
    (hr0 : ∀ (k : PUnit → Prog (TpuEff nD τ sig (Elt F) Λ₀ .tc) Unit),
      idle c 0 (q 0) fK fV ⊢ iprop((N0 -∗ wp frame (wpE (defs₀ (F := F)) 𝒱₀ (c : Thread nD τ) none) Set.univ (k ⟨⟩) Q)
        -∗ wp frame (wpE (defs₀ (F := F)) 𝒱₀ (c : Thread nD τ) none) Set.univ (r0 >>= k) Q))
    (hr1 : ∀ (k : PUnit → Prog (TpuEff nD τ sig (Elt F) Λ₀ .tc) Unit),
      idle c 1 (q 1) fK fV ⊢ iprop((N1 -∗ wp frame (wpE (defs₀ (F := F)) 𝒱₀ (c : Thread nD τ) none) Set.univ (k ⟨⟩) Q)
        -∗ wp frame (wpE (defs₀ (F := F)) 𝒱₀ (c : Thread nD τ) none) Set.univ (r1 >>= k) Q))
    (xo w0 o0 w1 o1 : Fin 3 → ℕ) (hx hw0 ho0 hw1 ho1)
    (exo : xo = ![b.val, 0, 0]) (ew0 : w0 = ![2 * t + 0, 0, 0]) (eo0 : o0 = ![2 * t + 0, 0, 0])
    (ew1 : w1 = ![2 * t + 1, 0, 0]) (eo1 : o1 = ![2 * t + 1, 0, 0]) :
    iprop(fillO c fK fV 0 (q 0) ![b.val, 0, 8 * c.val + 2 * t, 0] ∗ fillO c fK fV 1 (q 1) ![b.val, 0, 8 * c.val + 2 * t + 1, 0]
        ∗ vcOnes c ∗ xgAt c b X ∗ wts c qw fwq fwo ∗ accAt c (accN c fwq fwo fK fV b X (2 * t)) ∗ (∃ W, owes (c : Thread nD τ) O W) ∗ P)
      ⊢ iprop((iprop(N0 ∗ N1 ∗ vcOnes c ∗ xgAt c b X ∗ wts c qw fwq fwo ∗ accAt c (accN c fwq fwo fK fV b X (2 * (t + 1)))
            ∗ (∃ W, owes (c : Thread nD τ) O W)) -∗ Q ⟨⟩)
        -∗ wp frame (wpE (defs₀ (F := F)) 𝒱₀ (c : Thread nD τ) none) Set.univ (trip r0 r1 xo w0 o0 w1 o1 hx hw0 ho0 hw1 ho1) Q) := by
  unfold fillO trip
  iintro ⟨⟨%h0, HF0⟩, ⟨%h1, HF1⟩, Hvc, Hx, Hw, Ha, HO, #HP⟩ Hk
  iapply (wp_wl c 0 (q 0) fK fV _ h0 (hK 0) (hV 0)) $$ [HF0 Hvc HO]
  · isplitl [HF0]; · iexact HF0
    isplitl [Hvc]; · iexact Hvc
    isplitl [HO]; · iexact HO
    iexact HP
  iintro ⟨HI, Hvc, HO⟩
  iapply (hr0 _) $$ HI
  iintro HN0
  iapply (wp_comp c qw fwq fwo 0 b ⟨2 * t, by omega⟩ xo w0 o0 hx hw0 ho0 exo ew0 eo0) $$ [Hvc Hx Hw Ha]
  · isplitl [Hvc]; · iexact Hvc
    isplitl [Hx]; · iexact Hx
    isplitl [Hw]; · iexact Hw
    iexact Ha
  iintro ⟨Hvc, Hx, Hw, Ha⟩
  iapply (wp_storeAcc c _ _) $$ Ha
  iintro Ha
  iapply (wp_wl c 1 (q 1) fK fV _ h1 (hK 1) (hV 1)) $$ [HF1 Hvc HO]
  · isplitl [HF1]; · iexact HF1
    isplitl [Hvc]; · iexact Hvc
    isplitl [HO]; · iexact HO
    iexact HP
  iintro ⟨HI, Hvc, HO⟩
  iapply (hr1 _) $$ HI
  iintro HN1
  iapply (wp_comp c qw fwq fwo 1 b ⟨2 * t + 1, by omega⟩ xo w1 o1 hx hw1 ho1 exo ew1 eo1) $$ [Hvc Hx Hw Ha]
  · isplitl [Hvc]; · iexact Hvc
    isplitl [Hx]; · iexact Hx
    isplitl [Hw]; · iexact Hw
    iexact Ha
  iintro ⟨Hvc, Hx, Hw, Ha⟩
  iapply (wp_storeAcc c _ _) $$ Ha
  iintro Ha
  rw [wp_pure]
  imodintro
  iapply Hk
  isplitl [HN0]; · iexact HN0
  isplitl [HN1]; · iexact HN1
  isplitl [Hvc]; · iexact Hvc
  isplitl [Hx]; · iexact Hx
  isplitl [Hw]; · iexact Hw
  isplitl [Ha]
  · rw [show 2 * (t + 1) = (2 * t + 1) + 1 from rfl, accN_succ _ _ _ _ _ _ _ _ (by omega), accN_succ _ _ _ _ _ _ _ _ (by omega)]
    iexact Ha
  · iexact HO

end Trip

end Cert.KernelIdeal

end

end
-- ==== Proof.KRegion.lean ====
module

public import proofs.«01_k».proof.Proof.KTrip

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The regions of the four loops are trips -/

abbrev tb1 (d : Dev nD) (v5 : BitVec 32) (v8 : BitVec 32) (v15 : BitVec 32) (w : BitVec 32) (t : Fin k0_t1_loop.trips) : Prog (TpuEff nD τ sig (Elt F) Λ₀ .tc) Unit :=
  k0_t1_body (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13 d v5 v8 v15 w t ()

theorem tb1_lo (d : Dev nD) (v5 : BitVec 32) (v8 : BitVec 32) (v15 : BitVec 32) (w : BitVec 32) (t : Fin k0_t1_loop.trips) (h : t.val < 3) :
    tb1 (F := F) d v5 v8 v15 w t = trip (issueKV 0 (k0_off6 d t) (k0_off6_inb d t ((cond1_iff t).2 h))) (issueKV 1 (k0_off11 d t) (k0_off11_inb d t ((cond3_iff t).2 h)))
      (k0_off8 d) (k0_off9 t 0#32) (k0_off10 t 0#32) (k0_off9 t 1#32) (k0_off10 t 1#32)
      (k0_off8_inb d) (k0_off9_inb t 0) (k0_off10_inb t 0) (k0_off9_inb t 1) (k0_off10_inb t 1) := by
  unfold tb1 k0_t1_body k0_part2 k0_part4
  simp only [dif_pos ((cond1_iff t).2 h), dif_neg (fun e => (cond2_iff t).1 e h : ¬ k0_cond2 t = 1#1), dif_pos ((cond3_iff t).2 h), dif_neg (fun e => (cond4_iff t).1 e h : ¬ k0_cond4 t = 1#1)]
  rfl

theorem tb1_hi (d : Dev nD) (v5 : BitVec 32) (v8 : BitVec 32) (v15 : BitVec 32) (w : BitVec 32) (t : Fin k0_t1_loop.trips) (h : ¬ t.val < 3) :
    tb1 (F := F) d v5 v8 v15 w t = trip (issueKV 0 (k0_off7 d t) (k0_off7_inb d t ((cond2_iff t).2 h))) (issueKV 1 (k0_off12 d t) (k0_off12_inb d t ((cond4_iff t).2 h)))
      (k0_off8 d) (k0_off9 t 0#32) (k0_off10 t 0#32) (k0_off9 t 1#32) (k0_off10 t 1#32)
      (k0_off8_inb d) (k0_off9_inb t 0) (k0_off10_inb t 0) (k0_off9_inb t 1) (k0_off10_inb t 1) := by
  unfold tb1 k0_t1_body k0_part2 k0_part4
  simp only [dif_pos ((cond2_iff t).2 h), dif_neg (fun e => h ((cond1_iff t).1 e) : ¬ k0_cond1 t = 1#1), dif_pos ((cond4_iff t).2 h), dif_neg (fun e => h ((cond3_iff t).1 e) : ¬ k0_cond3 t = 1#1)]
  rfl

abbrev tb2 (d : Dev nD) (v5 : BitVec 32) (v8 : BitVec 32) (v15 : BitVec 32) (w : BitVec 32) (t : Fin k0_t2_loop.trips) : Prog (TpuEff nD τ sig (Elt F) Λ₀ .tc) Unit :=
  k0_t2_body (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13 d v5 v8 v15 w t ()

theorem tb2_lo (d : Dev nD) (v5 : BitVec 32) (v8 : BitVec 32) (v15 : BitVec 32) (w : BitVec 32) (t : Fin k0_t2_loop.trips) (h : t.val < 3) :
    tb2 (F := F) d v5 v8 v15 w t = trip (issueKV 0 (k0_off13 d t) (k0_off13_inb d t ((cond5_iff t).2 h))) (issueKV 1 (k0_off18 d t) (k0_off18_inb d t ((cond7_iff t).2 h)))
      (k0_off15 d) (k0_off16 t 0#32) (k0_off17 t 0#32) (k0_off16 t 1#32) (k0_off17 t 1#32)
      (k0_off15_inb d) (k0_off16_inb t 0) (k0_off17_inb t 0) (k0_off16_inb t 1) (k0_off17_inb t 1) := by
  unfold tb2 k0_t2_body k0_part6 k0_part8
  simp only [dif_pos ((cond5_iff t).2 h), dif_neg (fun e => (cond6_iff t).1 e h : ¬ k0_cond6 t = 1#1), dif_pos ((cond7_iff t).2 h), dif_neg (fun e => (cond8_iff t).1 e h : ¬ k0_cond8 t = 1#1)]
  rfl

theorem tb2_hi (d : Dev nD) (v5 : BitVec 32) (v8 : BitVec 32) (v15 : BitVec 32) (w : BitVec 32) (t : Fin k0_t2_loop.trips) (h : ¬ t.val < 3) :
    tb2 (F := F) d v5 v8 v15 w t = trip (issueKV 0 (k0_off14 d t) (k0_off14_inb d t ((cond6_iff t).2 h))) (issueKV 1 (k0_off19 d t) (k0_off19_inb d t ((cond8_iff t).2 h)))
      (k0_off15 d) (k0_off16 t 0#32) (k0_off17 t 0#32) (k0_off16 t 1#32) (k0_off17 t 1#32)
      (k0_off15_inb d) (k0_off16_inb t 0) (k0_off17_inb t 0) (k0_off16_inb t 1) (k0_off17_inb t 1) := by
  unfold tb2 k0_t2_body k0_part6 k0_part8
  simp only [dif_pos ((cond6_iff t).2 h), dif_neg (fun e => h ((cond5_iff t).1 e) : ¬ k0_cond5 t = 1#1), dif_pos ((cond8_iff t).2 h), dif_neg (fun e => h ((cond7_iff t).1 e) : ¬ k0_cond7 t = 1#1)]
  rfl

abbrev tb3 (d : Dev nD) (v8 : BitVec 32) (v11 : BitVec 32) (v15 : BitVec 32) (t : Fin k0_t3_loop.trips) : Prog (TpuEff nD τ sig (Elt F) Λ₀ .tc) Unit :=
  k0_t3_body (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13 d v8 v11 v15 t ()

theorem tb3_lo (d : Dev nD) (v8 : BitVec 32) (v11 : BitVec 32) (v15 : BitVec 32) (t : Fin k0_t3_loop.trips) (h : t.val < 3) :
    tb3 (F := F) d v8 v11 v15 t = trip (issueKV 0 (k0_off20 d t) (k0_off20_inb d t ((cond9_iff t).2 h))) (issueKV 1 (k0_off25 d t) (k0_off25_inb d t ((cond11_iff t).2 h)))
      (k0_off22 d) (k0_off23 t 0#32) (k0_off24 t 0#32) (k0_off23 t 1#32) (k0_off24 t 1#32)
      (k0_off22_inb d) (k0_off23_inb t 0) (k0_off24_inb t 0) (k0_off23_inb t 1) (k0_off24_inb t 1) := by
  unfold tb3 k0_t3_body k0_part10 k0_part12
  simp only [dif_pos ((cond9_iff t).2 h), dif_neg (fun e => (cond10_iff t).1 e h : ¬ k0_cond10 t = 1#1), dif_pos ((cond11_iff t).2 h), dif_neg (fun e => (cond12_iff t).1 e h : ¬ k0_cond12 t = 1#1)]
  rfl

theorem tb3_hi (d : Dev nD) (v8 : BitVec 32) (v11 : BitVec 32) (v15 : BitVec 32) (t : Fin k0_t3_loop.trips) (h : ¬ t.val < 3) :
    tb3 (F := F) d v8 v11 v15 t = trip (issueKV 0 (k0_off21 d t) (k0_off21_inb d t ((cond10_iff t).2 h))) (issueKV 1 (k0_off26 d t) (k0_off26_inb d t ((cond12_iff t).2 h)))
      (k0_off22 d) (k0_off23 t 0#32) (k0_off24 t 0#32) (k0_off23 t 1#32) (k0_off24 t 1#32)
      (k0_off22_inb d) (k0_off23_inb t 0) (k0_off24_inb t 0) (k0_off23_inb t 1) (k0_off24_inb t 1) := by
  unfold tb3 k0_t3_body k0_part10 k0_part12
  simp only [dif_pos ((cond10_iff t).2 h), dif_neg (fun e => h ((cond9_iff t).1 e) : ¬ k0_cond9 t = 1#1), dif_pos ((cond12_iff t).2 h), dif_neg (fun e => h ((cond11_iff t).1 e) : ¬ k0_cond11 t = 1#1)]
  rfl

abbrev tb4 (d : Dev nD) (v11 : BitVec 32) (v14 : BitVec 32) (v15 : BitVec 32) (a : Vec F S512x1024 .f32) (t : Fin k0_t4_loop.trips) : Prog (TpuEff nD τ sig (Elt F) Λ₀ .tc) Unit :=
  k0_t4_body (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13 d v11 v14 v15 a t ()

theorem tb4_lo (d : Dev nD) (v11 : BitVec 32) (v14 : BitVec 32) (v15 : BitVec 32) (a : Vec F S512x1024 .f32) (t : Fin k0_t4_loop.trips) (h : t.val < 3) :
    tb4 (F := F) d v11 v14 v15 a t = trip (issueKV 0 (k0_off27 d t) (k0_off27_inb d t ((cond13_iff t).2 h))) (issueKV 1 (k0_off31 d t) (k0_off31_inb d t ((cond14_iff t).2 h)))
      (k0_off28 d) (k0_off29 t 0#32) (k0_off30 t 0#32) (k0_off29 t 1#32) (k0_off30 t 1#32)
      (k0_off28_inb d) (k0_off29_inb t 0) (k0_off30_inb t 0) (k0_off29_inb t 1) (k0_off30_inb t 1) := by
  unfold tb4 k0_t4_body k0_part14 k0_part15
  simp only [dif_pos ((cond13_iff t).2 h), dif_pos ((cond14_iff t).2 h)]
  rfl

theorem tb4_hi (d : Dev nD) (v11 : BitVec 32) (v14 : BitVec 32) (v15 : BitVec 32) (a : Vec F S512x1024 .f32) (t : Fin k0_t4_loop.trips) (h : ¬ t.val < 3) :
    tb4 (F := F) d v11 v14 v15 a t = trip (pure ⟨⟩) (pure ⟨⟩)
      (k0_off28 d) (k0_off29 t 0#32) (k0_off30 t 0#32) (k0_off29 t 1#32) (k0_off30 t 1#32)
      (k0_off28_inb d) (k0_off29_inb t 0) (k0_off30_inb t 0) (k0_off29_inb t 1) (k0_off30_inb t 1) := by
  unfold tb4 k0_t4_body k0_part14 k0_part15
  simp only [dif_neg (fun e => h ((cond13_iff t).1 e) : ¬ k0_cond13 t = 1#1), dif_neg (fun e => h ((cond14_iff t).1 e) : ¬ k0_cond14 t = 1#1)]
  rfl

end Cert.KernelIdeal

end

end
-- ==== Proof.KLoop.lean ====
module

public import proofs.«01_k».proof.Proof.KRegion

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A batch's loop, by its invariant -/

section Loop

variable (c : Dev nD) (qw : PosShare TreeShare) (fwq : S8x1024x128.Idx → Elt F .bf16) (fwo : S8x128x1024.Idx → Elt F .bf16)
  (fK fV : S4x2048x32x128.Idx → Elt F .f32) (q : Fin 2 → PosShare TreeShare)

theorem idle_pure {α : Type} {Q : α → sProp 𝕄} (s : Fin 2) (q : PosShare TreeShare) (fK fV : S4x2048x32x128.Idx → Elt F .f32)
    {k : PUnit → Prog (TpuEff nD τ sig (Elt F) Λ₀ .tc) α} :
    idle c s q fK fV
      ⊢ iprop((idle c s q fK fV -∗ wp frame (wpE (defs₀ (F := F)) 𝒱₀ (c : Thread nD τ) none) Set.univ (k ⟨⟩) Q)
        -∗ wp frame (wpE (defs₀ (F := F)) 𝒱₀ (c : Thread nD τ) none) Set.univ (pure ⟨⟩ >>= k) Q) := by
  iintro H Hk
  iapply Hk $$ H

theorem wp_issueO {α : Type} {Q : α → sProp 𝕄} (s : Fin 2) (o o' : Fin 4 → ℕ) (e : o = o')
    (h : ∀ a, o a + S1x2048x1x128.size a ≤ S4x2048x32x128.size a) {k : PUnit → Prog (TpuEff nD τ sig (Elt F) Λ₀ .tc) α} :
    idle c s (q s) fK fV
      ⊢ iprop((fillO c fK fV s (q s) o' -∗ wp frame (wpE (defs₀ (F := F)) 𝒱₀ (c : Thread nD τ) none) Set.univ (k ⟨⟩) Q)
        -∗ wp frame (wpE (defs₀ (F := F)) 𝒱₀ (c : Thread nD τ) none) Set.univ (issueKV s o h >>= k) Q) := by
  subst e
  iintro H Hk
  iapply (wp_issueKV c s (q s) fK fV o h) $$ H
  iintro H
  iapply Hk
  unfold fillO
  iexists h
  iexact H

/-- What slot `s` holds before trip `k` of batch `b`'s loop: the head the trip works on, and `N` after the last. -/
def tslot (b : Fin 4) (N : Fin 2 → sProp 𝕄) (s : Fin 2) (k : ℕ) : sProp 𝕄 :=
  if k < 4 then fillO c fK fV s (q s) ![b.val, 0, 8 * c.val + (2 * k + s.val), 0] else N s

theorem tslot_lt (b : Fin 4) (N : Fin 2 → sProp 𝕄) (s : Fin 2) (k : ℕ) (h : k < 4) :
    tslot c fK fV q b N s k = fillO c fK fV s (q s) ![b.val, 0, 8 * c.val + (2 * k + s.val), 0] := if_pos h
theorem tslot_ge (b : Fin 4) (N : Fin 2 → sProp 𝕄) (s : Fin 2) (k : ℕ) (h : ¬ k < 4) :
    tslot c fK fV q b N s k = N s := if_neg h

/-- Before trip `k` of batch `b`'s loop. -/
def tinv (b : Fin 4) (X : S1x512x1024.Idx → Elt F .bf16) (O : CellTallies nD τ sig Unit) (N : Fin 2 → sProp 𝕄) (k : ℕ) : sProp 𝕄 :=
  iprop(tslot c fK fV q b N 0 k ∗ tslot c fK fV q b N 1 k ∗ vcOnes c ∗ xgAt c b X ∗ wts c qw fwq fwo
    ∗ accAt c (accN c fwq fwo fK fV b X (2 * k)) ∗ (∃ W, owes (c : Thread nD τ) O W))

theorem tinv_step (b : Fin 4) (X : S1x512x1024.Idx → Elt F .bf16) {O : CellTallies nD τ sig Unit} (N : Fin 2 → sProp 𝕄)
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O) (t : ℕ) (ht : t < 4)
    (r0 r1 : Prog (TpuEff nD τ sig (Elt F) Λ₀ .tc) PUnit)
    (hr0 : ∀ {Q : Unit → sProp 𝕄} (k : PUnit → Prog (TpuEff nD τ sig (Elt F) Λ₀ .tc) Unit),
      idle c 0 (q 0) fK fV ⊢ iprop((tslot c fK fV q b N 0 (t + 1) -∗ wp frame (wpE (defs₀ (F := F)) 𝒱₀ (c : Thread nD τ) none) Set.univ (k ⟨⟩) Q)
        -∗ wp frame (wpE (defs₀ (F := F)) 𝒱₀ (c : Thread nD τ) none) Set.univ (r0 >>= k) Q))
    (hr1 : ∀ {Q : Unit → sProp 𝕄} (k : PUnit → Prog (TpuEff nD τ sig (Elt F) Λ₀ .tc) Unit),
      idle c 1 (q 1) fK fV ⊢ iprop((tslot c fK fV q b N 1 (t + 1) -∗ wp frame (wpE (defs₀ (F := F)) 𝒱₀ (c : Thread nD τ) none) Set.univ (k ⟨⟩) Q)
        -∗ wp frame (wpE (defs₀ (F := F)) 𝒱₀ (c : Thread nD τ) none) Set.univ (r1 >>= k) Q))
    (xo w0 o0 w1 o1 : Fin 3 → ℕ) (hx hw0 ho0 hw1 ho1)
    (exo : xo = ![b.val, 0, 0]) (ew0 : w0 = ![2 * t + 0, 0, 0]) (eo0 : o0 = ![2 * t + 0, 0, 0])
    (ew1 : w1 = ![2 * t + 1, 0, 0]) (eo1 : o1 = ![2 * t + 1, 0, 0]) :
    iprop(tinv c qw fwq fwo fK fV q b X O N t ∗ P)
      ⊢ wp frame (wpE (defs₀ (F := F)) 𝒱₀ (c : Thread nD τ) none) Set.univ (trip r0 r1 xo w0 o0 w1 o1 hx hw0 ho0 hw1 ho1)
          (fun _ => iprop(tinv c qw fwq fwo fK fV q b X O N (t + 1) ∗ P)) := by
  have e0 : tslot c fK fV q b N 0 t = fillO c fK fV 0 (q 0) ![b.val, 0, 8 * c.val + 2 * t, 0] := if_pos ht
  have e1 : tslot c fK fV q b N 1 t = fillO c fK fV 1 (q 1) ![b.val, 0, 8 * c.val + 2 * t + 1, 0] := if_pos ht
  unfold tinv
  rw [e0, e1]
  iintro ⟨⟨H0, H1, Hv, Hx, Hw, Ha, HO⟩, #HP⟩
  iapply (wp_trip c qw fwq fwo fK fV b X q t ht hK hV r0 r1 _ _ hr0 hr1 xo w0 o0 w1 o1 hx hw0 ho0 hw1 ho1 exo ew0 eo0 ew1 eo1)
    $$ [H0 H1 Hv Hx Hw Ha HO]
  · isplitl [H0]; · iexact H0
    isplitl [H1]; · iexact H1
    isplitl [Hv]; · iexact Hv
    isplitl [Hx]; · iexact Hx
    isplitl [Hw]; · iexact Hw
    isplitl [Ha]; · iexact Ha
    isplitl [HO]; · iexact HO
    iexact HP
  iintro H
  isplitl [H]
  · iexact H
  · iexact HP

/-- The first two heads of batch `b` being fetched. -/
abbrev heads (b : Fin 4) (s : Fin 2) : sProp 𝕄 := fillO c fK fV s (q s) ![b.val, 0, 8 * c.val + s.val, 0]

theorem trips1 : Scf.trips k0_t1_loop.lb k0_t1_loop.ub k0_t1_loop.st = 4 := rfl

theorem region1 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    (v5 : BitVec 32) (v8 : BitVec 32) (v15 : BitVec 32) (w : BitVec 32) (t : Fin (Scf.trips k0_t1_loop.lb k0_t1_loop.ub k0_t1_loop.st)) (acc : Unit) :
    iprop(tinv c qw fwq fwo fK fV q (pr 0 c) X O (fun s => heads c fK fV q (pr 1 c) s) t.val ∗ P)
      ⊢ wp frame (wpE (defs₀ (F := F)) 𝒱₀ (c : Thread nD τ) none) Set.univ (tb1 c v5 v8 v15 w t)
          (fun _ => iprop(tinv c qw fwq fwo fK fV q (pr 0 c) X O (fun s => heads c fK fV q (pr 1 c) s) (t.val + 1) ∗ P)) := by
  have ht : t.val < 4 := t.isLt
  by_cases h : t.val < 3
  · rw [tb1_lo c v5 v8 v15 w t h]
    exact (tinv_step c qw fwq fwo fK fV q (pr 0 c) X (fun s => heads c fK fV q (pr 1 c) s) hK hV t.val ht _ _
      (fun k => by rw [tslot_lt _ _ _ _ _ _ _ _ (show t.val + 1 < 4 by omega)]; exact wp_issueO c fK fV q 0 _ _ (off6_eq c t h) _)
      (fun k => by rw [tslot_lt _ _ _ _ _ _ _ _ (show t.val + 1 < 4 by omega)]; exact wp_issueO c fK fV q 1 _ _ (off11_eq c t h) _)
      _ _ _ _ _ _ _ _ _ _ (off8_eq c) (off9_eq t 0) (off10_eq t 0) (off9_eq t 1) (off10_eq t 1))
  · rw [tb1_hi c v5 v8 v15 w t h]
    exact (tinv_step c qw fwq fwo fK fV q (pr 0 c) X (fun s => heads c fK fV q (pr 1 c) s) hK hV t.val ht _ _
      (fun k => by rw [tslot_ge _ _ _ _ _ _ _ _ (show ¬ t.val + 1 < 4 by omega)]; exact wp_issueO c fK fV q 0 _ _ (off7_eq c t h) _)
      (fun k => by rw [tslot_ge _ _ _ _ _ _ _ _ (show ¬ t.val + 1 < 4 by omega)]; exact wp_issueO c fK fV q 1 _ _ (off12_eq c t h) _)
      _ _ _ _ _ _ _ _ _ _ (off8_eq c) (off9_eq t 0) (off10_eq t 0) (off9_eq t 1) (off10_eq t 1))

/-- The loop of batch `pr 0 c`. -/
theorem wp_loop1 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    {α : Type} {Q : α → sProp 𝕄} (v5 : BitVec 32) (v8 : BitVec 32) (v15 : BitVec 32) (w : BitVec 32) {k : Unit → Prog (TpuEff nD τ sig (Elt F) Λ₀ .tc) α} :
    iprop(tinv c qw fwq fwo fK fV q (pr 0 c) X O (fun s => heads c fK fV q (pr 1 c) s) 0 ∗ P)
      ⊢ iprop((iprop(tinv c qw fwq fwo fK fV q (pr 0 c) X O (fun s => heads c fK fV q (pr 1 c) s) 4) -∗ wp frame (wpE (defs₀ (F := F)) 𝒱₀ (c : Thread nD τ) none) Set.univ (k ()) Q)
        -∗ wp frame (wpE (defs₀ (F := F)) 𝒱₀ (c : Thread nD τ) none) Set.univ
            (Scf.Loop.for k0_t1_loop k0_t1_ok ⟨⟩ (fun t _ => tb1 (F := F) c v5 v8 v15 w t) >>= k) Q) := by
  have step : ∀ (t : Fin (Scf.trips k0_t1_loop.lb k0_t1_loop.ub k0_t1_loop.st)) (acc : Unit), _ :=
    fun t acc => region1 c qw fwq fwo fK fV q X hK hV v5 v8 v15 w t acc
  iintro H Hk
  iapply (Scf.wp_for_bind frame (wpE (defs₀ (F := F)) 𝒱₀ (c : Thread nD τ) none) Set.univ k0_t1_loop.lb k0_t1_loop.ub k0_t1_loop.st
    k0_t1_ok () (fun t _ => tb1 (F := F) c v5 v8 v15 w t)
    (fun k _ => iprop(tinv c qw fwq fwo fK fV q (pr 0 c) X O (fun s => heads c fK fV q (pr 1 c) s) k ∗ P)) step) $$ H
  iintro %acc H
  icases H with ⟨H, -⟩
  iapply Hk
  iapply (Entails.of_eq (congrArg (tinv c qw fwq fwo fK fV q (pr 0 c) X O (fun s => heads c fK fV q (pr 1 c) s)) (trips1))) $$ H

theorem trips2 : Scf.trips k0_t2_loop.lb k0_t2_loop.ub k0_t2_loop.st = 4 := rfl

theorem region2 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    (v5 : BitVec 32) (v8 : BitVec 32) (v15 : BitVec 32) (w : BitVec 32) (t : Fin (Scf.trips k0_t2_loop.lb k0_t2_loop.ub k0_t2_loop.st)) (acc : Unit) :
    iprop(tinv c qw fwq fwo fK fV q (pr 1 c) X O (fun s => heads c fK fV q (pr 2 c) s) t.val ∗ P)
      ⊢ wp frame (wpE (defs₀ (F := F)) 𝒱₀ (c : Thread nD τ) none) Set.univ (tb2 c v5 v8 v15 w t)
          (fun _ => iprop(tinv c qw fwq fwo fK fV q (pr 1 c) X O (fun s => heads c fK fV q (pr 2 c) s) (t.val + 1) ∗ P)) := by
  have ht : t.val < 4 := t.isLt
  by_cases h : t.val < 3
  · rw [tb2_lo c v5 v8 v15 w t h]
    exact (tinv_step c qw fwq fwo fK fV q (pr 1 c) X (fun s => heads c fK fV q (pr 2 c) s) hK hV t.val ht _ _
      (fun k => by rw [tslot_lt _ _ _ _ _ _ _ _ (show t.val + 1 < 4 by omega)]; exact wp_issueO c fK fV q 0 _ _ (off13_eq c t h) _)
      (fun k => by rw [tslot_lt _ _ _ _ _ _ _ _ (show t.val + 1 < 4 by omega)]; exact wp_issueO c fK fV q 1 _ _ (off18_eq c t h) _)
      _ _ _ _ _ _ _ _ _ _ (off15_eq c) (off16_eq t 0) (off17_eq t 0) (off16_eq t 1) (off17_eq t 1))
  · rw [tb2_hi c v5 v8 v15 w t h]
    exact (tinv_step c qw fwq fwo fK fV q (pr 1 c) X (fun s => heads c fK fV q (pr 2 c) s) hK hV t.val ht _ _
      (fun k => by rw [tslot_ge _ _ _ _ _ _ _ _ (show ¬ t.val + 1 < 4 by omega)]; exact wp_issueO c fK fV q 0 _ _ (off14_eq c t h) _)
      (fun k => by rw [tslot_ge _ _ _ _ _ _ _ _ (show ¬ t.val + 1 < 4 by omega)]; exact wp_issueO c fK fV q 1 _ _ (off19_eq c t h) _)
      _ _ _ _ _ _ _ _ _ _ (off15_eq c) (off16_eq t 0) (off17_eq t 0) (off16_eq t 1) (off17_eq t 1))

/-- The loop of batch `pr 1 c`. -/
theorem wp_loop2 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    {α : Type} {Q : α → sProp 𝕄} (v5 : BitVec 32) (v8 : BitVec 32) (v15 : BitVec 32) (w : BitVec 32) {k : Unit → Prog (TpuEff nD τ sig (Elt F) Λ₀ .tc) α} :
    iprop(tinv c qw fwq fwo fK fV q (pr 1 c) X O (fun s => heads c fK fV q (pr 2 c) s) 0 ∗ P)
      ⊢ iprop((iprop(tinv c qw fwq fwo fK fV q (pr 1 c) X O (fun s => heads c fK fV q (pr 2 c) s) 4) -∗ wp frame (wpE (defs₀ (F := F)) 𝒱₀ (c : Thread nD τ) none) Set.univ (k ()) Q)
        -∗ wp frame (wpE (defs₀ (F := F)) 𝒱₀ (c : Thread nD τ) none) Set.univ
            (Scf.Loop.for k0_t2_loop k0_t2_ok ⟨⟩ (fun t _ => tb2 (F := F) c v5 v8 v15 w t) >>= k) Q) := by
  have step : ∀ (t : Fin (Scf.trips k0_t2_loop.lb k0_t2_loop.ub k0_t2_loop.st)) (acc : Unit), _ :=
    fun t acc => region2 c qw fwq fwo fK fV q X hK hV v5 v8 v15 w t acc
  iintro H Hk
  iapply (Scf.wp_for_bind frame (wpE (defs₀ (F := F)) 𝒱₀ (c : Thread nD τ) none) Set.univ k0_t2_loop.lb k0_t2_loop.ub k0_t2_loop.st
    k0_t2_ok () (fun t _ => tb2 (F := F) c v5 v8 v15 w t)
    (fun k _ => iprop(tinv c qw fwq fwo fK fV q (pr 1 c) X O (fun s => heads c fK fV q (pr 2 c) s) k ∗ P)) step) $$ H
  iintro %acc H
  icases H with ⟨H, -⟩
  iapply Hk
  iapply (Entails.of_eq (congrArg (tinv c qw fwq fwo fK fV q (pr 1 c) X O (fun s => heads c fK fV q (pr 2 c) s)) (trips2))) $$ H

theorem trips3 : Scf.trips k0_t3_loop.lb k0_t3_loop.ub k0_t3_loop.st = 4 := rfl

theorem region3 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    (v8 : BitVec 32) (v11 : BitVec 32) (v15 : BitVec 32) (t : Fin (Scf.trips k0_t3_loop.lb k0_t3_loop.ub k0_t3_loop.st)) (acc : Unit) :
    iprop(tinv c qw fwq fwo fK fV q (pr 2 c) X O (fun s => heads c fK fV q (pr 3 c) s) t.val ∗ P)
      ⊢ wp frame (wpE (defs₀ (F := F)) 𝒱₀ (c : Thread nD τ) none) Set.univ (tb3 c v8 v11 v15 t)
          (fun _ => iprop(tinv c qw fwq fwo fK fV q (pr 2 c) X O (fun s => heads c fK fV q (pr 3 c) s) (t.val + 1) ∗ P)) := by
  have ht : t.val < 4 := t.isLt
  by_cases h : t.val < 3
  · rw [tb3_lo c v8 v11 v15 t h]
    exact (tinv_step c qw fwq fwo fK fV q (pr 2 c) X (fun s => heads c fK fV q (pr 3 c) s) hK hV t.val ht _ _
      (fun k => by rw [tslot_lt _ _ _ _ _ _ _ _ (show t.val + 1 < 4 by omega)]; exact wp_issueO c fK fV q 0 _ _ (off20_eq c t h) _)
      (fun k => by rw [tslot_lt _ _ _ _ _ _ _ _ (show t.val + 1 < 4 by omega)]; exact wp_issueO c fK fV q 1 _ _ (off25_eq c t h) _)
      _ _ _ _ _ _ _ _ _ _ (off22_eq c) (off23_eq t 0) (off24_eq t 0) (off23_eq t 1) (off24_eq t 1))
  · rw [tb3_hi c v8 v11 v15 t h]
    exact (tinv_step c qw fwq fwo fK fV q (pr 2 c) X (fun s => heads c fK fV q (pr 3 c) s) hK hV t.val ht _ _
      (fun k => by rw [tslot_ge _ _ _ _ _ _ _ _ (show ¬ t.val + 1 < 4 by omega)]; exact wp_issueO c fK fV q 0 _ _ (off21_eq c t h) _)
      (fun k => by rw [tslot_ge _ _ _ _ _ _ _ _ (show ¬ t.val + 1 < 4 by omega)]; exact wp_issueO c fK fV q 1 _ _ (off26_eq c t h) _)
      _ _ _ _ _ _ _ _ _ _ (off22_eq c) (off23_eq t 0) (off24_eq t 0) (off23_eq t 1) (off24_eq t 1))

/-- The loop of batch `pr 2 c`. -/
theorem wp_loop3 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    {α : Type} {Q : α → sProp 𝕄} (v8 : BitVec 32) (v11 : BitVec 32) (v15 : BitVec 32) {k : Unit → Prog (TpuEff nD τ sig (Elt F) Λ₀ .tc) α} :
    iprop(tinv c qw fwq fwo fK fV q (pr 2 c) X O (fun s => heads c fK fV q (pr 3 c) s) 0 ∗ P)
      ⊢ iprop((iprop(tinv c qw fwq fwo fK fV q (pr 2 c) X O (fun s => heads c fK fV q (pr 3 c) s) 4) -∗ wp frame (wpE (defs₀ (F := F)) 𝒱₀ (c : Thread nD τ) none) Set.univ (k ()) Q)
        -∗ wp frame (wpE (defs₀ (F := F)) 𝒱₀ (c : Thread nD τ) none) Set.univ
            (Scf.Loop.for k0_t3_loop k0_t3_ok ⟨⟩ (fun t _ => tb3 (F := F) c v8 v11 v15 t) >>= k) Q) := by
  have step : ∀ (t : Fin (Scf.trips k0_t3_loop.lb k0_t3_loop.ub k0_t3_loop.st)) (acc : Unit), _ :=
    fun t acc => region3 c qw fwq fwo fK fV q X hK hV v8 v11 v15 t acc
  iintro H Hk
  iapply (Scf.wp_for_bind frame (wpE (defs₀ (F := F)) 𝒱₀ (c : Thread nD τ) none) Set.univ k0_t3_loop.lb k0_t3_loop.ub k0_t3_loop.st
    k0_t3_ok () (fun t _ => tb3 (F := F) c v8 v11 v15 t)
    (fun k _ => iprop(tinv c qw fwq fwo fK fV q (pr 2 c) X O (fun s => heads c fK fV q (pr 3 c) s) k ∗ P)) step) $$ H
  iintro %acc H
  icases H with ⟨H, -⟩
  iapply Hk
  iapply (Entails.of_eq (congrArg (tinv c qw fwq fwo fK fV q (pr 2 c) X O (fun s => heads c fK fV q (pr 3 c) s)) (trips3))) $$ H

theorem trips4 : Scf.trips k0_t4_loop.lb k0_t4_loop.ub k0_t4_loop.st = 4 := rfl

theorem region4 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    (v11 : BitVec 32) (v14 : BitVec 32) (v15 : BitVec 32) (a : Vec F S512x1024 .f32) (t : Fin (Scf.trips k0_t4_loop.lb k0_t4_loop.ub k0_t4_loop.st)) (acc : Unit) :
    iprop(tinv c qw fwq fwo fK fV q (pr 3 c) X O (fun s => idle c s (q s) fK fV) t.val ∗ P)
      ⊢ wp frame (wpE (defs₀ (F := F)) 𝒱₀ (c : Thread nD τ) none) Set.univ (tb4 c v11 v14 v15 a t)
          (fun _ => iprop(tinv c qw fwq fwo fK fV q (pr 3 c) X O (fun s => idle c s (q s) fK fV) (t.val + 1) ∗ P)) := by
  have ht : t.val < 4 := t.isLt
  by_cases h : t.val < 3
  · rw [tb4_lo c v11 v14 v15 a t h]
    exact (tinv_step c qw fwq fwo fK fV q (pr 3 c) X (fun s => idle c s (q s) fK fV) hK hV t.val ht _ _
      (fun k => by rw [tslot_lt _ _ _ _ _ _ _ _ (show t.val + 1 < 4 by omega)]; exact wp_issueO c fK fV q 0 _ _ (off27_eq c t h) _)
      (fun k => by rw [tslot_lt _ _ _ _ _ _ _ _ (show t.val + 1 < 4 by omega)]; exact wp_issueO c fK fV q 1 _ _ (off31_eq c t h) _)
      _ _ _ _ _ _ _ _ _ _ (off28_eq c) (off29_eq t 0) (off30_eq t 0) (off29_eq t 1) (off30_eq t 1))
  · rw [tb4_hi c v11 v14 v15 a t h]
    exact (tinv_step c qw fwq fwo fK fV q (pr 3 c) X (fun s => idle c s (q s) fK fV) hK hV t.val ht _ _
      (fun k => by rw [tslot_ge _ _ _ _ _ _ _ _ (show ¬ t.val + 1 < 4 by omega)]; exact idle_pure c 0 _ fK fV)
      (fun k => by rw [tslot_ge _ _ _ _ _ _ _ _ (show ¬ t.val + 1 < 4 by omega)]; exact idle_pure c 1 _ fK fV)
      _ _ _ _ _ _ _ _ _ _ (off28_eq c) (off29_eq t 0) (off30_eq t 0) (off29_eq t 1) (off30_eq t 1))

/-- The loop of batch `pr 3 c`. -/
theorem wp_loop4 (X : S1x512x1024.Idx → Elt F .bf16) {O : CellTallies nD τ sig Unit}
    {P : sProp 𝕄} [BI.Persistent P] (hK : ∀ s, P ⊢ MayWait (c : Thread nD τ) (.dma (semOf cc0_scratch11 s)) () O)
    (hV : ∀ s, P ⊢ MayWait (c : Thread nD τ) (.dma (semOf cc0_scratch12 s)) () O)
    {α : Type} {Q : α → sProp 𝕄} (v11 : BitVec 32) (v14 : BitVec 32) (v15 : BitVec 32) (a : Vec F S512x1024 .f32) {k : Unit → Prog (TpuEff nD τ sig (Elt F) Λ₀ .tc) α} :
    iprop(tinv c qw fwq fwo fK fV q (pr 3 c) X O (fun s => idle c s (q s) fK fV) 0 ∗ P)
      ⊢ iprop((iprop(tinv c qw fwq fwo fK fV q (pr 3 c) X O (fun s => idle c s (q s) fK fV) 4) -∗ wp frame (wpE (defs₀ (F := F)) 𝒱₀ (c : Thread nD τ) none) Set.univ (k ()) Q)
        -∗ wp frame (wpE (defs₀ (F := F)) 𝒱₀ (c : Thread nD τ) none) Set.univ
            (Scf.Loop.for k0_t4_loop k0_t4_ok ⟨⟩ (fun t _ => tb4 (F := F) c v11 v14 v15 a t) >>= k) Q) := by
  have step : ∀ (t : Fin (Scf.trips k0_t4_loop.lb k0_t4_loop.ub k0_t4_loop.st)) (acc : Unit), _ :=
    fun t acc => region4 c qw fwq fwo fK fV q X hK hV v11 v14 v15 a t acc
  iintro H Hk
  iapply (Scf.wp_for_bind frame (wpE (defs₀ (F := F)) 𝒱₀ (c : Thread nD τ) none) Set.univ k0_t4_loop.lb k0_t4_loop.ub k0_t4_loop.st
    k0_t4_ok () (fun t _ => tb4 (F := F) c v11 v14 v15 a t)
    (fun k _ => iprop(tinv c qw fwq fwo fK fV q (pr 3 c) X O (fun s => idle c s (q s) fK fV) k ∗ P)) step) $$ H
  iintro %acc H
  icases H with ⟨H, -⟩
  iapply Hk
  iapply (Entails.of_eq (congrArg (tinv c qw fwq fwo fK fV q (pr 3 c) X O (fun s => idle c s (q s) fK fV)) (trips4))) $$ H

end Loop

end Cert.KernelIdeal

end

end
-- ==== Proof.KProto.lean ====
module

public import proofs.«01_k».proof.Proof.KLoop

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The exchange between the devices: its cells, who pays them, and what each payment hands over

Device `c` and its three peers `pr 0 c`, `pr 1 c`, `pr 2 c`. -/

abbrev EP : Emb (UR sig nD τ) (MT nD τ sig Unit (Elt F) ℕ UU ℕ) := embL
/-- The exchange's own rounds, inside the resource algebra. -/
def ER : Emb (URounds (GSem nD τ sig) (Fin 3)) (MT nD τ sig Unit (Elt F) ℕ UU ℕ) :=
  ((Emb.inl : Emb (URounds (GSem nD τ sig) (Fin 3)) (URounds (GSem nD τ sig) (Fin 3) × Counters)).trans
    (Emb.inr : Emb (URounds (GSem nD τ sig) (Fin 3) × Counters) UU)).trans
    (uEmb (nD := nD) (τ := τ) (sig := sig) (Ix := Unit) (Val := Elt F) (Name := ℕ) (U := UU) (Lvl := ℕ)).toEmb
instance ER_landsIn : (ER : Emb (URounds (GSem nD τ sig) (Fin 3)) 𝕄).LandsIn (upEmb : UEmb _ 𝕄) := by unfold ER; infer_instance

/-! ### Rows of the landing buffers and of the outgoing partial sums -/

theorem p3_inb (k : Fin 3) : ∀ a, (![k.val, 0, 0] : Fin 3 → ℕ) a + S1x512x1024.size a ≤ S3x512x1024.size a := by
  revert k; decide
theorem sem4_inb (k : Fin 4) : ∀ a, (![k.val] : Fin 1 → ℕ) a + S1.size a ≤ S4.size a := by
  revert k; decide

/-- Slot `k` of the outgoing partial sums. -/
abbrev p3 (k : Fin 3) : Rect S3x512x1024 := Rect.unit (s := S3x512x1024) ![k.val, 0, 0] S1x512x1024.size (p3_inb k)

/-- Row `b` of the four-row buffer `B` of device `c` holds `w`. -/
def rowAt (c : Dev nD) (B : Memref sig .tc .vmem S4x512x1024 .bf16) (b : Fin 4) (w : S1x512x1024.Idx → Elt F .bf16) : sProp 𝕄 :=
  iprop(∃ f, ⌜(B.access (xr b)).read (Elt F) f = w⌝ ∗ ((B.access (xr b)).loc (c : Thread nD τ) ↦[(B.access (xr b)).set]{fullShare} f))
/-- Slot `k` of device `c`'s outgoing partial sums holds `w`. -/
def outAt (c : Dev nD) (k : Fin 3) (w : S1x512x1024.Idx → Elt F .bf16) : sProp 𝕄 :=
  iprop(∃ f, ⌜(psM.access (p3 k)).read (Elt F) f = w⌝ ∗ ((psM.access (p3 k)).loc (c : Thread nD τ) ↦[(psM.access (p3 k)).set]{fullShare} f))

instance rowAt_storable (c : Dev nD) (B : Memref sig .tc .vmem S4x512x1024 .bf16) (b : Fin 4) (w : S1x512x1024.Idx → Elt F .bf16) :
    BI.Storable (upEmb : UEmb _ 𝕄) (rowAt c B b w) := by unfold rowAt; infer_instance
instance outAt_storable (c : Dev nD) (k : Fin 3) (w : S1x512x1024.Idx → Elt F .bf16) :
    BI.Storable (upEmb : UEmb _ 𝕄) (outAt c k w) := by unfold outAt; infer_instance

/-- A block, read as a one-row stack of blocks. -/
def stack (w : S512x1024.Idx → Elt F .bf16) : S1x512x1024.Idx → Elt F .bf16 := fun x =>
  w ((Shape.reshapeEquiv (squeezes_S1x512x1024_S512x1024).numel_eq).symm x)

/-! ### Cells -/

/-- The element of a four-semaphore array at an offset. -/
abbrev semAt (A : DmaSems sig S4) (o : Fin 1 → ℕ) (h : ∀ a, o a + S1.size a ≤ S4.size a) : DmaSem sig :=
  ((A.slice (Rect.unit (s := S4) o S1.size h)).squeeze S_ squeezes_S1_S_).sem
abbrev sem4 (A : DmaSems sig S4) (k : Fin 4) : DmaSem sig := semAt A ![k.val] (sem4_inb k)

theorem sem_agS (k : Fin 4) : (sem4 cc0_scratch7 k).val = 4 + k.val := by revert k; decide
theorem sem_agR (k : Fin 4) : (sem4 cc0_scratch8 k).val = 8 + k.val := by revert k; decide
theorem sem_rsS (k : Fin 4) : (sem4 cc0_scratch9 k).val = 12 + k.val := by revert k; decide
theorem sem_rsR (k : Fin 4) : (sem4 cc0_scratch10 k).val = 16 + k.val := by revert k; decide

abbrev barC (c : Dev nD) : GSem nD τ sig := ((c : Thread nD τ), .reg barrier0)
abbrev agS (c : Dev nD) (k : Fin 4) : GSem nD τ sig := ((c : Thread nD τ), .dma (sem4 cc0_scratch7 k))
abbrev agR (c : Dev nD) (b : Fin 4) : GSem nD τ sig := ((c : Thread nD τ), .dma (sem4 cc0_scratch8 b))
abbrev rsS (c : Dev nD) (k : Fin 4) : GSem nD τ sig := ((c : Thread nD τ), .dma (sem4 cc0_scratch9 k))
abbrev rsR (c : Dev nD) (b : Fin 4) : GSem nD τ sig := ((c : Thread nD τ), .dma (sem4 cc0_scratch10 b))

/-- The credit of one block's copy. -/
abbrev NN : ℕ := (xM : Memref sig .tc .vmem S512x1024 .bf16).view.dmaCredit
theorem NN_pos : 0 < NN := View.dmaCredit_pos _ (by decide)

/-- The four parts of the share of a buffer that four copies read at once. -/
abbrev qx : Fin 4 → PosShare TreeShare := ![fullShare.left.left, fullShare.left.right, fullShare.right.left, fullShare.right.right]

/-- Device `c`'s staged input, at one part of its share. -/
abbrev xPart (c : Dev nD) (k : Fin 4) (X : S512x1024.Idx → Elt F .bf16) : sProp 𝕄 :=
  (xM : Memref sig .tc .vmem S512x1024 .bf16).view.loc (c : Thread nD τ) ↦[(xM : Memref sig .tc .vmem S512x1024 .bf16).view.set]{qx k} X

/-! ### What each payment hands over -/

variable (Xv : Dev nD → S512x1024.Idx → Elt F .bf16) (Pv : Dev nD → Fin 4 → S1x512x1024.Idx → Elt F .bf16)

/-- Peer `k`'s payment to `c`'s barrier: the rows of that peer's landing buffers which `c` is to fill. -/
def barPay (c : Dev nD) (k : Fin 3) : sProp 𝕄 :=
  iprop((∃ w, rowAt (pr k.val c) xgM c w) ∗ (∃ w, rowAt (pr k.val c) prM c w)
    ∗ reached ER (agR (pr k.val c) c) 0 ∗ reached ER (rsR (pr k.val c) c) 0)

/-- The payment to a copy semaphore of `c`, by the semaphore's number. -/
def copyPay (c : Dev nD) (n : ℕ) : sProp 𝕄 :=
  if h : 4 ≤ n ∧ n < 8 then xPart c ⟨n - 4, by omega⟩ (Xv c)
  else if h : 8 ≤ n ∧ n < 12 then rowAt c xgM ⟨n - 8, by omega⟩ (stack (Xv ⟨n - 8, show n - 8 < 4 by omega⟩))
  else if h : 12 ≤ n ∧ n < 15 then iprop(∃ w, outAt c ⟨n - 12, by omega⟩ w)
  else if h : 16 ≤ n ∧ n < 20 then rowAt c prM ⟨n - 16, by omega⟩ (Pv ⟨n - 16, show n - 16 < 4 by omega⟩ c)
  else iprop(emp)

instance copyPay_storable (c : Dev nD) (n : ℕ) : BI.Storable (upEmb : UEmb _ 𝕄) (copyPay Xv Pv c n) := by
  unfold copyPay; (repeat' split) <;> infer_instance
instance barPay_storable (c : Dev nD) (k : Fin 3) : BI.Storable (upEmb : UEmb _ 𝕄) (barPay (F := F) c k) := by
  unfold barPay; infer_instance

/-- The duties of a semaphore's one round: three payments to the barrier, one to a copy semaphore. -/
def dutiesOf : SemLoc sig → Finset (Fin 3)
  | .reg _ => Finset.univ
  | .dma _ => {0}
def amountOf' : SemLoc sig → ℕ
  | .reg _ => 1
  | .dma _ => NN
def payOf (c : Dev nD) : SemLoc sig → Fin 3 → sProp 𝕄
  | .reg _, k => barPay c k
  | .dma i, _ => copyPay Xv Pv c i.val

instance payOf_storable (c : Dev nD) (s : SemLoc sig) (k : Fin 3) : BI.Storable (upEmb : UEmb _ 𝕄) (payOf Xv Pv c s k) := by
  cases s <;> (unfold payOf; infer_instance)

/-- The exchange's schedule: every cell of it has one round. -/
def Rd : Rounds.Schedule (GSem nD τ sig) (Fin 3) 𝕄 where
  duties g r := if r = 0 then dutiesOf g.2 else ∅
  unitless _ := False
  amount g _ _ := amountOf' g.2
  payload g _ d := payOf Xv Pv g.1.1 g.2 d
  amount_pos g _ _ _ := by
    rcases g with ⟨t, s | s⟩
    · exact Nat.one_pos
    · exact NN_pos

instance Rd_storable (g : GSem nD τ sig) (r : ℕ) (d : Fin 3) : BI.Storable (upEmb : UEmb _ 𝕄) ((Rd Xv Pv).payload g r d) :=
  payOf_storable Xv Pv g.1.1 g.2 d

/-! ### The schedule's tables -/

theorem duties_zero (g : GSem nD τ sig) : (Rd Xv Pv).duties g 0 = dutiesOf g.2 := by dsimp only [Rd]; exact if_pos rfl
theorem duties_later (g : GSem nD τ sig) (r : ℕ) (h : 1 ≤ r) : (Rd Xv Pv).duties g r = ∅ := by dsimp only [Rd]; exact if_neg (by omega)

theorem mem_bar (c : Dev nD) (k : Fin 3) : k ∈ (Rd Xv Pv).duties (barC c) 0 := by
  rw [duties_zero]; exact Finset.mem_univ _
theorem mem_copy (c : Dev nD) (i : DmaSem sig) : (0 : Fin 3) ∈ (Rd Xv Pv).duties ((c : Thread nD τ), .dma i) 0 := by
  rw [duties_zero]; exact Finset.mem_singleton_self _

theorem expect_bar (c : Dev nD) : (Rd Xv Pv).expect (barC c) 0 = 3 := by
  unfold Schedule.expect Schedule.amountOf; rw [duties_zero]; rfl
theorem expect_copy (c : Dev nD) (i : DmaSem sig) : (Rd Xv Pv).expect ((c : Thread nD τ), .dma i) 0 = NN := by
  unfold Schedule.expect Schedule.amountOf; rw [duties_zero]; exact Finset.sum_singleton _ _

theorem rest_bar (c : Dev nD) :
    bigSep ((Rd Xv Pv).duties (barC c) 0 \ ∅) (fun d => (Rd Xv Pv).payload (barC c) 0 d)
      = bigSep Finset.univ (fun k => barPay (F := F) c k) := by
  rw [Finset.sdiff_empty, duties_zero]; rfl
theorem rest_copy (c : Dev nD) (i : DmaSem sig) :
    bigSep ((Rd Xv Pv).duties ((c : Thread nD τ), .dma i) 0 \ ∅) (fun d => (Rd Xv Pv).payload ((c : Thread nD τ), .dma i) 0 d)
      = copyPay Xv Pv c i.val := by
  rw [Finset.sdiff_empty, duties_zero]
  show bigSep {0} (fun d => payOf Xv Pv c (.dma i) d) = _
  rw [bigSep_singleton]; rfl

theorem pay_agS (c : Dev nD) (k : Fin 4) : copyPay Xv Pv c (sem4 cc0_scratch7 k).val = xPart c k (Xv c) := by
  rw [sem_agS]; unfold copyPay; rw [dif_pos (by omega)];
  have e : ∀ p, (⟨4 + k.val - 4, p⟩ : Fin 4) = k := fun p => Fin.ext (Nat.add_sub_cancel_left ..)
  rw [e]
theorem pay_agR (c : Dev nD) (b : Fin 4) : copyPay Xv Pv c (sem4 cc0_scratch8 b).val = rowAt c xgM b (stack (Xv b)) := by
  rw [sem_agR]; unfold copyPay; rw [dif_neg (by omega), dif_pos (by omega)]
  have e : ∀ p, (⟨8 + b.val - 8, p⟩ : Fin 4) = b := fun p => Fin.ext (Nat.add_sub_cancel_left ..)
  congr 1
  · exact e _
  · exact congrArg (fun d => stack (Xv d)) (e _)
theorem pay_rsS (c : Dev nD) (k : Fin 3) : copyPay Xv Pv c (sem4 cc0_scratch9 (k.castLE (by decide))).val = iprop(∃ w, outAt c k w) := by
  rw [sem_rsS]; unfold copyPay
  have hk : (k.castLE (by decide : 3 ≤ 4)).val < 3 := k.isLt
  rw [dif_neg (by omega), dif_neg (by omega), dif_pos (by omega)]
  have e : ∀ p, (⟨12 + (k.castLE (by decide : 3 ≤ 4)).val - 12, p⟩ : Fin 3) = k := fun p => Fin.ext (Nat.add_sub_cancel_left ..)
  rw [e]
theorem pay_rsR (c : Dev nD) (b : Fin 4) : copyPay Xv Pv c (sem4 cc0_scratch10 b).val = rowAt c prM b (Pv b c) := by
  rw [sem_rsR]; unfold copyPay; rw [dif_neg (by omega), dif_neg (by omega), dif_neg (by omega), dif_pos (by omega)]
  have e : ∀ p, (⟨16 + b.val - 16, p⟩ : Fin 4) = b := fun p => Fin.ext (Nat.add_sub_cancel_left ..)
  congr 1
  · exact e _
  · exact congrArg (fun d => Pv d c) (e _)

/-! ### What a device owes at launch, and the levels that order the waits -/

abbrev oBar (c : Dev nD) (k : Fin 3) : CellTallies nD τ sig Unit := tallyAt (barC (pr k.val c)) () 1
abbrev oAg (c : Dev nD) (k : Fin 3) : CellTallies nD τ sig Unit := tallyAt (agR (pr k.val c) c) () NN
abbrev oRs (c : Dev nD) (k : Fin 3) : CellTallies nD τ sig Unit := tallyAt (rsR (pr k.val c) c) () NN

/-- Owed from the start of batch `n`'s loop on: the partial sums still to be sent. -/
def oS : ℕ → Dev nD → CellTallies nD τ sig Unit
  | 0, c => oRs c 2 + oRs c 1 + oRs c 0
  | 1, c => oRs c 2 + oRs c 1
  | 2, c => oRs c 2
  | _, _ => 0
/-- Owed once the barrier is signalled. -/
def oA (c : Dev nD) : CellTallies nD τ sig Unit := oS 0 c + oAg c 2 + oAg c 1 + oAg c 0
/-- Owed at launch. -/
def O₀ (c : Dev nD) : CellTallies nD τ sig Unit := oA c + oBar c 2 + oBar c 1 + oBar c 0

def L (g : GSem nD τ sig) : Finset Unit := if g.1.2 = .tc then {()} else ∅
/-- The barrier below the inputs' arrivals, those below the partial sums' arrivals, the rest below all of them. -/
def lvS : SemLoc sig → ℕ
  | .reg _ => 1
  | .dma i => if 8 ≤ i.val ∧ i.val < 12 then 2 else if 16 ≤ i.val ∧ i.val < 20 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_agR (b : Fin 4) : lvS (.dma (sem4 cc0_scratch8 b)) = 2 := by
  dsimp only [lvS]; rw [if_pos (by rw [sem_agR]; omega)]
theorem lv_rsR (b : Fin 4) : lvS (.dma (sem4 cc0_scratch10 b)) = 3 := by
  dsimp only [lvS]; rw [if_neg (by rw [sem_rsR]; omega), if_pos (by rw [sem_rsR]; omega)]

/-- Everything in `O` lies on a tensor core, above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rcases Nat.eq_zero_or_pos (O g u) with e | e
  · refine h' g u ?_
    have : (O + O') g u = O g u + O' g u := rfl
    omega
  · exact h g u e
theorem Above.one {n m : ℕ} (c : Dev nD) (sm : SemLoc sig) (k : ℕ) (h : n < lvS sm) : Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem above_ag {n : ℕ} (h : n < 2) (c : Dev nD) (k : Fin 3) : Above n (oAg c k) := Above.one (m := 0) _ _ _ (by rw [lv_agR]; exact h)
theorem above_rs {n : ℕ} (h : n < 3) (c : Dev nD) (k : Fin 3) : Above n (oRs c k) := Above.one (m := 0) _ _ _ (by rw [lv_rsR]; exact h)
theorem above_oS {n : ℕ} (h : n < 3) (j : ℕ) (c : Dev nD) : Above n (oS j c) := by
  have r := above_rs h c
  match j with
  | 0 => exact ((r 2).add (r 1)).add (r 0)
  | 1 => exact (r 2).add (r 1)
  | 2 => exact r 2
  | _ + 3 => exact Above.zero n
theorem above_oA {n : ℕ} (h : n < 2) (c : Dev nD) : Above n (oA c) :=
  (((above_oS (by omega) 0 c).add (above_ag h c 2)).add (above_ag h c 1)).add (above_ag h c 0)
theorem above_O₀ (c : Dev nD) : Above 0 (O₀ c) := by
  have b : ∀ k : Fin 3, Above 0 (oBar c k) := fun k => Above.one (m := 0) _ _ _ Nat.one_pos
  exact (((above_oA (by omega) c).add (b 2)).add (b 1)).add (b 0)

/-- A wait is allowed while everything owed lies above it. -/
theorem mayWait (c : Dev nD) (sm : SemLoc sig) {O : CellTallies nD τ sig Unit} (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => (h g u hg).1) (fun p hp => by rw [Finset.mem_singleton.mp hp]; exact le_rfl) (fun g u hg => (h g u hg).2)

end Cert.KernelIdeal

end

end
-- ==== Proof.KStep.lean ====
module

public import proofs.«01_k».proof.Proof.KProto

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## One rule for each operation of the exchange -/

variable (Xv : Dev nD → S512x1024.Idx → Elt F .bf16) (Pv : Dev nD → Fin 4 → S1x512x1024.Idx → Elt F .bf16)

def barEmb : Dev nD ↪ GSem nD τ sig := ⟨fun c => barC c, fun _ _ h => congrArg (fun g : GSem nD τ sig => g.1.1) h⟩
/-- The copy semaphores of the exchange: the sixteen of its four arrays. -/
def cpSem (j : Fin 16) : DmaSem sig := ⟨4 + j.val, by have := j.isLt; show 4 + j.val < 26; omega⟩
theorem cpSem_inj : Function.Injective cpSem := fun i j h => Fin.ext (by have := congrArg Fin.val h; simpa [cpSem] using this)
def cpEmb : Dev nD × Fin 16 ↪ GSem nD τ sig :=
  ⟨fun cj => ((cj.1 : Thread nD τ), .dma (cpSem cj.2)), fun _ _ h =>
    Prod.ext (congrArg (fun g : GSem nD τ sig => g.1.1) h) (cpSem_inj (SemLoc.dma.inj (congrArg Prod.snd h)))⟩
abbrev barCells : Finset (GSem nD τ sig) := Finset.univ.map barEmb
abbrev cpCells : Finset (GSem nD τ sig) := Finset.univ.map cpEmb

/-- What every device may consult: every cell's invariant, and that every barrier has begun. -/
def records (κ : GSem nD τ sig → ℕ) : sProp 𝕄 :=
  iprop((bigSep (barCells ∪ cpCells) fun g => cellInv ER (Rd Xv Pv) (κ g) g) ∗ bigSep barCells fun g => reached ER g 0)
instance records_persistent (κ : GSem nD τ sig → ℕ) : BI.Persistent (records Xv Pv κ) := by unfold records; infer_instance

theorem bar_mem (c : Dev nD) : barC c ∈ (barCells ∪ cpCells : Finset (GSem nD τ sig)) :=
  Finset.mem_union_left _ (Finset.mem_map_of_mem barEmb (Finset.mem_univ c))
theorem copy_mem (c : Dev nD) (i : DmaSem sig) (h : 4 ≤ i.val ∧ i.val < 20) :
    ((c : Thread nD τ), SemLoc.dma i) ∈ (barCells ∪ cpCells : Finset (GSem nD τ sig)) := by
  refine Finset.mem_union_right _ (Finset.mem_map.mpr ⟨(c, ⟨i.val - 4, by omega⟩), Finset.mem_univ _, ?_⟩)
  show ((c : Thread nD τ), SemLoc.dma (cpSem _)) = _
  have e : cpSem ⟨i.val - 4, by omega⟩ = i := Fin.ext (by show 4 + (i.val - 4) = i.val; omega)
  rw [e]

theorem inv_bar (κ : GSem nD τ sig → ℕ) (c : Dev nD) : records Xv Pv κ ⊢ cellInv ER (Rd Xv Pv) (κ (barC c)) (barC c) :=
  sep_elim_left.trans (bigSep_elim (bar_mem c))
theorem inv_copy (κ : GSem nD τ sig → ℕ) (c : Dev nD) (i : DmaSem sig) (h : 4 ≤ i.val ∧ i.val < 20) :
    records Xv Pv κ ⊢ cellInv ER (Rd Xv Pv) (κ ((c : Thread nD τ), .dma i)) ((c : Thread nD τ), .dma i) :=
  sep_elim_left.trans (bigSep_elim (copy_mem c i h))
theorem reached_bar (κ : GSem nD τ sig → ℕ) (c : Dev nD) : records Xv Pv κ ⊢ reached ER (barC c) 0 :=
  sep_elim_right.trans (bigSep_elim (Finset.mem_map_of_mem barEmb (Finset.mem_univ c)))

theorem in_agS (k : Fin 4) : 4 ≤ (sem4 cc0_scratch7 k).val ∧ (sem4 cc0_scratch7 k).val < 20 := by rw [sem_agS]; omega
theorem in_agR (k : Fin 4) : 4 ≤ (sem4 cc0_scratch8 k).val ∧ (sem4 cc0_scratch8 k).val < 20 := by rw [sem_agR]; omega
theorem in_rsS (k : Fin 4) : 4 ≤ (sem4 cc0_scratch9 k).val ∧ (sem4 cc0_scratch9 k).val < 20 := by rw [sem_rsS]; omega
theorem in_rsR (k : Fin 4) : 4 ≤ (sem4 cc0_scratch10 k).val ∧ (sem4 cc0_scratch10 k).val < 20 := by rw [sem_rsR]; omega

/-- Device `c` owes `O`. -/
def Ow (c : Dev nD) (O : CellTallies nD τ sig Unit) : sProp 𝕄 := iprop(∃ W, owes (c : Thread nD τ) O W)

variable (κ : GSem nD τ sig → ℕ) (c : Dev nD)

/-- Signalling peer `k`'s barrier hands that peer the rows it is to fill. -/
theorem wp_barSignal {α : Type} {Q : α → sProp 𝕄} (k : Fin 3) {dv : Dev nD} (hdv : dv = pr k.val c) (O : CellTallies nD τ sig Unit)
    {kt : PUnit → Prog (TpuEff nD τ sig (Elt F) Λ₀ .tc) α} :
    iprop(records Xv Pv κ ∗ (∃ w, rowAt c xgM (pr k.val c) w) ∗ (∃ w, rowAt c prM (pr k.val c) w)
        ∗ reached ER (agR c (pr k.val c)) 0 ∗ reached ER (rsR c (pr k.val c)) 0
        ∗ dutyTok ER (barC (pr k.val c)) 0 (Fin.rev k) ∗ Ow c (O + oBar c k))
      ⊢ iprop((Ow c O -∗ wp frame (wpE (defs₀ (F := F)) 𝒱₀ (c : Thread nD τ) none) Set.univ (kt ⟨⟩) Q)
        -∗ wp frame (wpE (defs₀ (F := F)) 𝒱₀ (c : Thread nD τ) none) Set.univ
            (.op (.semSignal (dv, .tc) barrier0 (1#32).toInt) kt) Q) := by
  subst hdv
  unfold Ow
  iintro ⟨#HR, Hx, Hp, #Hr1, #Hr2, Ht, ⟨%W, HO⟩⟩ Hk
  ihave #HI := (inv_bar Xv Pv κ (pr k.val c)) $$ HR
  ihave #Hrb := (reached_bar Xv Pv κ (pr k.val c)) $$ HR
  iapply (Rounds.wp_signal 𝒱₀ ER (Rd Xv Pv) (c : Thread nD τ) none (dst := (pr k.val c : Thread nD τ)) (sem := barrier0) (r := 0) (d := Fin.rev k)
      (κ := κ (barC (pr k.val c))) (k' := 1) (mem_bar Xv Pv _ _) rfl () O rfl) $$ [HO Ht Hx Hp]
  · isplitr; · iexact HI
    isplitl [HO]; · iexact HO
    isplitl [Ht]; · iexact Ht
    isplitl [Hx Hp]
    · iapply (Entails.of_eq (show barPay (pr k.val c) (Fin.rev k) = (Rd Xv Pv).payload (barC (pr k.val c)) 0 (Fin.rev k) from rfl))
      unfold barPay; rw [pr_rev]
      isplitl [Hx]; · iexact Hx
      isplitl [Hp]; · iexact Hp
      isplitr; · iexact Hr1
      iexact Hr2
    · iexact Hrb
  iintro HO
  iapply Hk
  iexists W; iexact HO

/-- Waiting for the three peers' signals gives the rows to fill on each. -/
theorem wp_barWait {α : Type} {Q : α → sProp 𝕄} {O : CellTallies nD τ sig Unit} (hO : Above 1 O)
    {kt : PUnit → Prog (TpuEff nD τ sig (Elt F) Λ₀ .tc) α} :
    iprop(records Xv Pv κ ∗ levAts L lv ∗ cred (tallyAt (barC c) () 3) ∗ atPos ER (barC c) 0 ∅ 0 ∗ Ow c O)
      ⊢ iprop((iprop(Ow c O ∗ atPos ER (barC c) 1 ∅ 0 ∗ barPay c 0 ∗ barPay c 1 ∗ barPay c 2)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.semWait barrier0 (3#32).toInt) kt) Q) := by
  unfold Ow
  iintro ⟨#HR, #HL, Hc, Ha, ⟨%W, HO⟩⟩ Hk
  ihave #HI := (inv_bar Xv Pv κ c) $$ HR
  iapply (Rounds.wp_wait_rest_token 𝒱₀ ER (Rd Xv Pv) (c : Thread nD τ) none (κ := κ (barC c)) (k' := 3)
      (wpE_semWait_eq 𝒱₀ (c : Thread nD τ) none Set.univ) (Set.mem_univ _) () (O := O) (W := W) (R := 0) (m := 0) (T := ∅)
      ((Nat.zero_add 3).trans (expect_bar Xv Pv c).symm)) $$ [Hc HO Ha]
  · isplitr; · iexact HI
    isplitl [Hc]; · iexact Hc
    isplitl [HO]; · iexact HO
    isplitr; · iapply (mayWait c (.reg barrier0) hO); iexact HL
    iexact Ha
  iintro ⟨HO, Ha, -, Hp⟩
  ihave Hp := (Entails.of_eq (rest_bar Xv Pv c)) $$ Hp
  ihave Hp := (Entails.of_eq (show bigSep Finset.univ (fun k : Fin 3 => barPay (F := F) c k) = iprop(barPay c 0 ∗ barPay c 1 ∗ barPay c 2) from
    bigSep_univ_eq_bigSepL [0, 1, 2] (by decide) (by decide) _)) $$ Hp
  iapply Hk
  isplitl [HO]; · iexists _; iexact HO
  isplitl [Ha]; · iexact Ha
  iexact Hp

/-- Waiting for a block's copy gives what its payment hands over. -/
theorem wp_copyWait {α : Type} {Q : α → sProp 𝕄} (i : DmaSem sig) (hi : 4 ≤ i.val ∧ i.val < 20) {O : CellTallies nD τ sig Unit}
    (hO : Above (lvS (.dma i)) O) {sp sp' : Space} {s : Shape} {e : EltTy} {src : Memref sig .tc sp s e} {dst : Memref sig .tc sp' s e} {h1 h2}
    (hN : dst.view.dmaCredit = NN) {kt : PUnit → Prog (TpuEff nD τ sig (Elt F) Λ₀ .tc) α} :
    iprop(records Xv Pv κ ∗ levAts L lv ∗ cred (tallyAt ((c : Thread nD τ), SemLoc.dma i) () NN) ∗ atPos ER ((c : Thread nD τ), SemLoc.dma i) 0 ∅ 0 ∗ Ow c O)
      ⊢ iprop((iprop(Ow c O ∗ atPos ER ((c : Thread nD τ), SemLoc.dma i) 1 ∅ 0 ∗ copyPay Xv Pv c i.val)
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 i src dst h1 h2) kt) Q) := by
  unfold Ow
  iintro ⟨#HR, #HL, Hc, Ha, ⟨%W, HO⟩⟩ Hk
  ihave #HI := (inv_copy Xv Pv κ c i hi) $$ HR
  iapply (Rounds.wp_wait_rest_token 𝒱₀ ER (Rd Xv Pv) (c : Thread nD τ) none (κ := κ ((c : Thread nD τ), SemLoc.dma i)) (k' := NN)
      (by rw [← hN]; exact wpE_waitDma2_eq 𝒱₀ (c : Thread nD τ) none Set.univ) (Set.mem_univ _) () (O := O) (W := W) (R := 0) (m := 0) (T := ∅)
      ((Nat.zero_add NN).trans (expect_copy Xv Pv c i).symm)) $$ [Hc HO Ha]
  · isplitr; · iexact HI
    isplitl [Hc]; · iexact Hc
    isplitl [HO]; · iexact HO
    isplitr; · iapply (mayWait c (.dma i) hO); iexact HL
    iexact Ha
  iintro ⟨HO, Ha, -, Hp⟩
  ihave Hp := (Entails.of_eq (rest_copy Xv Pv c i)) $$ Hp
  iapply Hk
  isplitl [HO]; · iexists _; iexact HO
  isplitl [Ha]; · iexact Ha
  iexact Hp

/-- A cell whose round is over gives its counter back at zero. -/
theorem close_bar : iprop(records Xv Pv κ ∗ atPos ER (barC c) 1 ∅ 0) ⊢ (|={Set.univ}=> semVal (barC c) 0 : sProp 𝕄) :=
  (sep_mono_left (inv_bar Xv Pv κ c)).trans
    (Rounds.cell_close ER (Rd Xv Pv) (Set.mem_univ _) id (duties_later Xv Pv (barC c)))
theorem close_copy (i : DmaSem sig) (hi : 4 ≤ i.val ∧ i.val < 20) :
    iprop(records Xv Pv κ ∗ atPos ER ((c : Thread nD τ), SemLoc.dma i) 1 ∅ 0) ⊢ (|={Set.univ}=> semVal ((c : Thread nD τ), SemLoc.dma i) 0 : sProp 𝕄) :=
  (sep_mono_left (inv_copy Xv Pv κ c i hi)).trans
    (Rounds.cell_close ER (Rd Xv Pv) (Set.mem_univ _) id (duties_later Xv Pv ((c : Thread nD τ), SemLoc.dma i)))
/-- A cell that has not begun is begun with its counter at zero. -/
theorem open_copy (i : DmaSem sig) (hi : 4 ≤ i.val ∧ i.val < 20) :
    iprop(records Xv Pv κ ∗ openTok ER ((c : Thread nD τ), SemLoc.dma i) ∗ semVal ((c : Thread nD τ), SemLoc.dma i) 0)
      ⊢ (|={Set.univ}=> (atPos ER ((c : Thread nD τ), SemLoc.dma i) 0 ∅ 0 ∗ reached ER ((c : Thread nD τ), SemLoc.dma i) 0) : sProp 𝕄) :=
  (sep_mono_left (inv_copy Xv Pv κ c i hi)).trans (Rounds.cell_open ER (Rd Xv Pv) (Set.mem_univ _))

/-! ### The copies -/

theorem rw_stack (v : View sig .tc .vmem S1x512x1024 .bf16) (f : v.ty.Contents (Elt F)) (w : S512x1024.Idx → Elt F .bf16) (h : S512x1024.numel = S1x512x1024.numel) :
    v.read (Elt F) ((v.reshape S512x1024 h).write (Elt F) f w Finset.univ) = stack w := by
  funext x
  obtain ⟨y, rfl⟩ := (Shape.reshapeEquiv h).surjective x
  rw [View.read_write_reshape]
  unfold stack
  rw [Equiv.symm_apply_apply]
theorem rw_stack_read (v u : View sig .tc .vmem S1x512x1024 .bf16) (f : v.ty.Contents (Elt F)) (g : u.ty.Contents (Elt F)) (h : S512x1024.numel = S1x512x1024.numel) :
    v.read (Elt F) ((v.reshape S512x1024 h).write (Elt F) f ((u.reshape S512x1024 h).read (Elt F) g) Finset.univ) = u.read (Elt F) g := by
  funext x
  obtain ⟨y, rfl⟩ := (Shape.reshapeEquiv h).surjective x
  rw [View.read_write_reshape]
  rfl

/-- Row `o` of a four-row buffer, and slot `o` of the outgoing partial sums, as a block. -/
abbrev rowM (B : Memref sig .tc .vmem S4x512x1024 .bf16) (o : Fin 3 → ℕ) (h : ∀ a, o a + S1x512x1024.size a ≤ S4x512x1024.size a) :
    Memref sig .tc .vmem S512x1024 .bf16 :=
  (B.slice (Rect.unit (s := S4x512x1024) o S1x512x1024.size h) (fun _ => rfl)).squeeze S512x1024 squeezes_S1x512x1024_S512x1024
abbrev outM (o : Fin 3 → ℕ) (h : ∀ a, o a + S1x512x1024.size a ≤ S3x512x1024.size a) :
    Memref sig .tc .vmem S512x1024 .bf16 :=
  (psM.slice (Rect.unit (s := S3x512x1024) o S1x512x1024.size h) (fun _ => rfl)).squeeze S512x1024 squeezes_S1x512x1024_S512x1024

/-- Sending the input to peer `k`. -/
theorem wp_agSend {α : Type} {Q : α → sProp 𝕄} (k : Fin 3) {dv : Dev nD} (hdv : dv = pr k.val c)
    {o1 o2 : Fin 1 → ℕ} {o3 : Fin 3 → ℕ} {i1 i2 i3} (e1 : o1 = ![k.val]) (e2 : o2 = ![c.val]) (e3 : o3 = ![c.val, 0, 0])
    {h1 h2 h3 h4} (O : CellTallies nD τ sig Unit) {kt : PUnit → Prog (TpuEff nD τ sig (Elt F) Λ₀ .tc) α} :
    iprop(records Xv Pv κ ∗ xPart c (k.castLE (by decide)) (Xv c) ∗ (∃ w, rowAt (pr k.val c) xgM c w) ∗ Ow c (O + oAg c k)
        ∗ dutyTok ER (agS c (k.castLE (by decide))) 0 0 ∗ reached ER (agS c (k.castLE (by decide))) 0
        ∗ dutyTok ER (agR (pr k.val c) c) 0 0 ∗ reached ER (agR (pr k.val c) c) 0)
      ⊢ iprop((iprop(cred (tallyAt (agS c (k.castLE (by decide))) () NN) ∗ Ow c O)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma xM (.remote (Dev.tc dv) (rowM xgM o3 i3) (.dma (semAt cc0_scratch7 o1 i1)) h1) (.dma (semAt cc0_scratch8 o2 i2)) h2 h3 h4) kt) Q) := by
  subst hdv; subst e1; subst e2; subst e3
  unfold Ow
  iintro ⟨#HR, Hx, ⟨%w, Hrow⟩, ⟨%W, HO⟩, Ht1, #Hr1, Ht2, #Hr2⟩ Hk
  ihave #HI1 := (inv_copy Xv Pv κ c _ (in_agS (k.castLE (by decide)))) $$ HR
  ihave #HI2 := (inv_copy Xv Pv κ (pr k.val c) _ (in_agR c)) $$ HR
  unfold rowAt
  icases Hrow with ⟨%fd, -, Hrow⟩
  iapply (Rounds.wp_send_pointsTo 𝒱₀ ER (Rd Xv Pv) (c : Thread nD τ) none (c' := (pr k.val c : Thread nD τ)) (src := xM) (dst := rowM xgM ![c.val, 0, 0] i3)
      (sS := .dma (sem4 cc0_scratch7 (k.castLE (by decide)))) (sem := .dma (sem4 cc0_scratch8 c)) (q := qx (k.castLE (by decide))) (fs := Xv c)
      (κ₁ := κ (agS c (k.castLE (by decide)))) (κ₂ := κ (agR (pr k.val c) c))
      (r₁ := 0) (r₂ := 0) (d₁ := 0) (d₂ := 0) (fd := fd)
      (mem_copy Xv Pv _ _) (mem_copy Xv Pv _ _) () () NN rfl rfl rfl O rfl (W := W)
      (Entails.of_eq (pay_agS Xv Pv c _).symm)
      (by
        show _ ⊢ copyPay Xv Pv (pr k.val c) (sem4 cc0_scratch8 c).val
        rw [pay_agR]; unfold rowAt
        iintro H
        iexists ((rowM xgM ![c.val, 0, 0] i3).view.write (Elt F) fd (xM.view.read (Elt F) (Xv c)) Finset.univ)
        isplitr
        · ipureintro
          exact rw_stack (xgM.access (xr c)) fd (Xv c) (squeezes_S1x512x1024_S512x1024).numel_eq
        · rw [View.set_reshape]; iexact H)) $$ [Hx Hrow HO Ht1 Ht2]
  · isplitr; · iexact HI1
    isplitr; · iexact HI2
    isplitl [Hx]; · iexact Hx
    isplitl [Hrow]; · rw [View.set_reshape]; iexact Hrow
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Sending peer `k`'s partial sum to it. -/
theorem wp_rsSend {α : Type} {Q : α → sProp 𝕄} (k : Fin 3) {dv : Dev nD} (hdv : dv = pr k.val c)
    {o0 : Fin 3 → ℕ} {o1 o2 : Fin 1 → ℕ} {o3 : Fin 3 → ℕ} {i0 i1 i2 i3} (e0 : o0 = ![k.val, 0, 0]) (e1 : o1 = ![k.val]) (e2 : o2 = ![c.val]) (e3 : o3 = ![c.val, 0, 0])
    {h1 h2 h3 h4} (O : CellTallies nD τ sig Unit) {kt : PUnit → Prog (TpuEff nD τ sig (Elt F) Λ₀ .tc) α} :
    iprop(records Xv Pv κ ∗ outAt c k (Pv c (pr k.val c)) ∗ (∃ w, rowAt (pr k.val c) prM c w) ∗ Ow c (O + oRs c k)
        ∗ dutyTok ER (rsS c (k.castLE (by decide))) 0 0 ∗ reached ER (rsS c (k.castLE (by decide))) 0
        ∗ dutyTok ER (rsR (pr k.val c) c) 0 0 ∗ reached ER (rsR (pr k.val c) c) 0)
      ⊢ iprop((iprop(cred (tallyAt (rsS c (k.castLE (by decide))) () NN) ∗ Ow c O)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma (outM o0 i0) (.remote (Dev.tc dv) (rowM prM o3 i3) (.dma (semAt cc0_scratch9 o1 i1)) h1) (.dma (semAt cc0_scratch10 o2 i2)) h2 h3 h4) kt) Q) := by
  subst hdv; subst e0; subst e1; subst e2; subst e3
  unfold Ow
  iintro ⟨#HR, Hx, ⟨%w, Hrow⟩, ⟨%W, HO⟩, Ht1, #Hr1, Ht2, #Hr2⟩ Hk
  ihave #HI1 := (inv_copy Xv Pv κ c _ (in_rsS (k.castLE (by decide)))) $$ HR
  ihave #HI2 := (inv_copy Xv Pv κ (pr k.val c) _ (in_rsR c)) $$ HR
  unfold rowAt outAt
  icases Hrow with ⟨%fd, -, Hrow⟩
  icases Hx with ⟨%fs, %hfs, Hx⟩
  iapply (Rounds.wp_send_pointsTo 𝒱₀ ER (Rd Xv Pv) (c : Thread nD τ) none (c' := (pr k.val c : Thread nD τ)) (src := outM ![k.val, 0, 0] i0) (dst := rowM prM ![c.val, 0, 0] i3)
      (sS := .dma (sem4 cc0_scratch9 (k.castLE (by decide)))) (sem := .dma (sem4 cc0_scratch10 c)) (q := fullShare) (fs := fs)
      (κ₁ := κ (rsS c (k.castLE (by decide)))) (κ₂ := κ (rsR (pr k.val c) c))
      (r₁ := 0) (r₂ := 0) (d₁ := 0) (d₂ := 0) (fd := fd)
      (mem_copy Xv Pv _ _) (mem_copy Xv Pv _ _) () () NN rfl rfl rfl O rfl (W := W)
      (by
        show _ ⊢ copyPay Xv Pv c (sem4 cc0_scratch9 (k.castLE (by decide))).val
        rw [pay_rsS, View.set_reshape]; unfold outAt
        iintro H
        iexists _, fs
        isplitr; · ipureintro; rfl
        iexact H)
      (by
        show _ ⊢ copyPay Xv Pv (pr k.val c) (sem4 cc0_scratch10 c).val
        rw [pay_rsR]; unfold rowAt
        iintro H
        iexists ((rowM prM ![c.val, 0, 0] i3).view.write (Elt F) fd ((outM ![k.val, 0, 0] i0).view.read (Elt F) fs) Finset.univ)
        isplitr
        · ipureintro
          exact (rw_stack_read (prM.access (xr c)) (psM.access (p3 k)) fd fs (squeezes_S1x512x1024_S512x1024).numel_eq).trans hfs
        · rw [View.set_reshape]; iexact H)) $$ [Hx Hrow HO Ht1 Ht2]
  · isplitr; · iexact HI1
    isplitr; · iexact HI2
    isplitl [Hx]; · rw [View.set_reshape]; iexact Hx
    isplitl [Hrow]; · rw [View.set_reshape]; iexact Hrow
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ### The device's own input, copied within the device -/

/-- The copy of the device's own input into its own row, under way. -/
def ownFly : sProp 𝕄 :=
  Transfers.Flight countersEmb (c : Thread nD τ) (SemLoc.dma (semOf cc0_scratch13 0)) () NN
      iprop(rowAt c xgM c (stack (Xv c)) ∗ xPart c 3 (Xv c))

theorem wp_ownIssue {α : Type} {Q : α → sProp 𝕄} {o3 : Fin 3 → ℕ} {i3} (e3 : o3 = ![c.val, 0, 0])
    {w : S1x512x1024.Idx → Elt F .bf16} {h1 h2 h3} {kt : PUnit → Prog (TpuEff nD τ sig (Elt F) Λ₀ .tc) α} :
    iprop(xPart c 3 (Xv c) ∗ rowAt c xgM c w ∗ semVal ((c : Thread nD τ), SemLoc.dma (semOf cc0_scratch13 0)) 0)
      ⊢ iprop((ownFly Xv c -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma xM (.here (rowM xgM o3 i3)) (.dma (semOf cc0_scratch13 0)) h1 h2 h3) kt) Q) := by
  subst e3
  unfold rowAt
  iintro ⟨Hx, ⟨%f, -, Hs⟩, Hv⟩ Hk
  iapply (Transfers.wp_dmaLocal countersEmb 𝒱₀ (c : Thread nD τ) none () NN rfl
    NN_pos (src := xM) (dst := rowM xgM ![c.val, 0, 0] i3) (Sd := (xgM.access (xr c)).set)
    (fd := f) (q := qx 3) (fs := Xv c) (by rw [View.set_reshape])) $$ [Hs Hx Hv]
  · isplitl [Hx]; · iexact Hx
    isplitl [Hs] <;> iassumption
  iintro HF
  iapply Hk
  unfold ownFly
  iapply (Transfers.Flight_mono (EC := countersEmb) (c : Thread nD τ) ?_) $$ HF
  unfold rowAt
  iintro ⟨Hd, Hs⟩
  isplitl [Hd]
  · iexists ((rowM xgM ![c.val, 0, 0] i3).view.write (Elt F) f (ReadAs.same.apply (xM.view.read (Elt F) (Xv c))) Finset.univ)
    isplitr
    · ipureintro
      exact rw_stack (xgM.access (xr c)) f (Xv c) (squeezes_S1x512x1024_S512x1024).numel_eq
    · iexact Hd
  · iexact Hs

theorem wp_ownLand {α : Type} {Q : α → sProp 𝕄} {O : CellTallies nD τ sig Unit} {s : Memref sig .tc .vmem S512x1024 .bf16} {d : Memref sig .tc .vmem S512x1024 .bf16}
    (hN : d.view.dmaCredit = NN) (hO : Above 0 O) {h1 h2} {kt : PUnit → Prog (TpuEff nD τ sig (Elt F) Λ₀ .tc) α} :
    iprop(ownFly Xv c ∗ levAts L lv ∗ Ow c O)
      ⊢ iprop((iprop(rowAt c xgM c (stack (Xv c)) ∗ xPart c 3 (Xv c) ∗ semVal ((c : Thread nD τ), SemLoc.dma (semOf cc0_scratch13 0)) 0 ∗ Ow c O)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.waitDma2 (semOf cc0_scratch13 0) s d h1 h2) kt) Q) := by
  unfold ownFly Ow
  iintro ⟨HF, #HL, ⟨%W, HO⟩⟩ Hk
  iapply (Transfers.wp_waitLocalO countersEmb 𝒱₀ (c : Thread nD τ) none (dstw := d) () hN) $$ [HF HO]
  · isplitl [HF]; · iexact HF
    isplitl [HO]; · iexact HO
    iapply (mayWait c (.dma (semOf cc0_scratch13 0)) hO); iexact HL
  iintro ⟨⟨HS, HX⟩, Hv, HO⟩
  iapply Hk
  isplitl [HS]; · iexact HS
  isplitl [HX]; · iexact HX
  isplitl [Hv]; · iexact Hv
  iexists _; iexact HO

end Cert.KernelIdeal

end

end
-- ==== Proof.KOps.lean ====
module

public import proofs.«01_k».proof.Proof.KStep

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The loads and stores between the copies, and a batch's loop from end to end -/

variable (c : Dev nD)

theorem wp_loadAcc {α : Type} {Q : α → sProp 𝕄} {v : S512x1024.Idx → Elt F .f32} {h}
    {k : Vec F S512x1024 .f32 → Prog (TpuEff nD τ sig (Elt F) Λ₀ .tc) α} :
    accAt c v ⊢ iprop((accAt c v -∗ wp frame (wpE (defs₀ (F := F)) 𝒱₀ (c : Thread nD τ) none) Set.univ (k v) Q)
        -∗ wp frame (wpE (defs₀ (F := F)) 𝒱₀ (c : Thread nD τ) none) Set.univ (.op (.load paM par.toLoadRect h) k) Q) := by
  unfold accAt
  iintro ⟨%f, %e, H⟩ Hk
  iapply (wp_load_rect 𝒱₀ (c : Thread nD τ) none Set.univ (m := paM) (r := par) (Finset.subset_univ _)) $$ H
  iintro H
  rw [e]
  iapply Hk
  iexists f
  isplitr
  · ipureintro; exact e
  · iexact H

theorem wp_setAcc {α : Type} {Q : α → sProp 𝕄} (w : S512x1024.Idx → Elt F .f32) {h1 h2}
    {k : PUnit → Prog (TpuEff nD τ sig (Elt F) Λ₀ .tc) α} :
    iprop(∃ v, accAt c v) ⊢ iprop((accAt c w -∗ wp frame (wpE (defs₀ (F := F)) 𝒱₀ (c : Thread nD τ) none) Set.univ (k ⟨⟩) Q)
        -∗ wp frame (wpE (defs₀ (F := F)) 𝒱₀ (c : Thread nD τ) none) Set.univ (.op (.store paM par w Finset.univ h1 h2) k) Q) := by
  unfold accAt
  iintro ⟨%v, %f, -, H⟩ Hk
  iapply (wp_store 𝒱₀ (c : Thread nD τ) none Set.univ (m := paM) (r := par) (Finset.subset_univ _)) $$ H
  iintro H
  iapply Hk
  iexists ((paM.access par).write (Elt F) f w Finset.univ)
  isplitr
  · ipureintro; exact par_read_write paM.view f w
  · iexact H

theorem wp_loadOut {α : Type} {Q : α → sProp 𝕄} (s : Fin 3) {w : S1x512x1024.Idx → Elt F .bf16} {h}
    {k : Vec F S1x512x1024 .bf16 → Prog (TpuEff nD τ sig (Elt F) Λ₀ .tc) α} :
    outAt c s w ⊢ iprop((outAt c s w -∗ wp frame (wpE (defs₀ (F := F)) 𝒱₀ (c : Thread nD τ) none) Set.univ (k w) Q)
        -∗ wp frame (wpE (defs₀ (F := F)) 𝒱₀ (c : Thread nD τ) none) Set.univ (.op (.load psM (p3 s).toLoadRect h) k) Q) := by
  unfold outAt
  iintro ⟨%f, %e, H⟩ Hk
  iapply (wp_load_rect 𝒱₀ (c : Thread nD τ) none Set.univ (m := psM) (r := p3 s) (Finset.Subset.refl _)) $$ H
  iintro H
  rw [e]
  iapply Hk
  iexists f
  isplitr
  · ipureintro; exact e
  · iexact H

theorem wp_setOut {α : Type} {Q : α → sProp 𝕄} (s : Fin 3) {w' : S1x512x1024.Idx → Elt F .bf16} (w : S1x512x1024.Idx → Elt F .bf16) {h1 h2}
    {k : PUnit → Prog (TpuEff nD τ sig (Elt F) Λ₀ .tc) α} :
    outAt c s w' ⊢ iprop((outAt c s w -∗ wp frame (wpE (defs₀ (F := F)) 𝒱₀ (c : Thread nD τ) none) Set.univ (k ⟨⟩) Q)
        -∗ wp frame (wpE (defs₀ (F := F)) 𝒱₀ (c : Thread nD τ) none) Set.univ (.op (.store psM (p3 s) w Finset.univ h1 h2) k) Q) := by
  unfold outAt
  iintro ⟨%f, -, H⟩ Hk
  iapply (wp_store 𝒱₀ (c : Thread nD τ) none Set.univ (m := psM) (r := p3 s) (S := (psM.access (p3 s)).set) (Mk := Finset.univ) (Finset.Subset.refl _)) $$ H
  iintro H
  iapply Hk
  iexists ((psM.access (p3 s)).write (Elt F) f w Finset.univ)
  isplitr
  · ipureintro; exact View.read_write_univ (v := psM.view.slice (p3 s)) f w
  · iexact H

theorem wp_loadRow {α : Type} {Q : α → sProp 𝕄} (B : Memref sig .tc .vmem S4x512x1024 .bf16) (b : Fin 4) {o : Fin 3 → ℕ} {i}
    (e : o = ![b.val, 0, 0]) {w : S1x512x1024.Idx → Elt F .bf16} {h}
    {k : Vec F S1x512x1024 .bf16 → Prog (TpuEff nD τ sig (Elt F) Λ₀ .tc) α} :
    rowAt c B b w ⊢ iprop((rowAt c B b w -∗ wp frame (wpE (defs₀ (F := F)) 𝒱₀ (c : Thread nD τ) none) Set.univ (k w) Q)
        -∗ wp frame (wpE (defs₀ (F := F)) 𝒱₀ (c : Thread nD τ) none) Set.univ
            (.op (.load B (Rect.unit (s := S4x512x1024) o S1x512x1024.size i).toLoadRect h) k) Q) := by
  subst e
  unfold rowAt
  iintro ⟨%f, %e, H⟩ Hk
  iapply (wp_load_rect 𝒱₀ (c : Thread nD τ) none Set.univ (m := B) (r := xr b) (Finset.Subset.refl _)) $$ H
  iintro H
  rw [e]
  iapply Hk
  iexists f
  isplitr
  · ipureintro; exact e
  · iexact H

/-- The whole of the result's buffer. -/
abbrev orr : Rect S1x512x1024 := Rect.unit (s := S1x512x1024) ![0, 0, 0] S1x512x1024.size inb_S1x512x1024_S1x512x1024_0_0_0

theorem orr_emb (x : S1x512x1024.Idx) : orr.emb x = x := by
  funext a
  apply Fin.ext
  fin_cases a
  · show 0 + 1 * (x 0).val = (x 0).val; omega
  · show 0 + 1 * (x 1).val = (x 1).val; omega
  · show 0 + 1 * (x 2).val = (x 2).val; omega

theorem orr_write (f : oM.view.ty.Contents (Elt F)) (w : S1x512x1024.Idx → Elt F .f32) :
    (oM.access orr).write (Elt F) f w Finset.univ = w := by
  funext x
  have h := congrFun (View.read_write_univ (v := oM.view.slice orr) f w) x
  have e : (oM.view.slice orr).read (Elt F) ((oM.view.slice orr).write (Elt F) f w Finset.univ) x
      = (oM.view.slice orr).write (Elt F) f w Finset.univ (orr.emb x) := rfl
  rw [e, orr_emb] at h
  exact h

theorem orr_held (f : oM.view.ty.Contents (Elt F)) (w : S1x512x1024.Idx → Elt F .f32) :
    (oM.view.loc (c : Thread nD τ) ↦{fullShare} (oM.access orr).write (Elt F) f w Finset.univ : sProp 𝕄)
      ⊢ (oM.view.loc (c : Thread nD τ) ↦{fullShare} w) :=
  .of_eq (congrArg (fun g => (oM.view.loc (c : Thread nD τ) ↦{fullShare} g : sProp 𝕄)) (orr_write f w))

theorem wp_setRes {α : Type} {Q : α → sProp 𝕄} (w : S1x512x1024.Idx → Elt F .f32) {h h1 h2}
    {k : PUnit → Prog (TpuEff nD τ sig (Elt F) Λ₀ .tc) α} :
    iprop(∃ f, (oM.view.loc (c : Thread nD τ) ↦{fullShare} f))
      ⊢ iprop(((oM.view.loc (c : Thread nD τ) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
            (.op (.load oM orr.toLoadRect h) fun _ => .op (.store oM orr w Finset.univ h1 h2) k) Q) := by
  iintro ⟨%f, H⟩ Hk
  iapply (wp_load_rect 𝒱₀ (c : Thread nD τ) none Set.univ (m := oM) (r := orr) (Finset.subset_univ _)) $$ H
  iintro H
  iapply (wp_store 𝒱₀ (c : Thread nD τ) none Set.univ (m := oM) (r := orr) (Finset.subset_univ _)) $$ H
  iintro H
  iapply Hk
  iapply (orr_held c f w) $$ H

/-! ### The fixed columns of the widened values -/

theorem ones_both (v : View sig .tc .vmem S2x2048x256 .bf16) (f : v.ty.Contents (Elt F)) (s : Fin 2) (w : S1x2048x128.Idx → Elt F .bf16) :
    (v.slice (vone s)).read (Elt F) ((v.slice (vone 1)).write (Elt F) ((v.slice (vone 0)).write (Elt F) f w Finset.univ) w Finset.univ) = w := by
  fin_cases s
  · funext x
    refine (View.read_writes_cons_unit_of_not_mem v _ (vone_inb 1) w [] ((vone 0).emb x) rfl 0
      (Or.inl (by have : (x 0).val < 1 := (x 0).isLt; show 0 + 1 * (x 0).val < 1; omega))).trans ?_
    exact congrFun (View.read_write_univ (v := v.slice (vone 0)) f w) x
  · exact View.read_write_univ (v := v.slice (vone 1)) _ w

theorem wp_ones {α : Type} {Q : α → sProp 𝕄} {h1 h2 h3 h4 h5 h6}
    {k : PUnit → Prog (TpuEff nD τ sig (Elt F) Λ₀ .tc) α} :
    iprop(∃ f, (vcM.view.loc (c : Thread nD τ) ↦{fullShare} f))
      ⊢ iprop((vcOnes c -∗ wp frame (wpE (defs₀ (F := F)) 𝒱₀ (c : Thread nD τ) none) Set.univ (k ⟨⟩) Q)
        -∗ wp frame (wpE (defs₀ (F := F)) 𝒱₀ (c : Thread nD τ) none) Set.univ
            (.op (.load vcM (vone 0).toLoadRect h1) fun _ => .op (.store vcM (vone 0) (k0_pay25 (F := F)) Finset.univ h2 h3) fun _ =>
             .op (.load vcM (vone 1).toLoadRect h4) fun _ => .op (.store vcM (vone 1) (k0_pay26 (F := F)) Finset.univ h5 h6) k) Q) := by
  iintro ⟨%f, H⟩ Hk
  iapply (wp_load_rect 𝒱₀ (c : Thread nD τ) none Set.univ (m := vcM) (r := vone 0) (Finset.subset_univ _)) $$ H
  iintro H
  iapply (wp_store 𝒱₀ (c : Thread nD τ) none Set.univ (m := vcM) (r := vone 0) (Finset.subset_univ _)) $$ H
  iintro H
  iapply (wp_load_rect 𝒱₀ (c : Thread nD τ) none Set.univ (m := vcM) (r := vone 1) (Finset.subset_univ _)) $$ H
  iintro H
  iapply (wp_store 𝒱₀ (c : Thread nD τ) none Set.univ (m := vcM) (r := vone 1) (Finset.subset_univ _)) $$ H
  iintro H
  iapply Hk
  unfold vcOnes
  iexists ((vcM.access (vone 1)).write (Elt F) ((vcM.access (vone 0)).write (Elt F) f (k0_pay25 (F := F)) Finset.univ) (k0_pay25 (F := F)) Finset.univ)
  isplitr
  · ipureintro; intro s; exact ones_both vcM.view f s _
  · iexact H

/-! ### A batch's loop, from its first heads staged to the accumulator's last contents -/

variable (qw : PosShare TreeShare) (fwq : S8x1024x128.Idx → Elt F .bf16) (fwo : S8x128x1024.Idx → Elt F .bf16)
  (fK fV : S4x2048x32x128.Idx → Elt F .f32) (q : Fin 2 → PosShare TreeShare)

/-- A batch about to be worked on: its input block there, its first two heads on their way, the accumulator cleared. -/
def ready (b : Fin 4) (X : S1x512x1024.Idx → Elt F .bf16) (O : CellTallies nD τ sig Unit) : sProp 𝕄 :=
  iprop(heads c fK fV q b 0 ∗ heads c fK fV q b 1 ∗ vcOnes c ∗ rowAt c xgM b X ∗ wts c qw fwq fwo ∗ accAt c (k0_pay27 (F := F)) ∗ Ow c O)
/-- A batch worked on: its partial sum in the accumulator, the slots as `N` says. -/
def worked (b : Fin 4) (X : S1x512x1024.Idx → Elt F .bf16) (O : CellTallies nD τ sig Unit) (N : Fin 2 → sProp 𝕄) : sProp 𝕄 :=
  iprop(N 0 ∗ N 1 ∗ vcOnes c ∗ rowAt c xgM b X ∗ wts c qw fwq fwo ∗ accAt c (accN c fwq fwo fK fV b X 8) ∗ Ow c O)

theorem tinv_first (b : Fin 4) (X : S1x512x1024.Idx → Elt F .bf16) (O : CellTallies nD τ sig Unit) (N : Fin 2 → sProp 𝕄) :
    ready c qw fwq fwo fK fV q b X O ⊢ tinv c qw fwq fwo fK fV q b X O N 0 := by
  have e0 : tslot c fK fV q b N 0 0 = heads c fK fV q b 0 := if_pos (by decide)
  have e1 : tslot c fK fV q b N 1 0 = heads c fK fV q b 1 := if_pos (by decide)
  unfold ready tinv
  rw [e0, e1]
  exact BI.Entails.refl _
theorem tinv_last (b : Fin 4) (X : S1x512x1024.Idx → Elt F .bf16) (O : CellTallies nD τ sig Unit) (N : Fin 2 → sProp 𝕄) :
    tinv c qw fwq fwo fK fV q b X O N 4 ⊢ worked c qw fwq fwo fK fV b X O N := by
  have e0 : tslot c fK fV q b N 0 4 = N 0 := if_neg (by decide)
  have e1 : tslot c fK fV q b N 1 4 = N 1 := if_neg (by decide)
  unfold worked tinv
  rw [e0, e1]
  exact BI.Entails.refl _

theorem lv_k (s : Fin 2) : lvS (.dma (semOf cc0_scratch11 s)) = 0 := by revert s; decide
theorem lv_v (s : Fin 2) : lvS (.dma (semOf cc0_scratch12 s)) = 0 := by revert s; decide
theorem may_k {O : CellTallies nD τ sig Unit} (h : Above 0 O) (s : Fin 2) :
    (levAts L lv : sProp 𝕄) ⊢ MayWait (c : Thread nD τ) (.dma (semOf cc0_scratch11 s)) () O := mayWait c _ (by rw [lv_k]; exact h)
theorem may_v {O : CellTallies nD τ sig Unit} (h : Above 0 O) (s : Fin 2) :
    (levAts L lv : sProp 𝕄) ⊢ MayWait (c : Thread nD τ) (.dma (semOf cc0_scratch12 s)) () O := mayWait c _ (by rw [lv_v]; exact h)

end Cert.KernelIdeal

end

end
-- ==== Proof.KParts.lean ====
module

public import proofs.«01_k».proof.Proof.KOps

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The kernel's pieces: the first copies, the handshake, the input's exchange -/

/-- The pieces of the kernel, at its buffers and semaphores. -/
abbrev p16 := k0_part16 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p17 := k0_part17 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p18 := k0_part18 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p19 := k0_part19 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13

variable (Xv : Dev nD → S512x1024.Idx → Elt F .bf16) (Pv : Dev nD → Fin 4 → S1x512x1024.Idx → Elt F .bf16) (κ : GSem nD τ sig → ℕ) (c : Dev nD)

/-- A send's number, as an index of a four-semaphore array. -/
abbrev up (k : Fin 3) : Fin 4 := k.castLE (by decide)

/-- What device `c` pays with when it sends its input to peer `k`. -/
def agTok (k : Fin 3) : sProp 𝕄 :=
  iprop(dutyTok ER (agS c (up k)) 0 0 ∗ reached ER (agS c (up k)) 0 ∗ dutyTok ER (agR (pr k.val c) c) 0 0)
/-- What device `c` pays with when it sends a partial sum to peer `k`. -/
def rsTok (k : Fin 3) : sProp 𝕄 :=
  iprop(dutyTok ER (rsS c (up k)) 0 0 ∗ reached ER (rsS c (up k)) 0 ∗ dutyTok ER (rsR (pr k.val c) c) 0 0)
/-- Where device `c` is to send its input, and its partial sum, at peer `k`. -/
def agDst (k : Fin 3) : sProp 𝕄 := iprop((∃ w, rowAt (pr k.val c) xgM c w) ∗ reached ER (agR (pr k.val c) c) 0)
def rsDst (k : Fin 3) : sProp 𝕄 := iprop((∃ w, rowAt (pr k.val c) prM c w) ∗ reached ER (rsR (pr k.val c) c) 0)
/-- A copy semaphore of `c` about to be waited on once, for one block's credit. -/
def due (i : DmaSem sig) : sProp 𝕄 :=
  iprop(cred (tallyAt ((c : Thread nD τ), SemLoc.dma i) () NN) ∗ atPos ER ((c : Thread nD τ), SemLoc.dma i) 0 ∅ 0)
/-- A semaphore of `c` waited on. -/
abbrev spent (i : DmaSem sig) : sProp 𝕄 := atPos ER ((c : Thread nD τ), SemLoc.dma i) 1 ∅ 0

/-- Waiting for peer `b`'s input block. -/
theorem wp_agArrive {α : Type} {Q : α → sProp 𝕄} (b : Fin 4) {o : Fin 1 → ℕ} {i} (e : o = ![b.val]) {O : CellTallies nD τ sig Unit}
    (hO : Above 2 O) {s d : Memref sig .tc .vmem S512x1024 .bf16} (hN : d.view.dmaCredit = NN) {h1 h2}
    {kt : PUnit → Prog (TpuEff nD τ sig (Elt F) Λ₀ .tc) α} :
    iprop(records Xv Pv κ ∗ levAts L lv ∗ due c (sem4 cc0_scratch8 b) ∗ Ow c O)
      ⊢ iprop((iprop(Ow c O ∗ spent c (sem4 cc0_scratch8 b) ∗ rowAt c xgM b (stack (Xv b)))
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 (semAt cc0_scratch8 o i) s d h1 h2) kt) Q) := by
  subst e
  unfold due
  iintro ⟨#HR, #HL, ⟨Hc, Ha⟩, HO⟩ Hk
  iapply (wp_copyWait Xv Pv κ c (sem4 cc0_scratch8 b) (in_agR b) (hO := by rw [lv_agR]; exact hO) hN) $$ [Hc Ha HO]
  · isplitr; · iexact HR
    isplitr; · iexact HL
    isplitl [Hc]; · iexact Hc
    isplitl [Ha] <;> iassumption
  rw [pay_agR]
  iexact Hk

/-- Waiting for peer `b`'s partial sum. -/
theorem wp_rsArrive {α : Type} {Q : α → sProp 𝕄} (b : Fin 4) {o : Fin 1 → ℕ} {i} (e : o = ![b.val]) {O : CellTallies nD τ sig Unit}
    (hO : Above 3 O) {s d : Memref sig .tc .vmem S512x1024 .bf16} (hN : d.view.dmaCredit = NN) {h1 h2}
    {kt : PUnit → Prog (TpuEff nD τ sig (Elt F) Λ₀ .tc) α} :
    iprop(records Xv Pv κ ∗ levAts L lv ∗ due c (sem4 cc0_scratch10 b) ∗ Ow c O)
      ⊢ iprop((iprop(Ow c O ∗ spent c (sem4 cc0_scratch10 b) ∗ rowAt c prM b (Pv b c))
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 (semAt cc0_scratch10 o i) s d h1 h2) kt) Q) := by
  subst e
  unfold due
  iintro ⟨#HR, #HL, ⟨Hc, Ha⟩, HO⟩ Hk
  iapply (wp_copyWait Xv Pv κ c (sem4 cc0_scratch10 b) (in_rsR b) (hO := by rw [lv_rsR]; exact hO) hN) $$ [Hc Ha HO]
  · isplitr; · iexact HR
    isplitr; · iexact HL
    isplitl [Hc]; · iexact Hc
    isplitl [Ha] <;> iassumption
  rw [pay_rsR]
  iexact Hk

theorem lv_agS (k : Fin 4) : lvS (.dma (sem4 cc0_scratch7 k)) = 0 := by revert k; decide
theorem lv_rsS (k : Fin 4) : lvS (.dma (sem4 cc0_scratch9 k)) = 0 := by revert k; decide

/-- Waiting for the input's send number `k` to have left. -/
theorem wp_agSent {α : Type} {Q : α → sProp 𝕄} (k : Fin 4) {O : CellTallies nD τ sig Unit} (hO : Above 0 O)
    {sp : Space} {s : Memref sig .tc sp S512x1024 .bf16} {d : Memref sig .tc .vmem S512x1024 .bf16} (hN : d.view.dmaCredit = NN) {h1 h2}
    {kt : PUnit → Prog (TpuEff nD τ sig (Elt F) Λ₀ .tc) α} :
    iprop(records Xv Pv κ ∗ levAts L lv ∗ due c (sem4 cc0_scratch7 k) ∗ Ow c O)
      ⊢ iprop((iprop(Ow c O ∗ spent c (sem4 cc0_scratch7 k) ∗ xPart c k (Xv c))
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 (sem4 cc0_scratch7 k) s d h1 h2) kt) Q) := by
  unfold due
  iintro ⟨#HR, #HL, ⟨Hc, Ha⟩, HO⟩ Hk
  iapply (wp_copyWait Xv Pv κ c (sem4 cc0_scratch7 k) (in_agS k) (hO := by rw [lv_agS]; exact hO) hN) $$ [Hc Ha HO]
  · isplitr; · iexact HR
    isplitr; · iexact HL
    isplitl [Hc]; · iexact Hc
    isplitl [Ha] <;> iassumption
  rw [pay_agS]
  iexact Hk

/-- Waiting for the partial sum's send number `k` to have left. -/
theorem wp_rsSent {α : Type} {Q : α → sProp 𝕄} (k : Fin 3) {O : CellTallies nD τ sig Unit} (hO : Above 0 O)
    {sp : Space} {s : Memref sig .tc sp S512x1024 .bf16} {d : Memref sig .tc .vmem S512x1024 .bf16} (hN : d.view.dmaCredit = NN) {h1 h2}
    {kt : PUnit → Prog (TpuEff nD τ sig (Elt F) Λ₀ .tc) α} :
    iprop(records Xv Pv κ ∗ levAts L lv ∗ due c (sem4 cc0_scratch9 (up k)) ∗ Ow c O)
      ⊢ iprop((iprop(Ow c O ∗ spent c (sem4 cc0_scratch9 (up k)) ∗ (∃ w, outAt c k w))
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 (sem4 cc0_scratch9 (up k)) s d h1 h2) kt) Q) := by
  unfold due
  iintro ⟨#HR, #HL, ⟨Hc, Ha⟩, HO⟩ Hk
  iapply (wp_copyWait Xv Pv κ c (sem4 cc0_scratch9 (up k)) (in_rsS (up k)) (hO := by rw [lv_rsS]; exact hO) hN) $$ [Hc Ha HO]
  · isplitr; · iexact HR
    isplitr; · iexact HL
    isplitl [Hc]; · iexact Hc
    isplitl [Ha] <;> iassumption
  rw [pay_rsS]
  iexact Hk

/-- Sending the input to peer `k`, in the words above. -/
theorem wp_agGo {α : Type} {Q : α → sProp 𝕄} (k : Fin 3) {dv : Dev nD} (hdv : dv = pr k.val c)
    {o1 o2 : Fin 1 → ℕ} {o3 : Fin 3 → ℕ} {i1 i2 i3} (e1 : o1 = ![k.val]) (e2 : o2 = ![c.val]) (e3 : o3 = ![c.val, 0, 0])
    {h1 h2 h3 h4} (O : CellTallies nD τ sig Unit) {kt : PUnit → Prog (TpuEff nD τ sig (Elt F) Λ₀ .tc) α} :
    iprop(records Xv Pv κ ∗ xPart c (up k) (Xv c) ∗ agDst c k ∗ Ow c (O + oAg c k) ∗ agTok c k ∗ atPos ER (agS c (up k)) 0 ∅ 0)
      ⊢ iprop((iprop(due c (sem4 cc0_scratch7 (up k)) ∗ Ow c O)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma xM (.remote (Dev.tc dv) (rowM xgM o3 i3) (.dma (semAt cc0_scratch7 o1 i1)) h1) (.dma (semAt cc0_scratch8 o2 i2)) h2 h3 h4) kt) Q) := by
  unfold agTok agDst due
  iintro ⟨#HR, Hx, ⟨Hw, Hr⟩, HO, ⟨Ht1, Hr1, Ht2⟩, Ha⟩ Hk
  iapply (wp_agSend Xv Pv κ c k hdv e1 e2 e3 O) $$ [Hx Hw Hr HO Ht1 Hr1 Ht2]
  · isplitr; · iexact HR
    isplitl [Hx]; · iexact Hx
    isplitl [Hw]; · iexact Hw
    isplitl [HO]; · iexact HO
    isplitl [Ht1]; · iexact Ht1
    isplitl [Hr1]; · iexact Hr1
    isplitl [Ht2] <;> iassumption
  iintro ⟨Hc, HO⟩
  iapply Hk
  isplitl [Hc Ha]
  · isplitl [Hc] <;> iassumption
  · iexact HO

/-- Sending a partial sum to peer `k`, in the words above. -/
theorem wp_rsGo {α : Type} {Q : α → sProp 𝕄} (k : Fin 3) {dv : Dev nD} (hdv : dv = pr k.val c)
    {o0 : Fin 3 → ℕ} {o1 o2 : Fin 1 → ℕ} {o3 : Fin 3 → ℕ} {i0 i1 i2 i3} (e0 : o0 = ![k.val, 0, 0]) (e1 : o1 = ![k.val]) (e2 : o2 = ![c.val]) (e3 : o3 = ![c.val, 0, 0])
    {h1 h2 h3 h4} (O : CellTallies nD τ sig Unit) {kt : PUnit → Prog (TpuEff nD τ sig (Elt F) Λ₀ .tc) α} :
    iprop(records Xv Pv κ ∗ outAt c k (Pv c (pr k.val c)) ∗ rsDst c k ∗ Ow c (O + oRs c k) ∗ rsTok c k ∗ atPos ER (rsS c (up k)) 0 ∅ 0)
      ⊢ iprop((iprop(due c (sem4 cc0_scratch9 (up k)) ∗ Ow c O)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma (outM o0 i0) (.remote (Dev.tc dv) (rowM prM o3 i3) (.dma (semAt cc0_scratch9 o1 i1)) h1) (.dma (semAt cc0_scratch10 o2 i2)) h2 h3 h4) kt) Q) := by
  unfold rsTok rsDst due
  iintro ⟨#HR, Hx, ⟨Hw, Hr⟩, HO, ⟨Ht1, Hr1, Ht2⟩, Ha⟩ Hk
  iapply (wp_rsSend Xv Pv κ c k hdv e0 e1 e2 e3 O) $$ [Hx Hw Hr HO Ht1 Hr1 Ht2]
  · isplitr; · iexact HR
    isplitl [Hx]; · iexact Hx
    isplitl [Hw]; · iexact Hw
    isplitl [HO]; · iexact HO
    isplitl [Ht1]; · iexact Ht1
    isplitl [Hr1]; · iexact Hr1
    isplitl [Ht2] <;> iassumption
  iintro ⟨Hc, HO⟩
  iapply Hk
  isplitl [Hc Ha]
  · isplitl [Hc] <;> iassumption
  · iexact HO

/-! ### The first heads' copies -/

variable (fK fV : S4x2048x32x128.Idx → Elt F .f32) (q : Fin 2 → PosShare TreeShare)

theorem heads_fill (s : Fin 2) {o : Fin 4 → ℕ} {h} (e : o = ![(pr 0 c).val, 0, 8 * c.val + s.val, 0]) :
    fill c s (q s) fK fV o h ⊢ heads c fK fV q (pr 0 c) s := by
  subst e
  unfold heads fillO
  iintro H
  iexists h
  iexact H

/-- Slot 0 with its key copy under way. -/
def half : sProp 𝕄 :=
  iprop(fly c kbM KM (semOf cc0_scratch11 0) 0 (q 0) (k0_off1 c 0#32) (k0_off1_inb c 0) fK ∗ (∃ w, slotAt c vbM 0 w)
    ∗ semVal ((c : Thread nD τ), SemLoc.dma (semOf cc0_scratch12 0)) 0 ∗ (VM.view.loc (c : Thread nD τ) ↦{q 0} fV))

/-- The device's words: its place on the mesh, the places of the four batches, its first head. -/
def word2 : BitVec 32 := Scalar.remsi (Scalar.divsi (Dev.word c) 1#32) 4#32
def wordB (k : BitVec 32) : BitVec 32 := Scalar.remsi (Scalar.addi (Scalar.addi (word2 c) 1#32) k) 4#32

theorem wp_p16 {α : Type} {Q : α → sProp 𝕄}
    {kt : (Σ' (d0 : Dev nD) (v2 : BitVec 32) (v5 : BitVec 32) (v8 : BitVec 32) (v11 : BitVec 32) (v14 : BitVec 32), BitVec 32) → Prog (TpuEff nD τ sig (Elt F) Λ₀ .tc) α} :
    idle c 0 (q 0) fK fV
      ⊢ iprop((half c fK fV q -∗ wp frame (wpE (defs₀ (F := F)) 𝒱₀ (c : Thread nD τ) none) Set.univ (kt ⟨c, word2 c, wordB c 0#32, wordB c 1#32, wordB c 2#32, wordB c 3#32, Scalar.muli (word2 c) 8#32⟩) Q)
        -∗ wp frame (wpE (defs₀ (F := F)) 𝒱₀ (c : Thread nD τ) none) Set.univ (p16 >>= kt) Q) := by
  unfold idle half
  iintro ⟨⟨%wk, Hk⟩, Hv, HvK, HvV, HKa, HVa⟩ Hc
  unfold p16
  rw [k0_part16_eq_skeleton]
  unfold k0_part16_skel
  iapply (Entails.of_eq (wp_deviceId 𝒱₀ (c : Thread nD τ) none Set.univ).symm)
  iapply (wp_issue c kbM KM (semOf cc0_scratch11 0) 0 (q 0) (k0_off1 c 0#32) (k0_off1_inb c 0) fK) $$ [Hk HvK HKa]
  · isplitl [Hk]; · iexact Hk
    isplitl [HvK] <;> iassumption
  iintro HFK
  iapply Hc
  isplitl [HFK]; · iexact HFK
  isplitl [Hv]; · iexact Hv
  isplitl [HvV] <;> iassumption

theorem wp_p17 {α : Type} {Q : α → sProp 𝕄} (v15 : BitVec 32) {kt : PUnit → Prog (TpuEff nD τ sig (Elt F) Λ₀ .tc) α} :
    iprop(half c fK fV q ∗ idle c 1 (q 1) fK fV ∗ (∃ f, (vcM.view.loc (c : Thread nD τ) ↦{fullShare} f)))
      ⊢ iprop((iprop(heads c fK fV q (pr 0 c) 0 ∗ heads c fK fV q (pr 0 c) 1 ∗ vcOnes c) -∗ wp frame (wpE (defs₀ (F := F)) 𝒱₀ (c : Thread nD τ) none) Set.univ (kt ⟨⟩) Q)
        -∗ wp frame (wpE (defs₀ (F := F)) 𝒱₀ (c : Thread nD τ) none) Set.univ (p17 c v15 >>= kt) Q) := by
  unfold half idle
  iintro ⟨⟨HF0, ⟨%wv, Hv⟩, HvV, HVa⟩, ⟨⟨%wk1, Hk1⟩, ⟨%wv1, Hv1⟩, HvK1, HvV1, HKa1, HVa1⟩, Hvc⟩ Hc
  unfold p17
  rw [k0_part17_eq_skeleton]
  unfold k0_part17_skel
  iapply (wp_issue c vbM VM (semOf cc0_scratch12 0) 0 (q 0) (k0_off1 c 0#32) (k0_off1_inb c 0) fV) $$ [Hv HvV HVa]
  · isplitl [Hv]; · iexact Hv
    isplitl [HvV] <;> iassumption
  iintro HF0'
  iapply (wp_issue c kbM KM (semOf cc0_scratch11 1) 1 (q 1) (k0_off1 c 1#32) (k0_off1_inb c 1) fK) $$ [Hk1 HvK1 HKa1]
  · isplitl [Hk1]; · iexact Hk1
    isplitl [HvK1] <;> iassumption
  iintro HF1
  iapply (wp_issue c vbM VM (semOf cc0_scratch12 1) 1 (q 1) (k0_off1 c 1#32) (k0_off1_inb c 1) fV) $$ [Hv1 HvV1 HVa1]
  · isplitl [Hv1]; · iexact Hv1
    isplitl [HvV1] <;> iassumption
  iintro HF1'
  iapply (wp_ones c) $$ Hvc
  iintro Hvc
  iapply Hc
  isplitl [HF0 HF0']
  · iapply (heads_fill c fK fV q 0 (o := k0_off1 c 0#32) (h := k0_off1_inb c 0) (off1_eq c 0))
    unfold fill
    isplitl [HF0]; · iexact HF0
    iexact HF0'
  isplitl [HF1 HF1']
  · iapply (heads_fill c fK fV q 1 (o := k0_off1 c 1#32) (h := k0_off1_inb c 1) (off1_eq c 1))
    unfold fill
    isplitl [HF1]; · iexact HF1
    iexact HF1'
  iexact Hvc

theorem devEq {n k : ℕ} (h : n = (pr k c).val) (hl : n < nD) : (⟨n, hl⟩ : Dev nD) = pr k c := Fin.ext h

/-! ### The handshake and the input's exchange -/

/-- What device `c` hands peer `k` at the handshake, and pays with. -/
def hand (k : Fin 3) : sProp 𝕄 :=
  iprop((∃ w, rowAt c xgM (pr k.val c) w) ∗ (∃ w, rowAt c prM (pr k.val c) w)
    ∗ reached ER (agR c (pr k.val c)) 0 ∗ reached ER (rsR c (pr k.val c)) 0 ∗ dutyTok ER (barC (pr k.val c)) 0 (Fin.rev k))

theorem wp_hand {α : Type} {Q : α → sProp 𝕄} (k : Fin 3) {dv : Dev nD} (hdv : dv = pr k.val c) (O : CellTallies nD τ sig Unit)
    {kt : PUnit → Prog (TpuEff nD τ sig (Elt F) Λ₀ .tc) α} :
    iprop(records Xv Pv κ ∗ hand c k ∗ Ow c (O + oBar c k))
      ⊢ iprop((Ow c O -∗ wp frame (wpE (defs₀ (F := F)) 𝒱₀ (c : Thread nD τ) none) Set.univ (kt ⟨⟩) Q)
        -∗ wp frame (wpE (defs₀ (F := F)) 𝒱₀ (c : Thread nD τ) none) Set.univ
            (.op (.semSignal (dv, .tc) barrier0 (1#32).toInt) kt) Q) := by
  unfold hand
  iintro ⟨#HR, ⟨Hx, Hp, Hr1, Hr2, Ht⟩, HO⟩
  iapply (wp_barSignal Xv Pv κ c k hdv O)
  isplitr; · iexact HR
  isplitl [Hx]; · iexact Hx
  isplitl [Hp]; · iexact Hp
  isplitl [Hr1]; · iexact Hr1
  isplitl [Hr2]; · iexact Hr2
  isplitl [Ht] <;> iassumption

theorem pay_split (k : Fin 3) : barPay (F := F) c k ⊢ iprop(agDst c k ∗ rsDst c k) := by
  unfold barPay agDst rsDst
  iintro ⟨H1, H2, H3, H4⟩
  isplitl [H1 H3]
  · isplitl [H1] <;> iassumption
  · isplitl [H2] <;> iassumption

theorem wp_p18 {α : Type} {Q : α → sProp 𝕄} (v2 : BitVec 32) {kt : (Σ' (_ : BitVec 32), BitVec 32) → Prog (TpuEff nD τ sig (Elt F) Λ₀ .tc) α} :
    iprop(records Xv Pv κ ∗ levAts L lv ∗ hand c 0 ∗ hand c 1 ∗ hand c 2 ∗ cred (tallyAt (barC c) () 3) ∗ atPos ER (barC c) 0 ∅ 0
        ∗ xPart c 0 (Xv c) ∗ agTok c 0 ∗ atPos ER (agS c 0) 0 ∅ 0 ∗ Ow c (O₀ c))
      ⊢ iprop((iprop(Ow c (oS 0 c + oAg c 2 + oAg c 1) ∗ atPos ER (barC c) 1 ∅ 0 ∗ rsDst c 0 ∗ agDst c 1 ∗ rsDst c 1 ∗ agDst c 2 ∗ rsDst c 2
              ∗ due c (sem4 cc0_scratch7 0))
            -∗ wp frame (wpE (defs₀ (F := F)) 𝒱₀ (c : Thread nD τ) none) Set.univ (kt ⟨Scalar.muli (Scalar.remsi (Scalar.addi v2 2#32) 4#32) 1#32, 0#32⟩) Q)
        -∗ wp frame (wpE (defs₀ (F := F)) 𝒱₀ (c : Thread nD τ) none) Set.univ (p18 c v2 >>= kt) Q) := by
  iintro ⟨#HR, #HL, Hh0, Hh1, Hh2, Hc, Hb, Hx, Ht, Ha, HO⟩ Hk
  unfold p18
  rw [k0_part18_eq_skeleton]
  unfold k0_part18_skel O₀
  iapply (wp_hand Xv Pv κ c 0 (devEq c (dev1_eq c) (k0_dev1_lt c)) (oA c + oBar c 2 + oBar c 1)) $$ [Hh0 HO]
  · isplitr; · iexact HR
    isplitl [Hh0] <;> iassumption
  iintro HO
  iapply (wp_hand Xv Pv κ c 1 (devEq c (dev2_eq c) (k0_dev2_lt c)) (oA c + oBar c 2)) $$ [Hh1 HO]
  · isplitr; · iexact HR
    isplitl [Hh1] <;> iassumption
  iintro HO
  iapply (wp_hand Xv Pv κ c 2 (devEq c (dev3_eq c) (k0_dev3_lt c)) (oA c)) $$ [Hh2 HO]
  · isplitr; · iexact HR
    isplitl [Hh2] <;> iassumption
  iintro HO
  iapply (wp_barWait Xv Pv κ c (above_oA (by decide) c)) $$ [Hc Hb HO]
  · isplitr; · iexact HR
    isplitr; · iexact HL
    isplitl [Hc]; · iexact Hc
    isplitl [Hb] <;> iassumption
  iintro ⟨HO, Hb, Hp0, Hp1, Hp2⟩
  ihave ⟨Hd0, He0⟩ := (pay_split c 0) $$ Hp0
  ihave ⟨Hd1, He1⟩ := (pay_split c 1) $$ Hp1
  ihave ⟨Hd2, He2⟩ := (pay_split c 2) $$ Hp2
  unfold oA
  iapply (wp_agGo Xv Pv κ c 0 (devEq c (dev4_eq c) (k0_dev4_lt c)) rfl (off2_eq c) (off3_eq c) (oS 0 c + oAg c 2 + oAg c 1)) $$ [Hx Hd0 HO Ht Ha]
  · isplitr; · iexact HR
    isplitl [Hx]; · iexact Hx
    isplitl [Hd0]; · iexact Hd0
    isplitl [HO]; · iexact HO
    isplitl [Ht]; · iexact Ht
    iexact Ha
  iintro ⟨Hs, HO⟩
  iapply Hk
  isplitl [HO]; · iexact HO
  isplitl [Hb]; · iexact Hb
  isplitl [He0]; · iexact He0
  isplitl [Hd1]; · iexact Hd1
  isplitl [He1]; · iexact He1
  isplitl [Hd2]; · iexact Hd2
  isplitl [He2]; · iexact He2
  iexact Hs

theorem wp_p19 {α : Type} {Q : α → sProp 𝕄} (v2 v82 w : BitVec 32) {kt : BitVec 32 → Prog (TpuEff nD τ sig (Elt F) Λ₀ .tc) α} :
    iprop(records Xv Pv κ ∗ levAts L lv ∗ Ow c (oS 0 c + oAg c 2 + oAg c 1) ∗ agDst c 1 ∗ agDst c 2
        ∗ xPart c 1 (Xv c) ∗ agTok c 1 ∗ atPos ER (agS c 1) 0 ∅ 0 ∗ xPart c 2 (Xv c) ∗ agTok c 2 ∗ atPos ER (agS c 2) 0 ∅ 0
        ∗ xPart c 3 (Xv c) ∗ (∃ w, rowAt c xgM c w) ∗ semVal ((c : Thread nD τ), SemLoc.dma (semOf cc0_scratch13 0)) 0
        ∗ due c (sem4 cc0_scratch8 (pr 0 c)) ∗ (∃ v, accAt c v))
      ⊢ iprop((iprop(Ow c (oS 0 c) ∗ due c (sem4 cc0_scratch7 1) ∗ due c (sem4 cc0_scratch7 2) ∗ ownFly Xv c
              ∗ spent c (sem4 cc0_scratch8 (pr 0 c)) ∗ rowAt c xgM (pr 0 c) (stack (Xv (pr 0 c))) ∗ accAt c (k0_pay27 (F := F)))
            -∗ wp frame (wpE (defs₀ (F := F)) 𝒱₀ (c : Thread nD τ) none) Set.univ (kt 0#32) Q)
        -∗ wp frame (wpE (defs₀ (F := F)) 𝒱₀ (c : Thread nD τ) none) Set.univ (p19 c v2 v82 w >>= kt) Q) := by
  iintro ⟨#HR, #HL, HO, Hd1, Hd2, Hx1, Ht1, Ha1, Hx2, Ht2, Ha2, Hx3, ⟨%wr, Hw⟩, Hs, Hq, ⟨%va, Hacc⟩⟩ Hk
  unfold p19
  rw [k0_part19_eq_skeleton]
  unfold k0_part19_skel
  iapply (wp_agGo Xv Pv κ c 1 (devEq c (dev5_eq c) (k0_dev5_lt c)) rfl (off2_eq c) (off3_eq c) (oS 0 c + oAg c 2)) $$ [Hx1 Hd1 HO Ht1 Ha1]
  · isplitr; · iexact HR
    isplitl [Hx1]; · iexact Hx1
    isplitl [Hd1]; · iexact Hd1
    isplitl [HO]; · iexact HO
    isplitl [Ht1]; · iexact Ht1
    iexact Ha1
  iintro ⟨Hs1, HO⟩
  iapply (wp_agGo Xv Pv κ c 2 (devEq c (dev6_eq c) (k0_dev6_lt c)) rfl (off2_eq c) (off3_eq c) (oS 0 c)) $$ [Hx2 Hd2 HO Ht2 Ha2]
  · isplitr; · iexact HR
    isplitl [Hx2]; · iexact Hx2
    isplitl [Hd2]; · iexact Hd2
    isplitl [HO]; · iexact HO
    isplitl [Ht2]; · iexact Ht2
    iexact Ha2
  iintro ⟨Hs2, HO⟩
  iapply (wp_ownIssue Xv c (w := wr) (off3_eq c)) $$ [Hx3 Hw Hs]
  · isplitl [Hx3]; · iexact Hx3
    isplitl [Hw] <;> iassumption
  iintro Hf
  iapply (wp_agArrive Xv Pv κ c (pr 0 c) (off4_eq c 0) (above_oS (by decide) 0 c) (by rfl)) $$ [Hq HO]
  · isplitr; · iexact HR
    isplitr; · iexact HL
    isplitl [Hq] <;> iassumption
  iintro ⟨HO, Hq, Hr⟩
  iapply (wp_loadAcc c) $$ Hacc
  iintro Hacc
  iapply (wp_setAcc c (k0_pay27 (F := F))) $$ [Hacc]
  · iexists va; iexact Hacc
  iintro Hacc
  iapply Hk
  isplitl [HO]; · iexact HO
  isplitl [Hs1]; · iexact Hs1
  isplitl [Hs2]; · iexact Hs2
  isplitl [Hf]; · iexact Hf
  isplitl [Hq]; · iexact Hq
  isplitl [Hr] <;> iassumption

end Cert.KernelIdeal

end

end
-- ==== Proof.KSums.lean ====
module

public import proofs.«01_k».proof.Proof.KParts

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The kernel's pieces: the four batches, and the result -/

/-- The pieces of the kernel, at its buffers and semaphores. -/
abbrev p20 := k0_part20 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p21 := k0_part21 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p22 := k0_part22 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p23 := k0_part23 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13
abbrev p24 := k0_part24 (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13

variable (Xv : Dev nD → S512x1024.Idx → Elt F .bf16) (Pv : Dev nD → Fin 4 → S1x512x1024.Idx → Elt F .bf16) (κ : GSem nD τ sig → ℕ) (c : Dev nD)

/-- The partial sum `k` written to its slot and sent. -/
theorem wp_sumOut {α : Type} {Q : α → sProp 𝕄} (k : Fin 3) {dv : Dev nD} (hdv : dv = pr k.val c)
    {o0 : Fin 3 → ℕ} {o1 o2 : Fin 1 → ℕ} {o3 : Fin 3 → ℕ} {i0 i1 i2 i3} (e0 : o0 = ![k.val, 0, 0]) (e1 : o1 = ![k.val]) (e2 : o2 = ![c.val]) (e3 : o3 = ![c.val, 0, 0])
    {w : S1x512x1024.Idx → Elt F .bf16} (hw : w = Pv c (pr k.val c)) {g0 g1 g2} {h1 h2 h3 h4} (O : CellTallies nD τ sig Unit)
    {kt : PUnit → Prog (TpuEff nD τ sig (Elt F) Λ₀ .tc) α} :
    iprop(records Xv Pv κ ∗ (∃ w, outAt c k w) ∗ rsDst c k ∗ Ow c (O + oRs c k) ∗ rsTok c k ∗ atPos ER (rsS c (up k)) 0 ∅ 0)
      ⊢ iprop((iprop(due c (sem4 cc0_scratch9 (up k)) ∗ Ow c O)
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.load psM (p3 k).toLoadRect g0) fun _ => .op (.store psM (p3 k) w Finset.univ g1 g2) fun _ =>
              .op (.enqueueDma (outM o0 i0) (.remote (Dev.tc dv) (rowM prM o3 i3) (.dma (semAt cc0_scratch9 o1 i1)) h1) (.dma (semAt cc0_scratch10 o2 i2)) h2 h3 h4) kt) Q) := by
  subst hw
  iintro ⟨#HR, ⟨%w, Hw⟩, Hd, HO, Ht, Ha⟩ Hk
  iapply (wp_loadOut c k) $$ Hw
  iintro Hw
  iapply (wp_setOut c k (Pv c (pr k.val c))) $$ Hw
  iintro Hw
  iapply (wp_rsGo Xv Pv κ c k hdv e0 e1 e2 e3 O) $$ [Hw Hd HO Ht Ha]
  · isplitr; · iexact HR
    isplitl [Hw]; · iexact Hw
    isplitl [Hd]; · iexact Hd
    isplitl [HO]; · iexact HO
    isplitl [Ht] <;> iassumption
  iexact Hk

variable (qw : PosShare TreeShare) (fwq : S8x1024x128.Idx → Elt F .bf16) (fwo : S8x128x1024.Idx → Elt F .bf16)
  (fK fV : S4x2048x32x128.Idx → Elt F .f32) (q : Fin 2 → PosShare TreeShare)

/-- What sending the partial sum `k` uses. -/
def sending (k : Fin 3) : sProp 𝕄 :=
  iprop((∃ w, outAt c k w) ∗ rsDst c k ∗ rsTok c k ∗ atPos ER (rsS c (up k)) 0 ∅ 0)

/-- The partial sum of batch `b`, as device `c` sends it. -/
abbrev sumOf (b : Fin 4) (X : S1x512x1024.Idx → Elt F .bf16) : S1x512x1024.Idx → Elt F .bf16 :=
  k0_pay28 (accN c fwq fwo fK fV b X 8)

theorem wp_p20 {α : Type} {Q : α → sProp 𝕄} (v5 v8 v15 w : BitVec 32) (hP : Pv c (pr 0 c) = sumOf c fwq fwo fK fV (pr 0 c) (stack (Xv (pr 0 c))))
    {kt : PUnit → Prog (TpuEff nD τ sig (Elt F) Λ₀ .tc) α} :
    iprop(records Xv Pv κ ∗ levAts L lv ∗ ready c qw fwq fwo fK fV q (pr 0 c) (stack (Xv (pr 0 c))) (oS 0 c) ∗ sending c 0
        ∗ due c (sem4 cc0_scratch8 (pr 1 c)))
      ⊢ iprop((iprop(worked c qw fwq fwo fK fV (pr 1 c) (stack (Xv (pr 1 c))) (oS 1 c) (fun s => heads c fK fV q (pr 2 c) s)
              ∗ rowAt c xgM (pr 0 c) (stack (Xv (pr 0 c))) ∗ due c (sem4 cc0_scratch9 0) ∗ spent c (sem4 cc0_scratch8 (pr 1 c)))
            -∗ wp frame (wpE (defs₀ (F := F)) 𝒱₀ (c : Thread nD τ) none) Set.univ (kt ⟨⟩) Q)
        -∗ wp frame (wpE (defs₀ (F := F)) 𝒱₀ (c : Thread nD τ) none) Set.univ (p20 c v5 v8 v15 w >>= kt) Q) := by
  iintro ⟨#HR, #HL, Hr, Hs, Hd⟩ Hk
  unfold p20
  rw [k0_part20_eq_skeleton]
  unfold k0_part20_skel
  rw [wp_bind]
  ihave Ht := (tinv_first c qw fwq fwo fK fV q (pr 0 c) (stack (Xv (pr 0 c))) (oS 0 c) (fun s => heads c fK fV q (pr 1 c) s)) $$ Hr
  iapply (wp_loop1 c qw fwq fwo fK fV q (stack (Xv (pr 0 c))) (may_k c (above_oS (by decide) 0 c)) (may_v c (above_oS (by decide) 0 c)) v5 v8 v15 w) $$ [Ht]
  · isplitl [Ht]; · iexact Ht
    iexact HL
  iintro Ht
  ihave Ht := (tinv_last c qw fwq fwo fK fV q (pr 0 c) (stack (Xv (pr 0 c))) (oS 0 c) (fun s => heads c fK fV q (pr 1 c) s)) $$ Ht
  unfold worked sending
  icases Ht with ⟨HN0, HN1, Hvc, Hx, Hw, Hacc, HO⟩
  icases Hs with ⟨Ho, Hrd, Hrt, Hra⟩
  iapply (wp_loadAcc c) $$ Hacc
  iintro Hacc
  iapply (wp_sumOut Xv Pv κ c 0 (devEq c (dev7_eq c) (k0_dev7_lt c)) rfl rfl (off2_eq c) (off3_eq c) hP.symm (oS 1 c)) $$ [Ho Hrd HO Hrt Hra]
  · isplitr; · iexact HR
    isplitl [Ho]; · iexact Ho
    isplitl [Hrd]; · iexact Hrd
    isplitl [HO]; · iexact HO
    isplitl [Hrt]; · iexact Hrt
    iexact Hra
  iintro ⟨Hds, HO⟩
  iapply (wp_agArrive Xv Pv κ c (pr 1 c) (off4_eq c 1) (above_oS (by decide) 1 c) (by rfl)) $$ [Hd HO]
  · isplitr; · iexact HR
    isplitr; · iexact HL
    isplitl [Hd] <;> iassumption
  iintro ⟨HO, Hsp, Hx1⟩
  iapply (wp_loadAcc c) $$ Hacc
  iintro Hacc
  iapply (wp_setAcc c (k0_pay29 (F := F))) $$ [Hacc]
  · iexists _; iexact Hacc
  iintro Hacc
  ihave Ht := (tinv_first c qw fwq fwo fK fV q (pr 1 c) (stack (Xv (pr 1 c))) (oS 1 c) (fun s => heads c fK fV q (pr 2 c) s)) $$ [HN0 HN1 Hvc Hx1 Hw Hacc HO]
  · unfold ready
    isplitl [HN0]; · iexact HN0
    isplitl [HN1]; · iexact HN1
    isplitl [Hvc]; · iexact Hvc
    isplitl [Hx1]; · iexact Hx1
    isplitl [Hw]; · iexact Hw
    isplitl [Hacc]; · iexact Hacc
    iexact HO
  iapply (wp_loop2 c qw fwq fwo fK fV q (stack (Xv (pr 1 c))) (may_k c (above_oS (by decide) 1 c)) (may_v c (above_oS (by decide) 1 c)) v5 v8 v15 w) $$ [Ht]
  · isplitl [Ht]; · iexact Ht
    iexact HL
  iintro Ht
  ihave Ht := (tinv_last c qw fwq fwo fK fV q (pr 1 c) (stack (Xv (pr 1 c))) (oS 1 c) (fun s => heads c fK fV q (pr 2 c) s)) $$ Ht
  rw [wp_pure]
  imodintro
  iapply Hk
  isplitl [Ht]; · unfold worked; iexact Ht
  isplitl [Hx]; · iexact Hx
  isplitl [Hds]; · iexact Hds
  iexact Hsp

theorem wp_p21 {α : Type} {Q : α → sProp 𝕄} (v8 v11 v15 : BitVec 32) (hP : Pv c (pr 1 c) = sumOf c fwq fwo fK fV (pr 1 c) (stack (Xv (pr 1 c))))
    {kt : Vec F S512x1024 .f32 → Prog (TpuEff nD τ sig (Elt F) Λ₀ .tc) α} :
    iprop(records Xv Pv κ ∗ levAts L lv ∗ worked c qw fwq fwo fK fV (pr 1 c) (stack (Xv (pr 1 c))) (oS 1 c) (fun s => heads c fK fV q (pr 2 c) s) ∗ sending c 1
        ∗ due c (sem4 cc0_scratch8 (pr 2 c)))
      ⊢ iprop((iprop(worked c qw fwq fwo fK fV (pr 2 c) (stack (Xv (pr 2 c))) (oS 2 c) (fun s => heads c fK fV q (pr 3 c) s)
              ∗ rowAt c xgM (pr 1 c) (stack (Xv (pr 1 c))) ∗ due c (sem4 cc0_scratch9 1) ∗ spent c (sem4 cc0_scratch8 (pr 2 c)))
            -∗ wp frame (wpE (defs₀ (F := F)) 𝒱₀ (c : Thread nD τ) none) Set.univ (kt (accN c fwq fwo fK fV (pr 2 c) (stack (Xv (pr 2 c))) 8)) Q)
        -∗ wp frame (wpE (defs₀ (F := F)) 𝒱₀ (c : Thread nD τ) none) Set.univ (p21 c v8 v11 v15 >>= kt) Q) := by
  unfold worked sending
  iintro ⟨#HR, #HL, ⟨HN0, HN1, Hvc, Hx, Hw, Hacc, HO⟩, ⟨Ho, Hrd, Hrt, Hra⟩, Hd⟩ Hk
  unfold p21
  rw [k0_part21_eq_skeleton]
  unfold k0_part21_skel
  rw [wp_bind]
  iapply (wp_loadAcc c) $$ Hacc
  iintro Hacc
  iapply (wp_sumOut Xv Pv κ c 1 (devEq c (dev8_eq c) (k0_dev8_lt c)) rfl rfl (off2_eq c) (off3_eq c) hP.symm (oS 2 c)) $$ [Ho Hrd HO Hrt Hra]
  · isplitr; · iexact HR
    isplitl [Ho]; · iexact Ho
    isplitl [Hrd]; · iexact Hrd
    isplitl [HO]; · iexact HO
    isplitl [Hrt]; · iexact Hrt
    iexact Hra
  iintro ⟨Hds, HO⟩
  iapply (wp_agArrive Xv Pv κ c (pr 2 c) (off4_eq c 2) (above_oS (by decide) 2 c) (by rfl)) $$ [Hd HO]
  · isplitr; · iexact HR
    isplitr; · iexact HL
    isplitl [Hd] <;> iassumption
  iintro ⟨HO, Hsp, Hx1⟩
  iapply (wp_loadAcc c) $$ Hacc
  iintro Hacc
  iapply (wp_setAcc c (k0_pay31 (F := F))) $$ [Hacc]
  · iexists _; iexact Hacc
  iintro Hacc
  ihave Ht := (tinv_first c qw fwq fwo fK fV q (pr 2 c) (stack (Xv (pr 2 c))) (oS 2 c) (fun s => heads c fK fV q (pr 3 c) s)) $$ [HN0 HN1 Hvc Hx1 Hw Hacc HO]
  · unfold ready
    isplitl [HN0]; · iexact HN0
    isplitl [HN1]; · iexact HN1
    isplitl [Hvc]; · iexact Hvc
    isplitl [Hx1]; · iexact Hx1
    isplitl [Hw]; · iexact Hw
    isplitl [Hacc]; · iexact Hacc
    iexact HO
  iapply (wp_loop3 c qw fwq fwo fK fV q (stack (Xv (pr 2 c))) (may_k c (above_oS (by decide) 2 c)) (may_v c (above_oS (by decide) 2 c)) v8 v11 v15) $$ [Ht]
  · isplitl [Ht]; · iexact Ht
    iexact HL
  iintro Ht
  ihave Ht := (tinv_last c qw fwq fwo fK fV q (pr 2 c) (stack (Xv (pr 2 c))) (oS 2 c) (fun s => heads c fK fV q (pr 3 c) s)) $$ Ht
  unfold worked
  icases Ht with ⟨HN0, HN1, Hvc, Hx1, Hw, Hacc, HO⟩
  iapply (wp_loadAcc c) $$ Hacc
  iintro Hacc
  rw [wp_ret]
  imodintro
  iapply Hk
  isplitl [HN0 HN1 Hvc Hx1 Hw Hacc HO]
  · isplitl [HN0]; · iexact HN0
    isplitl [HN1]; · iexact HN1
    isplitl [Hvc]; · iexact Hvc
    isplitl [Hx1]; · iexact Hx1
    isplitl [Hw]; · iexact Hw
    isplitl [Hacc]; · iexact Hacc
    iexact HO
  isplitl [Hx]; · iexact Hx
  isplitl [Hds]; · iexact Hds
  iexact Hsp

/-- The device itself is the fourth batch's owner. -/
theorem own_row : rowAt c xgM c (stack (Xv c)) ⊢ rowAt c xgM (pr 3 c) (stack (Xv (pr 3 c))) :=
  Entails.of_eq (by rw [pr_three])

theorem own_back : rowAt c xgM (pr 3 c) (stack (Xv (pr 3 c))) ⊢ rowAt c xgM c (stack (Xv c)) :=
  Entails.of_eq (by rw [pr_three])

theorem wp_p22 {α : Type} {Q : α → sProp 𝕄} (v11 v14 v15 : BitVec 32) (hP : Pv c (pr 2 c) = sumOf c fwq fwo fK fV (pr 2 c) (stack (Xv (pr 2 c))))
    {kt : PUnit → Prog (TpuEff nD τ sig (Elt F) Λ₀ .tc) α} :
    iprop(records Xv Pv κ ∗ levAts L lv ∗ worked c qw fwq fwo fK fV (pr 2 c) (stack (Xv (pr 2 c))) (oS 2 c) (fun s => heads c fK fV q (pr 3 c) s) ∗ sending c 2
        ∗ ownFly Xv c)
      ⊢ iprop((iprop(worked c qw fwq fwo fK fV (pr 3 c) (stack (Xv (pr 3 c))) (oS 3 c) (fun s => idle c s (q s) fK fV)
              ∗ rowAt c xgM (pr 2 c) (stack (Xv (pr 2 c))) ∗ due c (sem4 cc0_scratch9 2) ∗ xPart c 3 (Xv c)
              ∗ semVal ((c : Thread nD τ), SemLoc.dma (semOf cc0_scratch13 0)) 0)
            -∗ wp frame (wpE (defs₀ (F := F)) 𝒱₀ (c : Thread nD τ) none) Set.univ (kt ⟨⟩) Q)
        -∗ wp frame (wpE (defs₀ (F := F)) 𝒱₀ (c : Thread nD τ) none) Set.univ
            (p22 c v11 v14 v15 (accN c fwq fwo fK fV (pr 2 c) (stack (Xv (pr 2 c))) 8) >>= kt) Q) := by
  unfold worked sending
  iintro ⟨#HR, #HL, ⟨HN0, HN1, Hvc, Hx, Hw, Hacc, HO⟩, ⟨Ho, Hrd, Hrt, Hra⟩, Hd⟩ Hk
  unfold p22
  rw [k0_part22_eq_skeleton]
  unfold k0_part22_skel
  rw [wp_bind]
  iapply (wp_sumOut Xv Pv κ c 2 (devEq c (dev9_eq c) (k0_dev9_lt c)) rfl rfl (off2_eq c) (off3_eq c) hP.symm (oS 3 c)) $$ [Ho Hrd HO Hrt Hra]
  · isplitr; · iexact HR
    isplitl [Ho]; · iexact Ho
    isplitl [Hrd]; · iexact Hrd
    isplitl [HO]; · iapply (Entails.of_eq (congrArg (Ow c) (show oS 2 c = oS 3 c + oRs c 2 from (zero_add (oRs c 2)).symm))) $$ HO
    isplitl [Hrt]; · iexact Hrt
    iexact Hra
  iintro ⟨Hds, HO⟩
  iapply (wp_ownLand Xv c (by rfl) (O := oS 3 c) (Above.zero _)) $$ [Hd HO]
  · isplitl [Hd]; · iexact Hd
    isplitr; · iexact HL
    iexact HO
  iintro ⟨Hx1, Hx3, Hsv, HO⟩
  ihave Hx1 := (own_row Xv c) $$ Hx1
  iapply (wp_loadAcc c) $$ Hacc
  iintro Hacc
  iapply (wp_setAcc c (k0_pay33 (F := F))) $$ [Hacc]
  · iexists _; iexact Hacc
  iintro Hacc
  ihave Ht := (tinv_first c qw fwq fwo fK fV q (pr 3 c) (stack (Xv (pr 3 c))) (oS 3 c) (fun s => idle c s (q s) fK fV)) $$ [HN0 HN1 Hvc Hx1 Hw Hacc HO]
  · unfold ready
    isplitl [HN0]; · iexact HN0
    isplitl [HN1]; · iexact HN1
    isplitl [Hvc]; · iexact Hvc
    isplitl [Hx1]; · iexact Hx1
    isplitl [Hw]; · iexact Hw
    isplitl [Hacc]; · iexact Hacc
    iexact HO
  iapply (wp_loop4 c qw fwq fwo fK fV q (stack (Xv (pr 3 c))) (may_k c (O := oS 3 c) (Above.zero _)) (may_v c (O := oS 3 c) (Above.zero _)) v11 v14 v15 _) $$ [Ht]
  · isplitl [Ht]; · iexact Ht
    iexact HL
  iintro Ht
  ihave Ht := (tinv_last c qw fwq fwo fK fV q (pr 3 c) (stack (Xv (pr 3 c))) (oS 3 c) (fun s => idle c s (q s) fK fV)) $$ Ht
  rw [wp_pure]
  imodintro
  iapply Hk
  isplitl [Ht]; · unfold worked; iexact Ht
  isplitl [Hx]; · iexact Hx
  isplitl [Hds]; · iexact Hds
  isplitl [Hx3]; · iexact Hx3
  iexact Hsv

/-! ### The result -/

theorem wp_p23 {α : Type} {Q : α → sProp 𝕄} (v5 v8 v11 : BitVec 32) {v : S512x1024.Idx → Elt F .f32}
    {kt : (Σ' (_ : FVec F S512x1024 .f32), FVec F S512x1024 .f32) → Prog (TpuEff nD τ sig (Elt F) Λ₀ .tc) α} :
    iprop(records Xv Pv κ ∗ levAts L lv ∗ Ow c (oS 3 c) ∗ due c (sem4 cc0_scratch10 (pr 0 c)) ∗ due c (sem4 cc0_scratch10 (pr 1 c))
        ∗ due c (sem4 cc0_scratch10 (pr 2 c)) ∗ accAt c v)
      ⊢ iprop((iprop(Ow c (oS 3 c) ∗ spent c (sem4 cc0_scratch10 (pr 0 c)) ∗ spent c (sem4 cc0_scratch10 (pr 1 c)) ∗ spent c (sem4 cc0_scratch10 (pr 2 c))
              ∗ rowAt c prM (pr 0 c) (Pv (pr 0 c) c) ∗ rowAt c prM (pr 1 c) (Pv (pr 1 c) c) ∗ rowAt c prM (pr 2 c) (Pv (pr 2 c) c) ∗ accAt c v)
            -∗ wp frame (wpE (defs₀ (F := F)) 𝒱₀ (c : Thread nD τ) none) Set.univ (kt ⟨k0_pay35 v (Pv (pr 0 c) c), k0_pay36 (Pv (pr 1 c) c)⟩) Q)
        -∗ wp frame (wpE (defs₀ (F := F)) 𝒱₀ (c : Thread nD τ) none) Set.univ (p23 c v5 v8 v11 >>= kt) Q) := by
  iintro ⟨#HR, #HL, HO, Hd0, Hd1, Hd2, Hacc⟩ Hk
  unfold p23
  rw [k0_part23_eq_skeleton]
  unfold k0_part23_skel
  iapply (wp_rsArrive Xv Pv κ c (pr 0 c) (off4_eq c 0) (O := oS 3 c) (Above.zero _) (by rfl)) $$ [Hd0 HO]
  · isplitr; · iexact HR
    isplitr; · iexact HL
    isplitl [Hd0] <;> iassumption
  iintro ⟨HO, Hs0, Hr0⟩
  iapply (wp_rsArrive Xv Pv κ c (pr 1 c) (off4_eq c 1) (O := oS 3 c) (Above.zero _) (by rfl)) $$ [Hd1 HO]
  · isplitr; · iexact HR
    isplitr; · iexact HL
    isplitl [Hd1] <;> iassumption
  iintro ⟨HO, Hs1, Hr1⟩
  iapply (wp_rsArrive Xv Pv κ c (pr 2 c) (off4_eq c 2) (O := oS 3 c) (Above.zero _) (by rfl)) $$ [Hd2 HO]
  · isplitr; · iexact HR
    isplitr; · iexact HL
    isplitl [Hd2] <;> iassumption
  iintro ⟨HO, Hs2, Hr2⟩
  iapply (wp_loadAcc c) $$ Hacc
  iintro Hacc
  iapply (wp_loadRow c prM (pr 0 c) (off32_eq c 0)) $$ Hr0
  iintro Hr0
  iapply (wp_loadRow c prM (pr 1 c) (off32_eq c 1)) $$ Hr1
  iintro Hr1
  iapply Hk
  isplitl [HO]; · iexact HO
  isplitl [Hs0]; · iexact Hs0
  isplitl [Hs1]; · iexact Hs1
  isplitl [Hs2]; · iexact Hs2
  isplitl [Hr0]; · iexact Hr0
  isplitl [Hr1]; · iexact Hr1
  isplitl [Hr2]; · iexact Hr2
  iexact Hacc

theorem wp_p24 {α : Type} {Q : α → sProp 𝕄} (v220 v224 : FVec F S512x1024 .f32) {p : S1x512x1024.Idx → Elt F .bf16}
    {kt : PUnit → Prog (TpuEff nD τ sig (Elt F) Λ₀ .tc) α} :
    iprop(records Xv Pv κ ∗ levAts L lv ∗ Ow c (oS 3 c) ∗ rowAt c prM (pr 2 c) p ∗ (∃ f, (oM.view.loc (c : Thread nD τ) ↦{fullShare} f))
        ∗ due c (sem4 cc0_scratch7 0) ∗ due c (sem4 cc0_scratch7 1) ∗ due c (sem4 cc0_scratch7 2))
      ⊢ iprop((iprop(Ow c (oS 3 c) ∗ rowAt c prM (pr 2 c) p ∗ (oM.view.loc (c : Thread nD τ) ↦{fullShare} k0_pay37 v220 v224 p)
              ∗ spent c (sem4 cc0_scratch7 0) ∗ spent c (sem4 cc0_scratch7 1) ∗ spent c (sem4 cc0_scratch7 2) ∗ xPart c 0 (Xv c) ∗ xPart c 1 (Xv c) ∗ xPart c 2 (Xv c))
            -∗ wp frame (wpE (defs₀ (F := F)) 𝒱₀ (c : Thread nD τ) none) Set.univ (kt ⟨⟩) Q)
        -∗ wp frame (wpE (defs₀ (F := F)) 𝒱₀ (c : Thread nD τ) none) Set.univ (p24 c v220 v224 >>= kt) Q) := by
  iintro ⟨#HR, #HL, HO, Hr2, Hout, Hd0, Hd1, Hd2⟩ Hk
  unfold p24
  rw [k0_part24_eq_skeleton]
  unfold k0_part24_skel
  iapply (wp_loadRow c prM (pr 2 c) (off32_eq c 2)) $$ Hr2
  iintro Hr2
  iapply (wp_setRes c (k0_pay37 v220 v224 p)) $$ Hout
  iintro Hout
  iapply (wp_agSent Xv Pv κ c 0 (O := oS 3 c) (Above.zero _) (by rfl)) $$ [Hd0 HO]
  · isplitr; · iexact HR
    isplitr; · iexact HL
    isplitl [Hd0] <;> iassumption
  iintro ⟨HO, Hs0, Hx0⟩
  iapply (wp_agSent Xv Pv κ c 1 (O := oS 3 c) (Above.zero _) (by rfl)) $$ [Hd1 HO]
  · isplitr; · iexact HR
    isplitr; · iexact HL
    isplitl [Hd1] <;> iassumption
  iintro ⟨HO, Hs1, Hx1⟩
  iapply (wp_agSent Xv Pv κ c 2 (O := oS 3 c) (Above.zero _) (by rfl)) $$ [Hd2 HO]
  · isplitr; · iexact HR
    isplitr; · iexact HL
    isplitl [Hd2] <;> iassumption
  iintro ⟨HO, Hs2, Hx2⟩
  iapply Hk
  isplitl [HO]; · iexact HO
  isplitl [Hr2]; · iexact Hr2
  isplitl [Hout]; · iexact Hout
  isplitl [Hs0]; · iexact Hs0
  isplitl [Hs1]; · iexact Hs1
  isplitl [Hs2]; · iexact Hs2
  isplitl [Hx0]; · iexact Hx0
  isplitl [Hx1]; · iexact Hx1
  iexact Hx2

end Cert.KernelIdeal

end

end
-- ==== Proof.KBody.lean ====
module

public import proofs.«01_k».proof.Proof.KSums

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The kernel's body, whole -/

/-- The kernel at its buffers and semaphores. -/
abbrev body₀ := cc0_body (F := F) xM (Memref.isWhole_whole _) wqM (Memref.isWhole_whole _) woM (Memref.isWhole_whole _) KM (Memref.isWhole_whole _) VM (Memref.isWhole_whole _) oM (Memref.isWhole_whole _) xgM (Memref.isWhole_whole _) kbM (Memref.isWhole_whole _) vbM (Memref.isWhole_whole _) vcM (Memref.isWhole_whole _) paM (Memref.isWhole_whole _) psM (Memref.isWhole_whole _) prM (Memref.isWhole_whole _) cc0_scratch7 cc0_scratch8 cc0_scratch9 cc0_scratch10 cc0_scratch11 cc0_scratch12 cc0_scratch13

variable (Xv : Dev nD → S512x1024.Idx → Elt F .bf16) (Pv : Dev nD → Fin 4 → S1x512x1024.Idx → Elt F .bf16) (κ : GSem nD τ sig → ℕ) (c : Dev nD)
variable (qw : PosShare TreeShare) (fwq : S8x1024x128.Idx → Elt F .bf16) (fwo : S8x128x1024.Idx → Elt F .bf16)
  (fK fV : S4x2048x32x128.Idx → Elt F .f32) (q : Fin 2 → PosShare TreeShare)

/-- One assertion per peer. -/
abbrev each3 (P : Fin 3 → sProp 𝕄) : sProp 𝕄 := iprop(P 0 ∗ P 1 ∗ P 2)

/-- The exchange's part of what the body starts from: the records and levels, what is owed, the waits to come, and what each signal and send uses. -/
def talkIn : sProp 𝕄 :=
  iprop(records Xv Pv κ ∗ levAts L lv ∗ Ow c (O₀ c) ∗ cred (tallyAt (barC c) () 3) ∗ atPos ER (barC c) 0 ∅ 0
    ∗ each3 (fun k => hand c k) ∗ each3 (fun k => agTok c k) ∗ each3 (fun k => atPos ER (agS c (up k)) 0 ∅ 0)
    ∗ each3 (fun k => due c (sem4 cc0_scratch8 (pr k.val c))) ∗ each3 (fun k => rsTok c k) ∗ each3 (fun k => atPos ER (rsS c (up k)) 0 ∅ 0)
    ∗ each3 (fun k => due c (sem4 cc0_scratch10 (pr k.val c))))

/-- What the body keeps to itself, before and after: its own row, the slots, the scratch buffers, the second copy semaphore, the operands. -/
def homeIn : sProp 𝕄 :=
  iprop(each3 (fun k => iprop(∃ w, outAt c k w)) ∗ (∃ v, accAt c v) ∗ (∃ f, (vcM.view.loc (c : Thread nD τ) ↦{fullShare} f))
    ∗ idle c 0 (q 0) fK fV ∗ idle c 1 (q 1) fK fV ∗ semVal ((c : Thread nD τ), SemLoc.dma (semOf cc0_scratch13 0)) 0
    ∗ (xPart c 0 (Xv c) ∗ xPart c 1 (Xv c) ∗ xPart c 2 (Xv c) ∗ xPart c 3 (Xv c)) ∗ wts c qw fwq fwo)

/-- The exchange's part of what the body ends with: every semaphore at zero, nothing owed, the rows back. -/
def talkOut : sProp 𝕄 :=
  iprop(Ow c 0 ∗ semVal (barC c) 0 ∗ each3 (fun k => semVal (agS c (up k)) 0) ∗ each3 (fun k => semVal (agR c (pr k.val c)) 0)
    ∗ each3 (fun k => semVal (rsS c (up k)) 0) ∗ each3 (fun k => semVal (rsR c (pr k.val c)) 0)
    ∗ each3 (fun k => iprop(∃ w, rowAt c xgM (pr k.val c) w)) ∗ each3 (fun k => iprop(∃ w, rowAt c prM (pr k.val c) w)))

/-- The result of device `c`: its own partial sum, and the three received. -/
def resOf : S1x512x1024.Idx → Elt F .f32 :=
  k0_pay37 (k0_pay35 (accN c fwq fwo fK fV (pr 3 c) (stack (Xv (pr 3 c))) 8) (Pv (pr 0 c) c)) (k0_pay36 (Pv (pr 1 c) c)) (Pv (pr 2 c) c)

theorem wp_body {Q : PUnit → sProp 𝕄} (hP : ∀ k : Fin 3, Pv c (pr k.val c) = sumOf c fwq fwo fK fV (pr k.val c) (stack (Xv (pr k.val c)))) :
    iprop(talkIn Xv Pv κ c ∗ homeIn Xv c qw fwq fwo fK fV q ∗ (∃ w, rowAt c xgM c w) ∗ (∃ f, (oM.view.loc (c : Thread nD τ) ↦{fullShare} f)))
      ⊢ iprop((iprop(talkOut c ∗ homeIn Xv c qw fwq fwo fK fV q ∗ (∃ w, rowAt c xgM c w)
              ∗ (oM.view.loc (c : Thread nD τ) ↦{fullShare} resOf Xv Pv c fwq fwo fK fV)) -∗ Q ⟨⟩)
        -∗ wp frame (wpE (defs₀ (F := F)) 𝒱₀ (c : Thread nD τ) none) Set.univ body₀ Q) := by
  unfold talkIn homeIn
  iintro ⟨⟨#HR, #HL, HO, HcB, HaB, ⟨Hh0, Hh1, Hh2⟩, ⟨Ht0, Ht1, Ht2⟩, ⟨Hp0, Hp1, Hp2⟩, ⟨Hd0, Hd1, Hd2⟩, ⟨Hu0, Hu1, Hu2⟩, ⟨Hq0, Hq1, Hq2⟩, ⟨He0, He1, He2⟩⟩,
    ⟨⟨Ho0, Ho1, Ho2⟩, Hacc, Hvc, Hi0, Hi1, Hsv, ⟨Hx0, Hx1, Hx2, Hx3⟩, Hw⟩, Hown, Hout⟩ Hk
  unfold body₀
  rw [cc0_body_eq_skeleton]
  unfold cc0_body_skel
  iapply (wp_p16 c fK fV q) $$ Hi0
  iintro Hi0
  iapply (wp_p17 c fK fV q _) $$ [Hi0 Hi1 Hvc]
  · isplitl [Hi0]; · iexact Hi0
    isplitl [Hi1] <;> iassumption
  iintro ⟨Hf0, Hf1, Hvc⟩
  iapply (wp_p18 Xv Pv κ c _) $$ [HO HcB HaB Hh0 Hh1 Hh2 Hx0 Ht0 Hp0]
  · isplitr; · iexact HR
    isplitr; · iexact HL
    isplitl [Hh0]; · iexact Hh0
    isplitl [Hh1]; · iexact Hh1
    isplitl [Hh2]; · iexact Hh2
    isplitl [HcB]; · iexact HcB
    isplitl [HaB]; · iexact HaB
    isplitl [Hx0]; · iexact Hx0
    isplitl [Ht0]; · iexact Ht0
    isplitl [Hp0]; · iexact Hp0
    iexact HO
  iintro ⟨HO, HaB, Hr0, Hg1, Hr1, Hg2, Hr2, Hs0⟩
  iapply (wp_p19 Xv Pv κ c _ _ _) $$ [HO Hg1 Hg2 Hx1 Ht1 Hp1 Hx2 Ht2 Hp2 Hx3 Hown Hsv Hd0 Hacc]
  · isplitr; · iexact HR
    isplitr; · iexact HL
    isplitl [HO]; · iexact HO
    isplitl [Hg1]; · iexact Hg1
    isplitl [Hg2]; · iexact Hg2
    isplitl [Hx1]; · iexact Hx1
    isplitl [Ht1]; · iexact Ht1
    isplitl [Hp1]; · iexact Hp1
    isplitl [Hx2]; · iexact Hx2
    isplitl [Ht2]; · iexact Ht2
    isplitl [Hp2]; · iexact Hp2
    isplitl [Hx3]; · iexact Hx3
    isplitl [Hown]; · iexact Hown
    isplitl [Hsv]; · iexact Hsv
    isplitl [Hd0]; · iexact Hd0
    iexact Hacc
  iintro ⟨HO, Hs1, Hs2, Hfly, Hz0, Hx0r, Hacc⟩
  iapply (wp_p20 Xv Pv κ c qw fwq fwo fK fV q _ _ _ _ (hP 0)) $$ [Hf0 Hf1 Hvc Hx0r Hw Hacc HO Ho0 Hr0 Hu0 Hq0 Hd1]
  · isplitr; · iexact HR
    isplitr; · iexact HL
    isplitl [Hf0 Hf1 Hvc Hx0r Hw Hacc HO]
    · unfold ready
      isplitl [Hf0]; · iexact Hf0
      isplitl [Hf1]; · iexact Hf1
      isplitl [Hvc]; · iexact Hvc
      isplitl [Hx0r]; · iexact Hx0r
      isplitl [Hw]; · iexact Hw
      isplitl [Hacc]; · iexact Hacc
      iexact HO
    isplitl [Ho0 Hr0 Hu0 Hq0]
    · unfold sending
      isplitl [Ho0]; · iexact Ho0
      isplitl [Hr0]; · iexact Hr0
      isplitl [Hu0]; · iexact Hu0
      iexact Hq0
    iexact Hd1
  iintro ⟨HW, Hx0r, Hy0, Hz1⟩
  iapply (wp_p21 Xv Pv κ c qw fwq fwo fK fV q _ _ _ (hP 1)) $$ [HW Ho1 Hr1 Hu1 Hq1 Hd2]
  · isplitr; · iexact HR
    isplitr; · iexact HL
    isplitl [HW]; · iexact HW
    isplitl [Ho1 Hr1 Hu1 Hq1]
    · unfold sending
      isplitl [Ho1]; · iexact Ho1
      isplitl [Hr1]; · iexact Hr1
      isplitl [Hu1]; · iexact Hu1
      iexact Hq1
    iexact Hd2
  iintro ⟨HW, Hx1r, Hy1, Hz2⟩
  iapply (wp_p22 Xv Pv κ c qw fwq fwo fK fV q _ _ _ (hP 2)) $$ [HW Ho2 Hr2 Hu2 Hq2 Hfly]
  · isplitr; · iexact HR
    isplitr; · iexact HL
    isplitl [HW]; · iexact HW
    isplitl [Ho2 Hr2 Hu2 Hq2]
    · unfold sending
      isplitl [Ho2]; · iexact Ho2
      isplitl [Hr2]; · iexact Hr2
      isplitl [Hu2]; · iexact Hu2
      iexact Hq2
    iexact Hfly
  iintro ⟨HW, Hx2r, Hy2, Hx3, Hsv⟩
  unfold worked
  icases HW with ⟨Hi0, Hi1, Hvc, Hx3r, Hw, Hacc, HO⟩
  iapply (wp_p23 Xv Pv κ c _ _ _) $$ [HO He0 He1 He2 Hacc]
  · isplitr; · iexact HR
    isplitr; · iexact HL
    isplitl [HO]; · iexact HO
    isplitl [He0]; · iexact He0
    isplitl [He1]; · iexact He1
    isplitl [He2]; · iexact He2
    iexact Hacc
  iintro ⟨HO, He0, He1, He2, Hv0, Hv1, Hv2, Hacc⟩
  iapply (wp_p24 Xv Pv κ c _ _) $$ [HO Hv2 Hout Hs0 Hs1 Hs2]
  · isplitr; · iexact HR
    isplitr; · iexact HL
    isplitl [HO]; · iexact HO
    isplitl [Hv2]; · iexact Hv2
    isplitl [Hout]; · iexact Hout
    isplitl [Hs0]; · iexact Hs0
    isplitl [Hs1]; · iexact Hs1
    iexact Hs2
  iintro ⟨HO, Hv2, Hout, Hs0, Hs1, Hs2, Hx0, Hx1, Hx2⟩
  iapply (wp_rsSent Xv Pv κ c 0 (O := oS 3 c) (Above.zero _) (by rfl)) $$ [Hy0 HO]
  · isplitr; · iexact HR
    isplitr; · iexact HL
    isplitl [Hy0]; · iexact Hy0
    iexact HO
  iintro ⟨HO, Hy0, Ho0⟩
  iapply (wp_rsSent Xv Pv κ c 1 (O := oS 3 c) (Above.zero _) (by rfl)) $$ [Hy1 HO]
  · isplitr; · iexact HR
    isplitr; · iexact HL
    isplitl [Hy1]; · iexact Hy1
    iexact HO
  iintro ⟨HO, Hy1, Ho1⟩
  iapply (wp_rsSent Xv Pv κ c 2 (O := oS 3 c) (Above.zero _) (by rfl)) $$ [Hy2 HO]
  · isplitr; · iexact HR
    isplitr; · iexact HL
    isplitl [Hy2]; · iexact Hy2
    iexact HO
  iintro ⟨HO, Hy2, Ho2⟩
  dsimp only [Prog.bind]
  rw [wp_pure]
  imod (close_bar Xv Pv κ c) $$ [HaB] with HaB
  · isplitr; · iexact HR
    iexact HaB
  imod (close_copy Xv Pv κ c _ (in_agS 0)) $$ [Hs0] with Hs0
  · isplitr; · iexact HR
    iexact Hs0
  imod (close_copy Xv Pv κ c _ (in_agS 1)) $$ [Hs1] with Hs1
  · isplitr; · iexact HR
    iexact Hs1
  imod (close_copy Xv Pv κ c _ (in_agS 2)) $$ [Hs2] with Hs2
  · isplitr; · iexact HR
    iexact Hs2
  imod (close_copy Xv Pv κ c _ (in_agR (pr 0 c))) $$ [Hz0] with Hz0
  · isplitr; · iexact HR
    iexact Hz0
  imod (close_copy Xv Pv κ c _ (in_agR (pr 1 c))) $$ [Hz1] with Hz1
  · isplitr; · iexact HR
    iexact Hz1
  imod (close_copy Xv Pv κ c _ (in_agR (pr 2 c))) $$ [Hz2] with Hz2
  · isplitr; · iexact HR
    iexact Hz2
  imod (close_copy Xv Pv κ c _ (in_rsS 0)) $$ [Hy0] with Hy0
  · isplitr; · iexact HR
    iexact Hy0
  imod (close_copy Xv Pv κ c _ (in_rsS 1)) $$ [Hy1] with Hy1
  · isplitr; · iexact HR
    iexact Hy1
  imod (close_copy Xv Pv κ c _ (in_rsS 2)) $$ [Hy2] with Hy2
  · isplitr; · iexact HR
    iexact Hy2
  imod (close_copy Xv Pv κ c _ (in_rsR (pr 0 c))) $$ [He0] with He0
  · isplitr; · iexact HR
    iexact He0
  imod (close_copy Xv Pv κ c _ (in_rsR (pr 1 c))) $$ [He1] with He1
  · isplitr; · iexact HR
    iexact He1
  imod (close_copy Xv Pv κ c _ (in_rsR (pr 2 c))) $$ [He2] with He2
  · isplitr; · iexact HR
    iexact He2
  imodintro
  iapply Hk
  isplitl [HO HaB Hs0 Hs1 Hs2 Hz0 Hz1 Hz2 Hy0 Hy1 Hy2 He0 He1 He2 Hx0r Hx1r Hx2r Hv0 Hv1 Hv2]
  · unfold talkOut
    isplitl [HO]; · iexact HO
    isplitl [HaB]; · iexact HaB
    isplitl [Hs0 Hs1 Hs2]
    · isplitl [Hs0]; · iexact Hs0
      isplitl [Hs1]; · iexact Hs1
      iexact Hs2
    isplitl [Hz0 Hz1 Hz2]
    · isplitl [Hz0]; · iexact Hz0
      isplitl [Hz1]; · iexact Hz1
      iexact Hz2
    isplitl [Hy0 Hy1 Hy2]
    · isplitl [Hy0]; · iexact Hy0
      isplitl [Hy1]; · iexact Hy1
      iexact Hy2
    isplitl [He0 He1 He2]
    · isplitl [He0]; · iexact He0
      isplitl [He1]; · iexact He1
      iexact He2
    isplitl [Hx0r Hx1r Hx2r]
    · isplitl [Hx0r]; · iexists _; iexact Hx0r
      isplitl [Hx1r]; · iexists _; iexact Hx1r
      iexists _; iexact Hx2r
    isplitl [Hv0]; · iexists _; iexact Hv0
    isplitl [Hv1]; · iexists _; iexact Hv1
    iexists _; iexact Hv2
  isplitl [Ho0 Ho1 Ho2 Hacc Hvc Hi0 Hi1 Hsv Hx0 Hx1 Hx2 Hx3 Hw]
  · isplitl [Ho0 Ho1 Ho2]
    · isplitl [Ho0]; · iexact Ho0
      isplitl [Ho1]; · iexact Ho1
      iexact Ho2
    isplitl [Hacc]; · iexists _; iexact Hacc
    isplitl [Hvc]
    · unfold vcOnes
      icases Hvc with ⟨%f, -, Hvc⟩
      iexists f; iexact Hvc
    isplitl [Hi0]; · iexact Hi0
    isplitl [Hi1]; · iexact Hi1
    isplitl [Hsv]; · iexact Hsv
    isplitl [Hx0 Hx1 Hx2 Hx3]
    · isplitl [Hx0]; · iexact Hx0
      isplitl [Hx1]; · iexact Hx1
      isplitl [Hx2]; · iexact Hx2
      iexact Hx3
    iexact Hw
  isplitl [Hx3r]
  · iexists (stack (Xv c))
    iapply (own_back Xv c) $$ Hx3r
  iexact Hout

end Cert.KernelIdeal

end

end
-- ==== Proof.KCells.lean ====
module

public import proofs.«01_k».proof.Proof.KBody
public import Idealize.ShloMosaic.Lib.Ring

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## Whole buffers and their rows, whole families and their members -/

variable (c : Dev nD)

/-- A family over the four devices, the three peers first. -/
theorem peers_eq (Φ : Fin 4 → sProp 𝕄) : bigSep Finset.univ Φ = iprop(Φ (pr 0 c) ∗ Φ (pr 1 c) ∗ Φ (pr 2 c) ∗ Φ c) :=
  bigSep_univ_eq_bigSepL [pr 0 c, pr 1 c, pr 2 c, c] (by revert c; decide) (by revert c; decide) Φ
theorem two_eq (Φ : Fin 2 → sProp 𝕄) : bigSep Finset.univ Φ = iprop(Φ 0 ∗ Φ 1) :=
  bigSep_univ_eq_bigSepL [0, 1] (by decide) (by decide) Φ
theorem three_eq (Φ : Fin 3 → sProp 𝕄) : bigSep Finset.univ Φ = iprop(Φ 0 ∗ Φ 1 ∗ Φ 2) :=
  bigSep_univ_eq_bigSepL [0, 1, 2] (by decide) (by decide) Φ

section Blocks
variable {ℓ : Loc nD τ sig} {n : ℕ} (I : Fin n → Finset (Idx ℓ)) (hd : ∀ b b', b ≠ b' → Disjoint (I b) (I b')) (hc : Finset.univ.biUnion I = Finset.univ)
include hd hc
/-- A buffer held whole is held block by block. -/
theorem blocks_split : iprop(∃ f : Buf (Elt F) ℓ, ℓ ↦{fullShare} f) ⊢ (bigSep Finset.univ fun b => iprop(∃ f : Buf (Elt F) ℓ, ℓ ↦[I b]{fullShare} f) : sProp 𝕄) := by
  have h (f : Buf (Elt F) ℓ) (b : Fin n) : (ℓ ↦[I b]{fullShare} f : sProp 𝕄) ⊢ iprop(∃ f : Buf (Elt F) ℓ, ℓ ↦[I b]{fullShare} f) := by
    iintro H; iexists f; iexact H
  iintro ⟨%f, H⟩
  iapply ((Entails.of_eq (Ring.pointsTo_blocks I hd hc f)).trans (bigSep_mono fun b _ => h f b)) $$ H
/-- Its blocks, each held at some contents, are the buffer held at some contents. -/
theorem blocks_join (f₀ : Buf (Elt F) ℓ) :
    (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists I hd hc f₀
end Blocks

/-! ### The four-row buffers -/

section Rows
theorem whole_disjoint (b : Ref sig .tc) (r r' : Rect b.ty.shape) (h : Disjoint r.set r'.set) :
    Disjoint ((Memref.whole b).access r).set ((Memref.whole b).access r').set := by
  show Disjoint ((View.whole b).slice r).set ((View.whole b).slice r').set
  rw [View.set_slice_whole, View.set_slice_whole]; exact h
theorem whole_cover {n : ℕ} (b : Ref sig .tc) (r : Fin n → Rect b.ty.shape) (I : Fin n → Finset b.ty.Idx)
    (hI : ∀ k, I k = ((View.whole b).slice (r k)).set) (h : Finset.univ.biUnion (fun k => (r k).set) = Finset.univ) :
    Finset.univ.biUnion I = Finset.univ := by
  have e : I = fun k => (r k).set := funext fun k => (hI k).trans (View.set_slice_whole ..)
  rw [e]; exact h

theorem row_disjoint (b b' : Fin 4) (h : b ≠ b') : Disjoint (xr b).set (xr b').set :=
  Ring.lead_disjoint (s := S4x512x1024) (NB := 4) 0 1 (fun b => ![b.val, 0, 0]) S1x512x1024.size xr_inb (fun b => by simp) rfl b b' h
theorem row_cover : Finset.univ.biUnion (fun b : Fin 4 => (xr b).set) = Finset.univ :=
  Ring.lead_cover (s := S4x512x1024) (NB := 4) 0 1 (fun b => ![b.val, 0, 0]) S1x512x1024.size xr_inb (fun b => by simp)
    (by decide) rfl (by decide) rfl
theorem out_disjoint (b b' : Fin 3) (h : b ≠ b') : Disjoint (p3 b).set (p3 b').set :=
  Ring.lead_disjoint (s := S3x512x1024) (NB := 3) 0 1 (fun b => ![b.val, 0, 0]) S1x512x1024.size p3_inb (fun b => by simp) rfl b b' h
theorem out_cover : Finset.univ.biUnion (fun b : Fin 3 => (p3 b).set) = Finset.univ :=
  Ring.lead_cover (s := S3x512x1024) (NB := 3) 0 1 (fun b => ![b.val, 0, 0]) S1x512x1024.size p3_inb (fun b => by simp)
    (by decide) rfl (by decide) rfl
theorem slot_disjoint (b b' : Fin 2) (h : b ≠ b') : Disjoint (kr b).set (kr b').set :=
  Ring.lead_disjoint (s := S2x2048x1x128) (NB := 2) 0 1 (fun b => ![b.val, 0, 0, 0]) S1x2048x1x128.size kr_inb (fun b => by simp) rfl b b' h
theorem slot_cover : Finset.univ.biUnion (fun b : Fin 2 => (kr b).set) = Finset.univ :=
  Ring.lead_cover (s := S2x2048x1x128) (NB := 2) 0 1 (fun b => ![b.val, 0, 0, 0]) S1x2048x1x128.size kr_inb (fun b => by simp)
    (by decide) rfl (by decide) rfl

/-- A row at some value is its elements at some contents. -/
theorem rowAny_eq (B : Memref sig .tc .vmem S4x512x1024 .bf16) (b : Fin 4) :
    (iprop(∃ w, rowAt c B b w) : sProp 𝕄) ⊣⊢ iprop(∃ f, (B.access (xr b)).loc (c : Thread nD τ) ↦[(B.access (xr b)).set]{fullShare} f) := by
  unfold rowAt
  constructor
  · iintro ⟨%w, %f, -, H⟩; iexists f; iexact H
  · iintro ⟨%f, H⟩; iexists _, f; isplitr; (· ipureintro; rfl); iexact H
theorem outAny_eq (k : Fin 3) :
    (iprop(∃ w, outAt c k w) : sProp 𝕄) ⊣⊢ iprop(∃ f, (psM.access (p3 k)).loc (c : Thread nD τ) ↦[(psM.access (p3 k)).set]{fullShare} f) := by
  unfold outAt
  constructor
  · iintro ⟨%w, %f, -, H⟩; iexists f; iexact H
  · iintro ⟨%f, H⟩; iexists _, f; isplitr; (· ipureintro; rfl); iexact H
theorem slotAny_eq (B : Memref sig .tc .vmem S2x2048x1x128 .f32) (s : Fin 2) :
    (iprop(∃ w, slotAt c B s w) : sProp 𝕄) ⊣⊢ iprop(∃ f, (B.access (kr s)).loc (c : Thread nD τ) ↦[(B.access (kr s)).set]{fullShare} f) := by
  unfold slotAt
  constructor
  · iintro ⟨%w, %f, -, H⟩; iexists f; iexact H
  · iintro ⟨%f, H⟩; iexists _, f; isplitr; (· ipureintro; rfl); iexact H

/-- Some bf16 value, and some f32 value. -/
def someB : Elt F .bf16 := k0_pay25 (F := F) (fun a => ⟨0, by revert a; decide⟩)
def someF : Elt F .f32 := k0_pay27 (F := F) (fun a => ⟨0, by revert a; decide⟩)

/-- The elements of a row, of a slot, of an outgoing partial sum. -/
abbrev rowSet (B : Memref sig .tc .vmem S4x512x1024 .bf16) (b : Fin 4) : Finset B.view.ty.Idx := (B.access (xr b)).set
abbrev slotSet (B : Memref sig .tc .vmem S2x2048x1x128 .f32) (b : Fin 2) : Finset B.view.ty.Idx := (B.access (kr b)).set
abbrev outSet (b : Fin 3) : Finset psM.view.ty.Idx := (psM.access (p3 b)).set

/-- A four-row landing buffer is its rows: the peers' three and the device's own. -/
theorem rows_eq (B : Memref sig .tc .vmem S4x512x1024 .bf16)
    (hd : ∀ b b' : Fin 4, b ≠ b' → Disjoint (rowSet B b) (rowSet B b'))
    (hc : Finset.univ.biUnion (rowSet B) = Finset.univ) (f₀ : Buf (Elt F) (B.view.loc (c : Thread nD τ))) :
    (iprop(∃ f : Buf (Elt F) (B.view.loc (c : Thread nD τ)), B.view.loc (c : Thread nD τ) ↦{fullShare} f) : sProp 𝕄)
      ⊣⊢ iprop((∃ w, rowAt c B (pr 0 c) w) ∗ (∃ w, rowAt c B (pr 1 c) w) ∗ (∃ w, rowAt c B (pr 2 c) w) ∗ (∃ w, rowAt c B c w)) := by
  rw [← peers_eq c (fun b => iprop(∃ w, rowAt c B b w))]
  exact ⟨(blocks_split (ℓ := B.view.loc (c : Thread nD τ)) (rowSet B) hd hc).trans (bigSep_mono fun b _ => (rowAny_eq c B b).mpr),
    (bigSep_mono fun b _ => (rowAny_eq c B b).mp).trans (blocks_join (ℓ := B.view.loc (c : Thread nD τ)) (rowSet B) hd hc f₀)⟩
/-- The two slots of a buffer of keys or values. -/
theorem slots_eq (B : Memref sig .tc .vmem S2x2048x1x128 .f32)
    (hd : ∀ b b' : Fin 2, b ≠ b' → Disjoint (slotSet B b) (slotSet B b'))
    (hc : Finset.univ.biUnion (slotSet B) = Finset.univ) (f₀ : Buf (Elt F) (B.view.loc (c : Thread nD τ))) :
    (iprop(∃ f : Buf (Elt F) (B.view.loc (c : Thread nD τ)), B.view.loc (c : Thread nD τ) ↦{fullShare} f) : sProp 𝕄)
      ⊣⊢ iprop((∃ w, slotAt c B 0 w) ∗ (∃ w, slotAt c B 1 w)) := by
  rw [← two_eq (fun b => iprop(∃ w, slotAt c B b w))]
  exact ⟨(blocks_split (ℓ := B.view.loc (c : Thread nD τ)) (slotSet B) hd hc).trans (bigSep_mono fun b _ => (slotAny_eq c B b).mpr),
    (bigSep_mono fun b _ => (slotAny_eq c B b).mp).trans (blocks_join (ℓ := B.view.loc (c : Thread nD τ)) (slotSet B) hd hc f₀)⟩

theorem xg_disjoint (b b' : Fin 4) (h : b ≠ b') : Disjoint (rowSet xgM b) (rowSet xgM b') := whole_disjoint cc0_scratch0 (xr b) (xr b') (row_disjoint b b' h)
theorem xg_cover : Finset.univ.biUnion (rowSet xgM) = Finset.univ := whole_cover cc0_scratch0 xr _ (fun _ => rfl) row_cover
theorem xg_eq : (iprop(∃ f : Buf (Elt F) ((c : Thread nD τ).loc cc0_scratch0), (c : Thread nD τ).loc cc0_scratch0 ↦{fullShare} f) : sProp 𝕄)
      ⊣⊢ iprop((∃ w, rowAt c xgM (pr 0 c) w) ∗ (∃ w, rowAt c xgM (pr 1 c) w) ∗ (∃ w, rowAt c xgM (pr 2 c) w) ∗ (∃ w, rowAt c xgM c w)) :=
  rows_eq c xgM xg_disjoint xg_cover (fun _ => someB)
theorem prec_disjoint (b b' : Fin 4) (h : b ≠ b') : Disjoint (rowSet prM b) (rowSet prM b') := whole_disjoint cc0_scratch6 (xr b) (xr b') (row_disjoint b b' h)
theorem prec_cover : Finset.univ.biUnion (rowSet prM) = Finset.univ := whole_cover cc0_scratch6 xr _ (fun _ => rfl) row_cover
theorem prec_eq : (iprop(∃ f : Buf (Elt F) ((c : Thread nD τ).loc cc0_scratch6), (c : Thread nD τ).loc cc0_scratch6 ↦{fullShare} f) : sProp 𝕄)
      ⊣⊢ iprop((∃ w, rowAt c prM (pr 0 c) w) ∗ (∃ w, rowAt c prM (pr 1 c) w) ∗ (∃ w, rowAt c prM (pr 2 c) w) ∗ (∃ w, rowAt c prM c w)) :=
  rows_eq c prM prec_disjoint prec_cover (fun _ => someB)
theorem kb_disjoint (b b' : Fin 2) (h : b ≠ b') : Disjoint (slotSet kbM b) (slotSet kbM b') := whole_disjoint cc0_scratch1 (kr b) (kr b') (slot_disjoint b b' h)
theorem kb_cover : Finset.univ.biUnion (slotSet kbM) = Finset.univ := whole_cover cc0_scratch1 kr _ (fun _ => rfl) slot_cover
theorem kb_eq : (iprop(∃ f : Buf (Elt F) ((c : Thread nD τ).loc cc0_scratch1), (c : Thread nD τ).loc cc0_scratch1 ↦{fullShare} f) : sProp 𝕄)
      ⊣⊢ iprop((∃ w, slotAt c kbM 0 w) ∗ (∃ w, slotAt c kbM 1 w)) :=
  slots_eq c kbM kb_disjoint kb_cover (fun _ => someF)
theorem vb_disjoint (b b' : Fin 2) (h : b ≠ b') : Disjoint (slotSet vbM b) (slotSet vbM b') := whole_disjoint cc0_scratch2 (kr b) (kr b') (slot_disjoint b b' h)
theorem vb_cover : Finset.univ.biUnion (slotSet vbM) = Finset.univ := whole_cover cc0_scratch2 kr _ (fun _ => rfl) slot_cover
theorem vb_eq : (iprop(∃ f : Buf (Elt F) ((c : Thread nD τ).loc cc0_scratch2), (c : Thread nD τ).loc cc0_scratch2 ↦{fullShare} f) : sProp 𝕄)
      ⊣⊢ iprop((∃ w, slotAt c vbM 0 w) ∗ (∃ w, slotAt c vbM 1 w)) :=
  slots_eq c vbM vb_disjoint vb_cover (fun _ => someF)
theorem psend_disjoint (b b' : Fin 3) (h : b ≠ b') : Disjoint (outSet b) (outSet b') := whole_disjoint cc0_scratch5 (p3 b) (p3 b') (out_disjoint b b' h)
theorem psend_cover : Finset.univ.biUnion outSet = Finset.univ := whole_cover cc0_scratch5 p3 _ (fun _ => rfl) out_cover
theorem outs_eq (f₀ : Buf (Elt F) (psM.view.loc (c : Thread nD τ))) :
    (iprop(∃ f : Buf (Elt F) (psM.view.loc (c : Thread nD τ)), psM.view.loc (c : Thread nD τ) ↦{fullShare} f) : sProp 𝕄)
      ⊣⊢ each3 (fun k => iprop(∃ w, outAt c k w)) := by
  unfold each3
  rw [← three_eq (fun k => iprop(∃ w, outAt c k w))]
  exact ⟨(blocks_split (ℓ := psM.view.loc (c : Thread nD τ)) outSet psend_disjoint psend_cover).trans (bigSep_mono fun b _ => (outAny_eq c b).mpr),
    (bigSep_mono fun b _ => (outAny_eq c b).mp).trans (blocks_join (ℓ := psM.view.loc (c : Thread nD τ)) outSet psend_disjoint psend_cover f₀)⟩
theorem psend_eq : (iprop(∃ f : Buf (Elt F) ((c : Thread nD τ).loc cc0_scratch5), (c : Thread nD τ).loc cc0_scratch5 ↦{fullShare} f) : sProp 𝕄)
      ⊣⊢ each3 (fun k => iprop(∃ w, outAt c k w)) := outs_eq c (fun _ => someB)
theorem acc_eq : (iprop(∃ f : Buf (Elt F) ((c : Thread nD τ).loc cc0_scratch4), (c : Thread nD τ).loc cc0_scratch4 ↦{fullShare} f) : sProp 𝕄)
      ⊣⊢ iprop(∃ v, accAt c v) := by
  unfold accAt
  constructor
  · iintro ⟨%f, H⟩; iexists _, f; isplitr; (· ipureintro; rfl); iexact H
  · iintro ⟨%w, %f, -, H⟩; iexists f; iexact H
end Rows

/-! ### The semaphores -/

/-- The exchange's and the core's own copy semaphores: all but the four of the staging. -/
abbrev osem (j : Fin 22) : SemLoc sig := .dma ⟨4 + j.val, by have := j.isLt; show 4 + j.val < 26; omega⟩

section Cells
abbrev i7 (k : Fin 4) : Fin 16 := ⟨k.val, by omega⟩
abbrev i8 (k : Fin 4) : Fin 16 := ⟨4 + k.val, by omega⟩
abbrev i9 (k : Fin 4) : Fin 16 := ⟨8 + k.val, by omega⟩
abbrev i10 (k : Fin 4) : Fin 16 := ⟨12 + k.val, by omega⟩
theorem cp7 (k : Fin 4) : cpSem (i7 k) = sem4 cc0_scratch7 k := by revert k; decide
theorem cp8 (k : Fin 4) : cpSem (i8 k) = sem4 cc0_scratch8 k := by revert k; decide
theorem cp9 (k : Fin 4) : cpSem (i9 k) = sem4 cc0_scratch9 k := by revert k; decide
theorem cp10 (k : Fin 4) : cpSem (i10 k) = sem4 cc0_scratch10 k := by revert k; decide

/-- A family over the exchange's copy semaphores, each array's in the order the device uses them: those of the three peers, then the one not used. -/
def byUse (Φ : DmaSem sig → sProp 𝕄) : sProp 𝕄 :=
  iprop(Φ (sem4 cc0_scratch7 0) ∗ Φ (sem4 cc0_scratch7 1) ∗ Φ (sem4 cc0_scratch7 2) ∗ Φ (sem4 cc0_scratch7 3)
    ∗ Φ (sem4 cc0_scratch8 (pr 0 c)) ∗ Φ (sem4 cc0_scratch8 (pr 1 c)) ∗ Φ (sem4 cc0_scratch8 (pr 2 c)) ∗ Φ (sem4 cc0_scratch8 c)
    ∗ Φ (sem4 cc0_scratch9 0) ∗ Φ (sem4 cc0_scratch9 1) ∗ Φ (sem4 cc0_scratch9 2) ∗ Φ (sem4 cc0_scratch9 3)
    ∗ Φ (sem4 cc0_scratch10 (pr 0 c)) ∗ Φ (sem4 cc0_scratch10 (pr 1 c)) ∗ Φ (sem4 cc0_scratch10 (pr 2 c)) ∗ Φ (sem4 cc0_scratch10 c))
/-- The core's six own. -/
def byOwn (Φ : DmaSem sig → sProp 𝕄) : sProp 𝕄 :=
  iprop(Φ (semOf cc0_scratch11 0) ∗ Φ (semOf cc0_scratch11 1) ∗ Φ (semOf cc0_scratch12 0) ∗ Φ (semOf cc0_scratch12 1)
    ∗ Φ (semOf cc0_scratch13 0) ∗ Φ (semOf cc0_scratch13 1))

theorem use_eq (Φ : DmaSem sig → sProp 𝕄) : bigSep Finset.univ (fun j => Φ (cpSem j)) = byUse c Φ := by
  rw [bigSep_univ_eq_bigSepL [i7 0, i7 1, i7 2, i7 3, i8 (pr 0 c), i8 (pr 1 c), i8 (pr 2 c), i8 c,
    i9 0, i9 1, i9 2, i9 3, i10 (pr 0 c), i10 (pr 1 c), i10 (pr 2 c), i10 c] (by revert c; decide) (by revert c; decide)]
  unfold byUse
  simp only [← cp7, ← cp8, ← cp9, ← cp10]
  rfl

/-- The exchange's among the twenty-two, and the six after them. -/
abbrev lo (j : Fin 16) : Fin 22 := j.castLE (by decide)
abbrev hi (j : Fin 6) : Fin 22 := ⟨16 + j.val, by omega⟩
theorem fin22_eq (Φ : Fin 22 → sProp 𝕄) : bigSep Finset.univ Φ = iprop((bigSep Finset.univ fun j => Φ (lo j)) ∗ bigSep Finset.univ fun j => Φ (hi j)) := by
  have e : (Finset.univ : Finset (Fin 22)) = Finset.univ.map ⟨lo, fun _ _ h => Fin.ext (Fin.mk.inj h)⟩
      ∪ Finset.univ.map ⟨hi, fun _ _ h => Fin.ext (Nat.add_left_cancel (Fin.mk.inj h))⟩ := by decide
  rw [e, bigSep_union (by decide), bigSep_map, bigSep_map]; rfl
theorem ownSems_eq : (Pipeline.ownSems0 osem c : sProp 𝕄)
    = iprop(byUse c (fun i => semVal ((c : Thread nD τ), SemLoc.dma i) 0) ∗ byOwn (fun i => semVal ((c : Thread nD τ), SemLoc.dma i) 0)) := by
  unfold Pipeline.ownSems0
  rw [fin22_eq, ← use_eq]
  congr 1
  rw [bigSep_univ_eq_bigSepL [0, 1, 2, 3, 4, 5] (by decide) (by decide)]
  rfl

end Cells

end Cert.KernelIdeal

end

end
-- ==== Proof.KEnter.lean ====
module

public import proofs.«01_k».proof.Proof.KCells

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## From what the launch gives a device to what its body starts from, and back -/

variable (Xv : Dev nD → S512x1024.Idx → Elt F .bf16) (Pv : Dev nD → Fin 4 → S1x512x1024.Idx → Elt F .bf16) (κ : GSem nD τ sig → ℕ) (c : Dev nD)
variable (fwq : S8x1024x128.Idx → Elt F .bf16) (fwo : S8x128x1024.Idx → Elt F .bf16) (fK fV : S4x2048x32x128.Idx → Elt F .f32)

abbrev openAt (i : DmaSem sig) : sProp 𝕄 := openTok ER ((c : Thread nD τ), SemLoc.dma i)
abbrev zeroAt (i : DmaSem sig) : sProp 𝕄 := semVal ((c : Thread nD τ), SemLoc.dma i) 0
abbrev credAt (i : DmaSem sig) : sProp 𝕄 := cred (tallyAt ((c : Thread nD τ), SemLoc.dma i) () NN)
abbrev begunAt (i : DmaSem sig) : sProp 𝕄 := iprop(atPos ER ((c : Thread nD τ), SemLoc.dma i) 0 ∅ 0 ∗ reached ER ((c : Thread nD τ), SemLoc.dma i) 0)

/-- The rights to pay which device `c` holds: for each peer, a signal of its barrier, and the two ends of each of the two copies to it. -/
def rights : sProp 𝕄 :=
  iprop(each3 (fun k => dutyTok ER (barC (pr k.val c)) 0 (Fin.rev k))
    ∗ each3 (fun k => dutyTok ER (agS c (up k)) 0 0) ∗ each3 (fun k => dutyTok ER (agR (pr k.val c) c) 0 0)
    ∗ each3 (fun k => dutyTok ER (rsS c (up k)) 0 0) ∗ each3 (fun k => dutyTok ER (rsR (pr k.val c) c) 0 0))
/-- What device `c` is to receive: three signals, an input block and a partial sum from each peer. -/
def expected : sProp 𝕄 :=
  iprop(cred (tallyAt (barC c) () 3) ∗ each3 (fun k => credAt c (sem4 cc0_scratch8 (pr k.val c))) ∗ each3 (fun k => credAt c (sem4 cc0_scratch10 (pr k.val c))))
/-- Device `c`'s share of the launch's ghost state. -/
def dealt : sProp 𝕄 := iprop(atPos ER (barC c) 0 ∅ 0 ∗ byUse c (openAt c) ∗ rights c)

/-- The exchange's state as the body needs it, the rows apart. -/
def ready₀ : sProp 𝕄 :=
  iprop(cred (tallyAt (barC c) () 3) ∗ atPos ER (barC c) 0 ∅ 0
    ∗ each3 (fun k => iprop(reached ER (agR c (pr k.val c)) 0 ∗ reached ER (rsR c (pr k.val c)) 0 ∗ dutyTok ER (barC (pr k.val c)) 0 (Fin.rev k)))
    ∗ each3 (fun k => agTok c k) ∗ each3 (fun k => atPos ER (agS c (up k)) 0 ∅ 0)
    ∗ each3 (fun k => due c (sem4 cc0_scratch8 (pr k.val c))) ∗ each3 (fun k => rsTok c k) ∗ each3 (fun k => atPos ER (rsS c (up k)) 0 ∅ 0)
    ∗ each3 (fun k => due c (sem4 cc0_scratch10 (pr k.val c))))
/-- The counters the exchange does not use, at zero. -/
def spare : sProp 𝕄 :=
  iprop(zeroAt c (sem4 cc0_scratch7 3) ∗ zeroAt c (sem4 cc0_scratch8 c) ∗ zeroAt c (sem4 cc0_scratch9 3) ∗ zeroAt c (sem4 cc0_scratch10 c)
    ∗ byOwn (zeroAt c))

def Tk : sProp 𝕄 := iprop((∃ κ, records Xv Pv κ ∗ dealt c) ∗ expected c)
def Xk : sProp 𝕄 := iprop((∃ κ, records Xv Pv κ ∗ ready₀ c) ∗ levAts L lv ∗ spare c)

theorem open3 (i : Fin 3 → DmaSem sig) (hi : ∀ k, 4 ≤ (i k).val ∧ (i k).val < 20) :
    iprop(records Xv Pv κ ∗ (openAt c (i 0) ∗ openAt c (i 1) ∗ openAt c (i 2)) ∗ (zeroAt c (i 0) ∗ zeroAt c (i 1) ∗ zeroAt c (i 2)))
      ⊢ (|={Set.univ}=> (begunAt c (i 0) ∗ begunAt c (i 1) ∗ begunAt c (i 2)) : sProp 𝕄) := by
  iintro ⟨#HR, ⟨Ho0, Ho1, Ho2⟩, ⟨Hz0, Hz1, Hz2⟩⟩
  imod (open_copy Xv Pv κ c (i 0) (hi 0)) $$ [Ho0 Hz0] with H0
  · isplitr; · iexact HR
    isplitl [Ho0] <;> iassumption
  imod (open_copy Xv Pv κ c (i 1) (hi 1)) $$ [Ho1 Hz1] with H1
  · isplitr; · iexact HR
    isplitl [Ho1] <;> iassumption
  imod (open_copy Xv Pv κ c (i 2) (hi 2)) $$ [Ho2 Hz2] with H2
  · isplitr; · iexact HR
    isplitl [Ho2] <;> iassumption
  imodintro
  isplitl [H0]; · iexact H0
  isplitl [H1] <;> iassumption

/-- The region's entry: the exchange's copy semaphores begun, their counters at zero. -/
theorem enter : iprop(Tk Xv Pv c ∗ Pipeline.ownSems0 osem c ∗ levAts L lv) ⊢ (|={Set.univ}=> Xk Xv Pv c : sProp 𝕄) := by
  rw [ownSems_eq]
  unfold Tk Xk dealt rights expected byUse
  iintro ⟨⟨⟨%κ, #HR, HaB, ⟨Ho0, Ho1, Ho2, -, Hp0, Hp1, Hp2, -, Hq0, Hq1, Hq2, -, Hr0, Hr1, Hr2, -⟩, ⟨Hb0, Hb1, Hb2⟩, ⟨Ht0, Ht1, Ht2⟩, ⟨Hu0, Hu1, Hu2⟩, ⟨Hv0, Hv1, Hv2⟩, ⟨Hw0, Hw1, Hw2⟩⟩,
    HcB, ⟨Hc0, Hc1, Hc2⟩, ⟨He0, He1, He2⟩⟩,
    ⟨⟨Zo0, Zo1, Zo2, Zo, Zp0, Zp1, Zp2, Zp, Zq0, Zq1, Zq2, Zq, Zr0, Zr1, Zr2, Zr⟩, HZ⟩, #HL⟩
  imod (open3 Xv Pv κ c (fun k => sem4 cc0_scratch7 (up k)) (fun k => in_agS (up k))) $$ [Ho0 Ho1 Ho2 Zo0 Zo1 Zo2] with ⟨⟨Ao0, #Ro0⟩, ⟨Ao1, #Ro1⟩, ⟨Ao2, #Ro2⟩⟩
  · isplitr; · iexact HR
    isplitl [Ho0 Ho1 Ho2]
    · isplitl [Ho0]; · iexact Ho0
      isplitl [Ho1]; · iexact Ho1
      iexact Ho2
    · isplitl [Zo0]; · iexact Zo0
      isplitl [Zo1]; · iexact Zo1
      iexact Zo2
  imod (open3 Xv Pv κ c (fun k => sem4 cc0_scratch8 (pr k.val c)) (fun k => in_agR (pr k.val c))) $$ [Hp0 Hp1 Hp2 Zp0 Zp1 Zp2] with ⟨⟨Ap0, #Rp0⟩, ⟨Ap1, #Rp1⟩, ⟨Ap2, #Rp2⟩⟩
  · isplitr; · iexact HR
    isplitl [Hp0 Hp1 Hp2]
    · isplitl [Hp0]; · iexact Hp0
      isplitl [Hp1]; · iexact Hp1
      iexact Hp2
    · isplitl [Zp0]; · iexact Zp0
      isplitl [Zp1]; · iexact Zp1
      iexact Zp2
  imod (open3 Xv Pv κ c (fun k => sem4 cc0_scratch9 (up k)) (fun k => in_rsS (up k))) $$ [Hq0 Hq1 Hq2 Zq0 Zq1 Zq2] with ⟨⟨Aq0, #Rq0⟩, ⟨Aq1, #Rq1⟩, ⟨Aq2, #Rq2⟩⟩
  · isplitr; · iexact HR
    isplitl [Hq0 Hq1 Hq2]
    · isplitl [Hq0]; · iexact Hq0
      isplitl [Hq1]; · iexact Hq1
      iexact Hq2
    · isplitl [Zq0]; · iexact Zq0
      isplitl [Zq1]; · iexact Zq1
      iexact Zq2
  imod (open3 Xv Pv κ c (fun k => sem4 cc0_scratch10 (pr k.val c)) (fun k => in_rsR (pr k.val c))) $$ [Hr0 Hr1 Hr2 Zr0 Zr1 Zr2] with ⟨⟨Ar0, #Rr0⟩, ⟨Ar1, #Rr1⟩, ⟨Ar2, #Rr2⟩⟩
  · isplitr; · iexact HR
    isplitl [Hr0 Hr1 Hr2]
    · isplitl [Hr0]; · iexact Hr0
      isplitl [Hr1]; · iexact Hr1
      iexact Hr2
    · isplitl [Zr0]; · iexact Zr0
      isplitl [Zr1]; · iexact Zr1
      iexact Zr2
  imodintro
  isplitr [Zo Zp Zq Zr HZ]
  · iexists κ
    isplitr; · iexact HR
    unfold ready₀ agTok rsTok due
    isplitl [HcB]; · iexact HcB
    isplitl [HaB]; · iexact HaB
    isplitl [Hb0 Hb1 Hb2]
    · isplitl [Hb0]
      · isplitr; · iexact Rp0
        isplitr; · iexact Rr0
        iexact Hb0
      isplitl [Hb1]
      · isplitr; · iexact Rp1
        isplitr; · iexact Rr1
        iexact Hb1
      isplitr; · iexact Rp2
      isplitr; · iexact Rr2
      iexact Hb2
    isplitl [Ht0 Hu0 Ht1 Hu1 Ht2 Hu2]
    · isplitl [Ht0 Hu0]
      · isplitl [Ht0]; · iexact Ht0
        isplitr; · iexact Ro0
        iexact Hu0
      isplitl [Ht1 Hu1]
      · isplitl [Ht1]; · iexact Ht1
        isplitr; · iexact Ro1
        iexact Hu1
      isplitl [Ht2]; · iexact Ht2
      isplitr; · iexact Ro2
      iexact Hu2
    isplitl [Ao0 Ao1 Ao2]
    · isplitl [Ao0]; · iexact Ao0
      isplitl [Ao1]; · iexact Ao1
      iexact Ao2
    isplitl [Hc0 Ap0 Hc1 Ap1 Hc2 Ap2]
    · isplitl [Hc0 Ap0]; · isplitl [Hc0] <;> iassumption
      isplitl [Hc1 Ap1]; · isplitl [Hc1] <;> iassumption
      isplitl [Hc2] <;> iassumption
    isplitl [Hv0 Hw0 Hv1 Hw1 Hv2 Hw2]
    · isplitl [Hv0 Hw0]
      · isplitl [Hv0]; · iexact Hv0
        isplitr; · iexact Rq0
        iexact Hw0
      isplitl [Hv1 Hw1]
      · isplitl [Hv1]; · iexact Hv1
        isplitr; · iexact Rq1
        iexact Hw1
      isplitl [Hv2]; · iexact Hv2
      isplitr; · iexact Rq2
      iexact Hw2
    isplitl [Aq0 Aq1 Aq2]
    · isplitl [Aq0]; · iexact Aq0
      isplitl [Aq1]; · iexact Aq1
      iexact Aq2
    isplitl [He0 Ar0]; · isplitl [He0] <;> iassumption
    isplitl [He1 Ar1]; · isplitl [He1] <;> iassumption
    isplitl [He2] <;> iassumption
  isplitr; · iexact HL
  unfold spare
  isplitl [Zo]; · iexact Zo
  isplitl [Zp]; · iexact Zp
  isplitl [Zq]; · iexact Zq
  isplitl [Zr]; · iexact Zr
  iexact HZ

/-! ### The body, from whole buffers -/

/-- A buffer read by the two slots at once is held in two halves, -/
abbrev halves : Fin 2 → PosShare TreeShare := ![fullShare.left, fullShare.right]
theorem halves_eq {ℓ : Loc nD τ sig} (f : Buf (Elt F) ℓ) : (ℓ ↦{fullShare} f : sProp 𝕄) ⊣⊢ iprop((ℓ ↦{halves 0} f) ∗ (ℓ ↦{halves 1} f)) :=
  pointsTo_share (PosShare.mem_left_op_right fullShare)
/-- and the staged input, read by four copies at once, in four quarters. -/
theorem quarters_eq (X : S512x1024.Idx → Elt F .bf16) :
    ((xM.view.loc (c : Thread nD τ)) ↦{fullShare} X : sProp 𝕄) ⊣⊢ iprop(xPart c 0 X ∗ xPart c 1 X ∗ xPart c 2 X ∗ xPart c 3 X) := by
  unfold xPart
  rw [show xM.view.set = Finset.univ from View.set_whole ..]
  have h0 := pointsTo_share (nD := nD) (τ := τ) (sig := sig) (Ix := Unit) (Val := Elt F) (Name := ℕ) (U := UU) (Lvl := ℕ) (I := Finset.univ)
    (ℓ := xM.view.loc (c : Thread nD τ)) (f := X) (PosShare.mem_left_op_right fullShare)
  have h1 := pointsTo_share (nD := nD) (τ := τ) (sig := sig) (Ix := Unit) (Val := Elt F) (Name := ℕ) (U := UU) (Lvl := ℕ) (I := Finset.univ)
    (ℓ := xM.view.loc (c : Thread nD τ)) (f := X) (PosShare.mem_left_op_right fullShare.left)
  have h2 := pointsTo_share (nD := nD) (τ := τ) (sig := sig) (Ix := Unit) (Val := Elt F) (Name := ℕ) (U := UU) (Lvl := ℕ) (I := Finset.univ)
    (ℓ := xM.view.loc (c : Thread nD τ)) (f := X) (PosShare.mem_left_op_right fullShare.right)
  constructor
  · iintro H
    ihave H := h0.1 $$ H
    icases H with ⟨Ha, Hb⟩
    ihave Ha := h1.1 $$ Ha
    icases Ha with ⟨Ha, Ha'⟩
    ihave Hb := h2.1 $$ Hb
    icases Hb with ⟨Hb, Hb'⟩
    isplitl [Ha]; · iexact Ha
    isplitl [Ha']; · iexact Ha'
    isplitl [Hb]; · iexact Hb
    iexact Hb'
  · iintro ⟨Ha, Ha', Hb, Hb'⟩
    iapply h0.2
    isplitl [Ha Ha']
    · iapply h1.2
      isplitl [Ha]; · iexact Ha
      iexact Ha'
    · iapply h2.2
      isplitl [Hb]; · iexact Hb
      iexact Hb'

variable {fwq fwo fK fV}
/-- Device `c`'s body, from the kernel's buffers whole and the exchange's state as the region finds it, to the buffers whole again, every counter at
zero, nothing owed, and the result stored. -/
theorem body_run {Q : PUnit → sProp 𝕄} (hP : ∀ k : Fin 3, Pv c (pr k.val c) = sumOf c fwq fwo fK fV (pr k.val c) (stack (Xv (pr k.val c)))) :
    iprop(Pipeline.scopedRest spec0 c ∗ (KM.view.loc (c : Thread nD τ) ↦{fullShare} fK) ∗ (VM.view.loc (c : Thread nD τ) ↦{fullShare} fV)
        ∗ Xk Xv Pv c ∗ Ow c (O₀ c) ∗ (xM.view.loc (c : Thread nD τ) ↦{fullShare} Xv c) ∗ (wqM.view.loc (c : Thread nD τ) ↦{fullShare} fwq)
        ∗ (woM.view.loc (c : Thread nD τ) ↦{fullShare} fwo) ∗ (∃ f, (oM.view.loc (c : Thread nD τ) ↦{fullShare} f)))
      ⊢ iprop((iprop(Pipeline.scopedRest spec0 c ∗ (KM.view.loc (c : Thread nD τ) ↦{fullShare} fK) ∗ (VM.view.loc (c : Thread nD τ) ↦{fullShare} fV)
          ∗ Pipeline.ownSems0 osem c ∗ semVal (barC c) 0 ∗ Ow c 0 ∗ (xM.view.loc (c : Thread nD τ) ↦{fullShare} Xv c)
          ∗ (wqM.view.loc (c : Thread nD τ) ↦{fullShare} fwq) ∗ (woM.view.loc (c : Thread nD τ) ↦{fullShare} fwo)
          ∗ (oM.view.loc (c : Thread nD τ) ↦{fullShare} resOf Xv Pv c fwq fwo fK fV)) -∗ Q ⟨⟩)
        -∗ wp frame (wpE (defs₀ (F := F)) 𝒱₀ (c : Thread nD τ) none) Set.univ body₀ Q) := by
  rw [scopedRest0_eq, ownSems_eq]
  unfold Xk spare ready₀ byOwn byUse
  iintro ⟨⟨Hs0, Hs1, Hs2, Hs3, Hs4, Hs5, Hs6⟩, HK, HV,
    ⟨⟨%κ, #HR, HcB, HaB, ⟨Hh0, Hh1, Hh2⟩, Hag, Has, Hda, Hrs, Hrq, Hdr⟩, #HL, Zo, Zp, Zq, Zr, Zk0, Zk1, Zv0, Zv1, Zd0, Zd1⟩,
    HO, Hx, Hwq, Hwo, Hout⟩ Hk
  ihave Hs0 := (xg_eq c).1 $$ Hs0
  icases Hs0 with ⟨Hg0, Hg1, Hg2, Hg⟩
  ihave Hs6 := (prec_eq c).1 $$ Hs6
  icases Hs6 with ⟨Hr0, Hr1, Hr2, Hr⟩
  ihave Hs1 := (kb_eq c).1 $$ Hs1
  icases Hs1 with ⟨Hk0, Hk1⟩
  ihave Hs2 := (vb_eq c).1 $$ Hs2
  icases Hs2 with ⟨Hv0, Hv1⟩
  ihave Hs5 := (psend_eq c).1 $$ Hs5
  ihave Hs4 := (acc_eq c).1 $$ Hs4
  ihave HK := (halves_eq fK).1 $$ HK
  icases HK with ⟨HK0, HK1⟩
  ihave HV := (halves_eq fV).1 $$ HV
  icases HV with ⟨HV0, HV1⟩
  ihave Hx := (quarters_eq c (Xv c)).1 $$ Hx
  iapply (wp_body Xv Pv κ c fullShare fwq fwo fK fV halves hP) $$ [HcB HaB Hh0 Hh1 Hh2 Hag Has Hda Hrs Hrq Hdr HO Hg0 Hg1 Hg2 Hg Hr0 Hr1 Hr2 Hk0 Hk1 Hv0 Hv1 Hs5 Hs4 Hs3 HK0 HK1 HV0 HV1 Hx Hwq Hwo Hout Zk0 Zk1 Zv0 Zv1 Zd0]
  · isplitl [HcB HaB Hh0 Hh1 Hh2 Hag Has Hda Hrs Hrq Hdr HO Hg0 Hg1 Hg2 Hr0 Hr1 Hr2]
    · unfold talkIn
      isplitr; · iexact HR
      isplitr; · iexact HL
      isplitl [HO]; · iexact HO
      isplitl [HcB]; · iexact HcB
      isplitl [HaB]; · iexact HaB
      isplitl [Hh0 Hh1 Hh2 Hg0 Hg1 Hg2 Hr0 Hr1 Hr2]
      · unfold hand
        isplitl [Hh0 Hg0 Hr0]
        · isplitl [Hg0]; · iexact Hg0
          isplitl [Hr0]; · iexact Hr0
          iexact Hh0
        isplitl [Hh1 Hg1 Hr1]
        · isplitl [Hg1]; · iexact Hg1
          isplitl [Hr1]; · iexact Hr1
          iexact Hh1
        isplitl [Hg2]; · iexact Hg2
        isplitl [Hr2]; · iexact Hr2
        iexact Hh2
      isplitl [Hag]; · iexact Hag
      isplitl [Has]; · iexact Has
      isplitl [Hda]; · iexact Hda
      isplitl [Hrs]; · iexact Hrs
      isplitl [Hrq]; · iexact Hrq
      iexact Hdr
    isplitr [Hg Hout]
    · unfold homeIn idle wts
      isplitl [Hs5]; · iexact Hs5
      isplitl [Hs4]; · iexact Hs4
      isplitl [Hs3]; · iexact Hs3
      isplitl [Hk0 Hv0 Zk0 Zv0 HK0 HV0]
      · isplitl [Hk0]; · iexact Hk0
        isplitl [Hv0]; · iexact Hv0
        isplitl [Zk0]; · iexact Zk0
        isplitl [Zv0]; · iexact Zv0
        isplitl [HK0]; · iexact HK0
        iexact HV0
      isplitl [Hk1 Hv1 Zk1 Zv1 HK1 HV1]
      · isplitl [Hk1]; · iexact Hk1
        isplitl [Hv1]; · iexact Hv1
        isplitl [Zk1]; · iexact Zk1
        isplitl [Zv1]; · iexact Zv1
        isplitl [HK1]; · iexact HK1
        iexact HV1
      isplitl [Zd0]; · iexact Zd0
      isplitl [Hx]; · iexact Hx
      isplitl [Hwq]; · iexact Hwq
      iexact Hwo
    isplitl [Hg]; · iexact Hg
    iexact Hout
  unfold talkOut homeIn idle wts
  iintro ⟨⟨HO, HB, ⟨So0, So1, So2⟩, ⟨Sp0, Sp1, Sp2⟩, ⟨Sq0, Sq1, Sq2⟩, ⟨Sr0, Sr1, Sr2⟩, ⟨Hg0, Hg1, Hg2⟩, ⟨Hr0, Hr1, Hr2⟩⟩,
    ⟨Hs5, Hs4, Hs3, ⟨Hk0, Hv0, Zk0, Zv0, HK0, HV0⟩, ⟨Hk1, Hv1, Zk1, Zv1, HK1, HV1⟩, Zd0, Hx, Hwq, Hwo⟩, Hg, Hout⟩
  iapply Hk
  isplitl [Hg0 Hg1 Hg2 Hg Hr0 Hr1 Hr2 Hr Hk0 Hk1 Hv0 Hv1 Hs5 Hs4 Hs3]
  · isplitl [Hg0 Hg1 Hg2 Hg]
    · iapply (xg_eq c).2
      isplitl [Hg0]; · iexact Hg0
      isplitl [Hg1]; · iexact Hg1
      isplitl [Hg2]; · iexact Hg2
      iexact Hg
    isplitl [Hk0 Hk1]
    · iapply (kb_eq c).2
      isplitl [Hk0]; · iexact Hk0
      iexact Hk1
    isplitl [Hv0 Hv1]
    · iapply (vb_eq c).2
      isplitl [Hv0]; · iexact Hv0
      iexact Hv1
    isplitl [Hs3]; · iexact Hs3
    isplitl [Hs4]; · iapply (acc_eq c).2; iexact Hs4
    isplitl [Hs5]; · iapply (psend_eq c).2; iexact Hs5
    iapply (prec_eq c).2
    isplitl [Hr0]; · iexact Hr0
    isplitl [Hr1]; · iexact Hr1
    isplitl [Hr2]; · iexact Hr2
    iexact Hr
  isplitl [HK0 HK1]
  · iapply (halves_eq fK).2
    isplitl [HK0]; · iexact HK0
    iexact HK1
  isplitl [HV0 HV1]
  · iapply (halves_eq fV).2
    isplitl [HV0]; · iexact HV0
    iexact HV1
  isplitl [So0 So1 So2 Sp0 Sp1 Sp2 Sq0 Sq1 Sq2 Sr0 Sr1 Sr2 Zo Zp Zq Zr Zk0 Zk1 Zv0 Zv1 Zd0 Zd1]
  · isplitr [Zk0 Zk1 Zv0 Zv1 Zd0 Zd1]
    · isplitl [So0]; · iexact So0
      isplitl [So1]; · iexact So1
      isplitl [So2]; · iexact So2
      isplitl [Zo]; · iexact Zo
      isplitl [Sp0]; · iexact Sp0
      isplitl [Sp1]; · iexact Sp1
      isplitl [Sp2]; · iexact Sp2
      isplitl [Zp]; · iexact Zp
      isplitl [Sq0]; · iexact Sq0
      isplitl [Sq1]; · iexact Sq1
      isplitl [Sq2]; · iexact Sq2
      isplitl [Zq]; · iexact Zq
      isplitl [Sr0]; · iexact Sr0
      isplitl [Sr1]; · iexact Sr1
      isplitl [Sr2]; · iexact Sr2
      iexact Zr
    isplitl [Zk0]; · iexact Zk0
    isplitl [Zk1]; · iexact Zk1
    isplitl [Zv0]; · iexact Zv0
    isplitl [Zv1]; · iexact Zv1
    isplitl [Zd0]; · iexact Zd0
    iexact Zd1
  isplitl [HB]; · iexact HB
  isplitl [HO]; · iexact HO
  isplitl [Hx]; · iapply (quarters_eq c (Xv c)).2; iexact Hx
  isplitl [Hwq]; · iexact Hwq
  isplitl [Hwo]; · iexact Hwo
  iexact Hout

end Cert.KernelIdeal

end

end
-- ==== Proof.KDat.lean ====
module

public import proofs.«01_k».proof.Proof.KEnter
public import proofs.«01_k».proof.Proof.Gen.KernelIdeal.Frame
public import Idealize.ShloMosaic.Lib.Pipeline.Regions
public import Idealize.ShloMosaic.Lib.Pipeline.RegionTalk

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat BodyObligation)

/-! ## The region: its proof data, its body's obligation, its record -/

variable (m : (ℓ : Loc nD τ sig) → Buf (Elt F) ℓ) (c : Dev nD)

/-- Every device's input block, weights, keys and values as its region finds them. -/
abbrev Xm (c : Dev nD) : S512x1024.Idx → Elt F .bf16 := iblk m c 0 t0_0
abbrev wqm (c : Dev nD) : S8x1024x128.Idx → Elt F .bf16 := iblk m c 1 t0_0
abbrev wom (c : Dev nD) : S8x128x1024.Idx → Elt F .bf16 := iblk m c 2 t0_0
abbrev Km (c : Dev nD) : S4x2048x32x128.Idx → Elt F .f32 := V m c main_arg3
abbrev Vm (c : Dev nD) : S4x2048x32x128.Idx → Elt F .f32 := V m c main_arg4
/-- The partial sum device `c` makes for batch `b`. -/
def Pm (c : Dev nD) (b : Fin 4) : S1x512x1024.Idx → Elt F .bf16 := sumOf c (wqm m c) (wom m c) (Km m c) (Vm m c) b (stack (Xm m b))
/-- What device `c` stores. -/
def Om (c : Dev nD) : S1x512x1024.Idx → Elt F .f32 := resOf (Xm m) (Pm m) c (wqm m c) (wom m c) (Km m c) (Vm m c)

/-- The buffers the kernel addresses itself: the keys and the values. -/
abbrev keysVals : Finset (DevRef τ sig) := {Proc.devRef .tc main_arg3, Proc.devRef .tc main_arg4}
abbrev bufs : Finset (DevRef τ sig) := (StableHlo.tcRefs τ sig).filter fun b => ¬ b.isScoped
abbrev V₀m (c : Dev nD) : Valuation τ sig (Elt F) := fun b => m (c, b)
abbrev V₁m (c : Dev nD) : Valuation τ sig (Elt F) := StableHlo.after hostOps0 (V₀m m c)

theorem keysVals_eq (W : Valuation τ sig (Elt F)) :
    (StableHlo.held (c : Thread nD τ) keysVals W : sProp 𝕄)
      = iprop((KM.view.loc (c : Thread nD τ) ↦{fullShare} W main_arg3) ∗ (VM.view.loc (c : Thread nD τ) ↦{fullShare} W main_arg4)) := by
  unfold StableHlo.held
  rw [bigSep_eq_bigSepL_of_eq [Proc.devRef .tc main_arg3, Proc.devRef .tc main_arg4] (by decide) (by decide)]
  rfl

/-- Before the body: the scratch buffers, the keys and values, the exchange ready. -/
def Φin : sProp 𝕄 := iprop((∃ r, prngReg c r) ∗ Pipeline.scopedRest spec0 c
  ∗ ((KM.view.loc (c : Thread nD τ) ↦{fullShare} Km m c) ∗ (VM.view.loc (c : Thread nD τ) ↦{fullShare} Vm m c)) ∗ Xk (Xm m) (Pm m) c)
/-- After it: the same buffers, and every counter at zero. -/
def Φout : sProp 𝕄 := iprop((∃ r, prngReg c r) ∗ Pipeline.scopedRest spec0 c
  ∗ ((KM.view.loc (c : Thread nD τ) ↦{fullShare} Km m c) ∗ (VM.view.loc (c : Thread nD τ) ↦{fullShare} Vm m c)) ∗ Pipeline.ownSems0 osem c ∗ semVal (barC c) 0)

/-- The region's proof data: the windows' arrays as the region finds them, the inputs left in place, the result stored. -/
def dat (c : Dev nD) : Dat τ (Elt F) Unit ℕ UU ℕ cfg0 c where
  A w := V m c (Pipeline.arrRef spec0 w)
  after w _ := match w with
    | ⟨0, _⟩ => Xm m c
    | ⟨1, _⟩ => wqm m c
    | ⟨2, _⟩ => wom m c
    | ⟨3, _⟩ => Om m c
  Φ t := if t.val = 0 then Φin m c else Φout m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero : (pdats (F := F) m 0 c).owed 0 = O₀ c := by
  show (if ((0 : Fin (cfg0.N + 1)).val = 0) then O₀ c else 0) = O₀ c; exact if_pos rfl
theorem owed_first : (dat (F := F) m c).owed t0_0.castSucc = O₀ c := by
  show (if (t0_0.castSucc : Fin (cfg0.N + 1)).val = 0 then O₀ c else 0) = O₀ c; exact if_pos rfl
theorem owed_last : (pdats (F := F) m 0 c).owed (Fin.last _) = 0 := by
  show (if (Fin.last cfg0.N).val = 0 then O₀ c else 0) = 0
  rw [Fin.val_last, if_neg (by rw [show cfg0.N = 1 from N_0]; decide)]

/-- What a device owes at a point of the region is among what its waits bound, and back. -/
theorem owed_intro (t : Fin (cfg0.N + 1)) (O : CellTallies nD τ sig Unit) (h : (dat (F := F) m c).owed t = O) :
    (Ow c O : sProp 𝕄) ⊢ (dat m c).owesAt () t := by
  unfold Ow Dat.owesAt Pipeline.owesWithin Dat.bound
  rw [h, show (dat (F := F) m c).recorded t = Set.univ from rfl]
  iintro ⟨%W, HO⟩; iexists W
  isplitr; · ipureintro; exact fun _ _ => Or.inl trivial
  iexact HO
theorem owed_elim (t : Fin (cfg0.N + 1)) (O : CellTallies nD τ sig Unit) (h : (dat (F := F) m c).owed t = O) :
    ((dat m c).owesAt () t : sProp 𝕄) ⊢ Ow c O := by
  unfold Ow Dat.owesAt Pipeline.owesWithin
  rw [h]
  iintro ⟨%W, -, HO⟩; iexists W; iexact HO

/-- An input window's staging buffer holds its block when the body starts. -/
theorem before_0 (d) : (dat m c).before 0 t0_0 d = Xm m c := by unfold Dat.before; rw [if_pos (fetch0_0 _)]; rfl
theorem before_1 (d) : (dat m c).before 1 t0_0 d = wqm m c := by unfold Dat.before; rw [if_pos (fetch0_1 _)]; rfl
theorem before_2 (d) : (dat m c).before 2 t0_0 d = wom m c := by unfold Dat.before; rw [if_pos (fetch0_2 _)]; rfl

omit [FloatOps F] in
/-- Owning a whole buffer at contents `X` is its points-to at `X`. -/
theorem whole_owned (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem body_obligation : BodyObligation (dat (F := F) m c) (defs₀ (F := F)) 𝒱₀ () Set.univ := fun t => by
  obtain rfl := fin_N0 t
  rw [bigSep_W0, bigSep_W0]
  simp only [whole_owned]
  rw [show (dat m c).Φ t0_0.castSucc = Φin m c from rfl, show (dat m c).Φ t0_0.succ = Φout m c from rfl]
  unfold Φin Φout
  iintro ⟨⟨Hp, Hs, ⟨HK, HV⟩, HX⟩, HO, ⟨%d0, %f0, %hf0, H0⟩, ⟨%d1, %f1, %hf1, H1⟩, ⟨%d2, %f2, %hf2, H2⟩, ⟨%d3, %f3, %hf3, H3⟩⟩
  rw [before_0] at hf0
  rw [before_1] at hf1
  rw [before_2] at hf2
  subst hf0 hf1 hf2
  ihave HO := (owed_elim m c _ (O₀ c) (owed_first m c)) $$ HO
  iapply (body_run (Xm m) (Pm m) c (fwq := wqm m c) (fwo := wom m c) (fK := Km m c) (fV := Vm m c) (fun k => rfl)) $$ [Hs HK HV HX HO H0 H1 H2 H3]
  · isplitl [Hs]; · iexact Hs
    isplitl [HK]; · iexact HK
    isplitl [HV]; · iexact HV
    isplitl [HX]; · iexact HX
    isplitl [HO]; · iexact HO
    isplitl [H0]; · iexact H0
    isplitl [H1]; · iexact H1
    isplitl [H2]; · iexact H2
    iexists f3; iexact H3
  iintro ⟨Hs, HK, HV, HZ, HB, HO, H0, H1, H2, H3⟩
  isplitl [Hp Hs HK HV HZ HB]
  · isplitl [Hp]; · iexact Hp
    isplitl [Hs]; · iexact Hs
    isplitl [HK HV]; · isplitl [HK]; · iexact HK
                       iexact HV
    isplitl [HZ]; · iexact HZ
    iexact HB
  isplitl [HO]; · iapply (owed_intro m c _ 0 (owed_last m c)); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ### The region's record -/

/-- What a device's result array holds after the region. -/
abbrev finalA (c : Dev nD) : Buf (Elt F) ((cfg0.win 3).arr.view.loc (c : Thread nD τ)) := (dat m c).arrAt 3 cfg0.N
abbrev V₂m (c : Dev nD) : Valuation τ sig (Elt F) := Function.update (V₁m m c) (Proc.devRef .tc main_v8) (finalA m c)
theorem V₂_v8 : V₂m m c main_v8 = finalA m c := Function.update_self ..
theorem V₂_of_ne (b : DevRef τ sig) (h : b ≠ Proc.devRef .tc main_v8) : V₂m m c b = V₁m m c b := Function.update_of_ne h ..

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem region_in : iprop(Pipeline.scopedRest (Pipeline.pin (pcfgs (F := F)) adm 0).spec c ∗ (∃ r, prngReg c r)
      ∗ StableHlo.held (c.tc : Thread nD τ) keysVals (V₁m m c) ∗ Xk (Xm m) (Pm m) c) ⊢ (pdats m 0 c).Φ 0 := by
  rw [show (pdats m 0 c).Φ 0 = Φin m c from rfl, keysVals_eq]
  unfold Φin
  iintro ⟨Hs, Hp, HK, HX⟩
  isplitl [Hp]; · iexact Hp
  isplitl [Hs]; · iexact Hs
  isplitl [HK]; · iexact HK
  iexact HX

theorem region_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) keysVals (V₂m m c) ∗ Pipeline.ownSems0 osem c ∗ semVal (barC c) 0) := by
  rw [show (pdats m 0 c).Φ (Fin.last _) = Φout m c from rfl, keysVals_eq, V₂_of_ne m c _ (by decide), V₂_of_ne m c _ (by decide)]
  unfold Φout
  iintro ⟨Hp, Hs, HK, HZ, HB⟩
  isplitl [Hs]; · iexact Hs
  isplitl [Hp]; · iexact Hp
  isplitl [HK]; · iexact HK
  isplitl [HZ]; · iexact HZ
  iexact HB

theorem owed_above (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem arr_last (w : Fin cfg0.W) : (pdats (F := F) m 0 c).arrAt w (Pipeline.pin (pcfgs (F := F)) adm 0).N
    = V₂m m c (Proc.devRef .tc (Pipeline.arrRef (Pipeline.pin (pcfgs (F := F)) adm 0).spec w)) := by
  fin_cases w
  · exact ((dat (F := F) m c).arrAt_in 0 rfl _).trans (V₂_of_ne m c (Proc.devRef .tc main_v2) (by decide)).symm
  · exact ((dat (F := F) m c).arrAt_in 1 rfl _).trans (V₂_of_ne m c (Proc.devRef .tc main_v5) (by decide)).symm
  · exact ((dat (F := F) m c).arrAt_in 2 rfl _).trans (V₂_of_ne m c (Proc.devRef .tc main_v7) (by decide)).symm
  · exact (V₂_v8 m c).symm

/-- The other buffers that outlive the region. -/
abbrev others : Finset (DevRef τ sig) := bufs \ Pipeline.arrRefs spec0

local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem (by decide : Pipeline.OwnSemFacts spec0 osem)
    keysVals others (by decide) kit rfl (fun c => (body_obligation m c).loose)
    (fun _ => 0) O₀ (fun c => (owed_zero m c).trans (zero_add _).symm) (owed_last m) (fun _ => rfl)
    (fun c => (pdats m 0 c).share_full fun _ => rfl)
    (V₁m m) (V₂m m) (fun c b hb => V₂_of_ne m c b (by rintro rfl; revert hb; decide))
    (Tk (Xm m) (Pm m)) (fun c => semVal (barC c) 0) (Xk (Xm m) (Pm m)) (fun c => semVal (barC c) 0)
    (enter (Xm m) (Pm m)) (region_in m) (region_out m) (fun c => by iintro H; imodintro; iexact H)
    (fun _ => 0)
    ⟨fun c w s => by rw [L_tc]; exact Finset.mem_singleton_self _, fun c w s => by fin_cases w <;> fin_cases s <;> exact Nat.le_refl 0, fun c t g i h => owed_above m c t g i h⟩
    (fun _ => iprop(emp)) (fun _ _ => rfl) (arr_last m)

end Cert.KernelIdeal

end

end
-- ==== Proof.KLaunch.lean ====
module

public import proofs.«01_k».proof.Proof.KDat

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The launch: the ghost state dealt to the devices -/

/-! ### The tokens, by the device that pays with them -/

/-- The cells device `c` pays at peer `k`: its barrier, the two ends of the input's copy, the two ends of the partial sum's. -/
def payCell (c : Dev nD) (k : Fin 3) : Fin 5 → GSem nD τ sig
  | 0 => barC (pr k.val c) | 1 => agS c (up k) | 2 => agR (pr k.val c) c | 3 => rsS c (up k) | 4 => rsR (pr k.val c) c
/-- and the duty of each that it pays. -/
def payDuty (k : Fin 3) : Fin 5 → Fin 3
  | 0 => Fin.rev k | 1 => 0 | 2 => 0 | 3 => 0 | 4 => 0

def semNo : SemLoc sig → ℕ
  | .reg i => i.val | .dma i => 1 + i.val
theorem pay_code_inj : Function.Injective (fun x : Dev nD × Fin 5 × Fin 3 =>
    ((payCell x.1 x.2.2 x.2.1).1.1.val, semNo (payCell x.1 x.2.2 x.2.1).2, (payDuty x.2.2 x.2.1).val)) := by decide +kernel
def payEmb : Dev nD × Fin 5 × Fin 3 ↪ GSem nD τ sig × ℕ × Fin 3 :=
  ⟨fun x => (payCell x.1 x.2.2 x.2.1, 0, payDuty x.2.2 x.2.1), fun x y h => pay_code_inj (by
    have h1 : payCell x.1 x.2.2 x.2.1 = payCell y.1 y.2.2 y.2.1 := congrArg Prod.fst h
    have h2 : payDuty x.2.2 x.2.1 = payDuty y.2.2 y.2.1 := congrArg (fun t => t.2.2) h
    simp only [h1, h2])⟩
abbrev payToks : Finset (GSem nD τ sig × ℕ × Fin 3) := Finset.univ.map payEmb

theorem rights_eq : (bigSep payToks fun x => (dutyTok ER x.1 x.2.1 x.2.2 : sProp 𝕄)) = bigSep Finset.univ fun c : Dev nD => rights c := by
  rw [bigSep_map, bigSep_univ_prod]
  refine bigSep_congr fun c _ => ?_
  rw [bigSep_univ_prod, bigSep_univ_eq_bigSepL [0, 1, 2, 3, 4] (by decide) (by decide)]
  unfold rights
  simp only [bigSepL, three_eq]
  rfl

/-! ### What each device is to receive -/

section Credit
variable (c : Dev nD)
theorem sum_hit {g : GSem nD τ sig} {f : Dev nD → GSem nD τ sig} (d₀ : Dev nD) (h : ∀ d, g = f d ↔ d = d₀) (n : ℕ) :
    ∑ d : Dev nD, (tallyAt (f d) () n : CellTallies nD τ sig Unit) g () = n := by
  rw [Finset.sum_congr rfl fun d _ => show (tallyAt (f d) () n : CellTallies nD τ sig Unit) g () = if d = d₀ then n else 0 by
    rw [tallyAt_apply]; exact if_congr ((and_iff_left rfl).trans (h d)) rfl rfl, Finset.sum_ite_eq', if_pos (Finset.mem_univ _)]
theorem sum_miss {g : GSem nD τ sig} {f : Dev nD → GSem nD τ sig} (h : ∀ d, g ≠ f d) (n : ℕ) :
    ∑ d : Dev nD, (tallyAt (f d) () n : CellTallies nD τ sig Unit) g () = 0 :=
  Finset.sum_eq_zero fun d _ => by rw [tallyAt_apply, if_neg fun e => h d e.1]

/-- What all devices owe a cell, debt by debt. -/
theorem owed_sum (g : GSem nD τ sig) : ∑ d : Dev nD, O₀ d g ()
    = ∑ d, oRs d 2 g () + ∑ d, oRs d 1 g () + ∑ d, oRs d 0 g () + ∑ d, oAg d 2 g () + ∑ d, oAg d 1 g () + ∑ d, oAg d 0 g ()
      + ∑ d, oBar d 2 g () + ∑ d, oBar d 1 g () + ∑ d, oBar d 0 g () := by
  simp only [← Finset.sum_add_distrib]
  rfl

theorem bar_hit (k : Fin 3) (d : Dev nD) : barC c = barC (pr k.val d) ↔ d = pr (Fin.rev k).val c := by revert c k d; decide +kernel
theorem ag_hit (k k' : Fin 3) (h : k' = Fin.rev k) (d : Dev nD) : agR c (pr k.val c) = agR (pr k'.val d) d ↔ d = pr k.val c := by
  revert c k k' d; decide +kernel
theorem ag_miss (k k' : Fin 3) (h : k' ≠ Fin.rev k) (d : Dev nD) : agR c (pr k.val c) ≠ agR (pr k'.val d) d := by revert c k k' d; decide +kernel
theorem rs_hit (k k' : Fin 3) (h : k' = Fin.rev k) (d : Dev nD) : rsR c (pr k.val c) = rsR (pr k'.val d) d ↔ d = pr k.val c := by
  revert c k k' d; decide +kernel
theorem rs_miss (k k' : Fin 3) (h : k' ≠ Fin.rev k) (d : Dev nD) : rsR c (pr k.val c) ≠ rsR (pr k'.val d) d := by revert c k k' d; decide +kernel
theorem ag_rs (b e : Fin 4) (d : Dev nD) : agR c b ≠ rsR d e := by revert c b e d; decide +kernel
theorem rs_ag (b e : Fin 4) (d : Dev nD) : rsR c b ≠ agR d e := by revert c b e d; decide +kernel

theorem sum_bar : ∑ d : Dev nD, O₀ d (barC c) () = 3 := by
  have n1 (k : Fin 3) (d : Dev nD) : barC c ≠ agR (pr k.val d) d := fun h => nomatch congrArg Prod.snd h
  have n2 (k : Fin 3) (d : Dev nD) : barC c ≠ rsR (pr k.val d) d := fun h => nomatch congrArg Prod.snd h
  rw [owed_sum, sum_miss (n2 2), sum_miss (n2 1), sum_miss (n2 0), sum_miss (n1 2), sum_miss (n1 1), sum_miss (n1 0),
    sum_hit _ (bar_hit c 2), sum_hit _ (bar_hit c 1), sum_hit _ (bar_hit c 0)]
theorem ag_one (k k' : Fin 3) : ∑ d : Dev nD, oAg d k' (agR c (pr k.val c)) () = if k' = Fin.rev k then NN else 0 := by
  by_cases h : k' = Fin.rev k
  · rw [sum_hit _ (ag_hit c k k' h), if_pos h]
  · rw [sum_miss (ag_miss c k k' h), if_neg h]
theorem rs_one (k k' : Fin 3) : ∑ d : Dev nD, oRs d k' (rsR c (pr k.val c)) () = if k' = Fin.rev k then NN else 0 := by
  by_cases h : k' = Fin.rev k
  · rw [sum_hit _ (rs_hit c k k' h), if_pos h]
  · rw [sum_miss (rs_miss c k k' h), if_neg h]
theorem one_of_three (k : Fin 3) (n : ℕ) : ((if (2 : Fin 3) = Fin.rev k then n else 0) + if (1 : Fin 3) = Fin.rev k then n else 0) + (if (0 : Fin 3) = Fin.rev k then n else 0) = n := by
  fin_cases k <;> simp [Fin.rev]
theorem sum_ag (k : Fin 3) : ∑ d : Dev nD, O₀ d (agR c (pr k.val c)) () = NN := by
  have n1 (k' : Fin 3) (d : Dev nD) : agR c (pr k.val c) ≠ barC (pr k'.val d) := fun h => nomatch congrArg Prod.snd h
  rw [owed_sum, sum_miss (fun d => ag_rs c _ d (pr _ d)), sum_miss (fun d => ag_rs c _ d (pr _ d)), sum_miss (fun d => ag_rs c _ d (pr _ d)),
    ag_one, ag_one, ag_one, sum_miss (n1 2), sum_miss (n1 1), sum_miss (n1 0)]
  simpa using one_of_three k NN
theorem sum_rs (k : Fin 3) : ∑ d : Dev nD, O₀ d (rsR c (pr k.val c)) () = NN := by
  have n1 (k' : Fin 3) (d : Dev nD) : rsR c (pr k.val c) ≠ barC (pr k'.val d) := fun h => nomatch congrArg Prod.snd h
  have n2 (k' : Fin 3) (d : Dev nD) : rsR c (pr k.val c) ≠ agR (pr k'.val d) d := rs_ag c _ _ _
  rw [owed_sum, rs_one, rs_one, rs_one, sum_miss (n2 2), sum_miss (n2 1), sum_miss (n2 0), sum_miss (n1 2), sum_miss (n1 1), sum_miss (n1 0)]
  simpa using one_of_three k NN

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The semaphores of `c` that others raise. -/
abbrev raised : List (SemLoc sig) := [.reg barrier0, .dma (sem4 cc0_scratch8 (pr 0 c)), .dma (sem4 cc0_scratch8 (pr 1 c)), .dma (sem4 cc0_scratch8 (pr 2 c)),
  .dma (sem4 cc0_scratch10 (pr 0 c)), .dma (sem4 cc0_scratch10 (pr 1 c)), .dma (sem4 cc0_scratch10 (pr 2 c))]

theorem raised_nodup : (raised c).Nodup := by revert c; decide +kernel

/-- The launch credit of one semaphore of `c`. -/
def credOf (sm : SemLoc sig) : sProp 𝕄 := cred (tallyOn ((c : Thread nD τ), sm) (launchCredit (Pipeline.owing O₀) 0 ((c : Thread nD τ), sm)))
theorem launchCred_all : (Pipeline.launchCred O₀ c : sProp 𝕄) = bigSep Finset.univ (credOf c) := rfl
theorem credOf_raised : (bigSep Finset.univ (credOf c) : sProp 𝕄) ⊢ bigSepL (raised c) (credOf c) := by
  rw [← bigSep_eq_bigSepL_of_eq (raised c) rfl (raised_nodup c)]
  exact bigSep_subset (Finset.subset_univ _)

theorem expected_of : (Pipeline.launchCred O₀ c : sProp 𝕄) ⊢ expected c := by
  rw [launchCred_all]
  have hb : (credOf c (.reg barrier0) : sProp 𝕄) = cred (tallyAt (barC c) () 3) := congrArg cred (launch_at _ 3 (sum_bar c))
  have ha (k : Fin 3) : (credOf c (.dma (sem4 cc0_scratch8 (pr k.val c))) : sProp 𝕄)
      = credAt c (sem4 cc0_scratch8 (pr k.val c)) := congrArg cred (launch_at _ NN (sum_ag c k))
  have hr (k : Fin 3) : (credOf c (.dma (sem4 cc0_scratch10 (pr k.val c))) : sProp 𝕄)
      = credAt c (sem4 cc0_scratch10 (pr k.val c)) := congrArg cred (launch_at _ NN (sum_rs c k))
  have s3 (A B C D E G H A' B' C' D' E' G' H' : sProp 𝕄) (h1 : A = A') (h2 : B = B') (h3 : C = C') (h4 : D = D') (h5 : E = E') (h6 : G = G') (h7 : H = H') :
      iprop(A ∗ B ∗ C ∗ D ∗ E ∗ G ∗ H) = iprop(A' ∗ B' ∗ C' ∗ D' ∗ E' ∗ G' ∗ H') := by subst h1 h2 h3 h4 h5 h6 h7; rfl
  refine (credOf_raised c).trans ((Entails.of_eq (s3 _ _ _ _ _ _ _ _ _ _ _ _ _ _ hb (ha 0) (ha 1) (ha 2) (hr 0) (hr 1) (hr 2))).trans ?_)
  unfold expected
  iintro ⟨HB, H0, H1, H2, H3, H4, H5⟩
  isplitl [HB]; · iexact HB
  isplitl [H0 H1 H2]
  · isplitl [H0]; · iexact H0
    isplitl [H1]; · iexact H1
    iexact H2
  isplitl [H3]; · iexact H3
  isplitl [H4]; · iexact H4
  iexact H5
end Credit

/-! ### The launch itself -/

omit [FloatOps F] in
/-- Dealing two things to every device is dealing the one and dealing the other. -/
theorem deal_both (Φ Ψ : Dev nD → sProp 𝕄) : (bigSep Finset.univ fun c => iprop(Φ c ∗ Ψ c)) = iprop(bigSep Finset.univ Φ ∗ bigSep Finset.univ Ψ) := bigSep_sep' _ Φ Ψ

variable (m : (ℓ : Loc nD τ sig) → Buf (Elt F) ℓ) (ρ : Dev nD → PrngReg)

/-- The launch's ghost state: the staging cells', the exchange's, and none of the counters'. -/
def u₀ : UU :=
  (initOf (Pipeline.cells (Pipeline.pin (pcfgs (F := F)) adm) cellOf_inj) (Pipeline.launchToks (Pipeline.pin (pcfgs (F := F)) adm) cellOf_inj),
    (launchOf barCells cpCells payToks, 1))

/-- All of a resource given to the first device. -/
def atFirst (X : sProp 𝕄) (c : Dev nD) : sProp 𝕄 := if c = 0 then X else iprop(emp)
omit [FloatOps F] in
theorem atFirst_eq (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp
def G : Dev nD → sProp 𝕄 := atFirst (BI.own (ER (launchOf barCells cpCells payToks)))

omit [FloatOps F] in
theorem own_split (a : UR sig nD τ) (b : URounds (GSem nD τ sig) (Fin 3)) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
omit [FloatOps F] in
theorem barrier_only (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- What rides beside the buffers up to the region. -/
def beside (c : Dev nD) : sProp 𝕄 := iprop(Tk (Xm m) (Pm m) c ∗ Ow c (O₀ c) ∗ ∃ r, prngReg c r)
abbrev T₀ (c : Dev nD) : sProp 𝕄 := iprop(StableHlo.held (c : Thread nD τ) bufs (V₀m m c) ∗ beside m c)
/-- What of it is not the exchange's ghost state. -/
def plain (c : Dev nD) : sProp 𝕄 := iprop(StableHlo.held (c : Thread nD τ) bufs (V₀m m c) ∗ expected c ∗ Ow c (O₀ c) ∗ ∃ r, prngReg c r)

theorem T₀_intro (κ : GSem nD τ sig → ℕ) (c : Dev nD) : iprop(records (Xm m) (Pm m) κ ∗ (dealt c ∗ plain m c)) ⊢ T₀ m c := by
  unfold plain T₀ beside Tk
  iintro ⟨#HR, Hd, Hh, He, HO, Hp⟩
  isplitl [Hh]; · iexact Hh
  isplitl [Hd He]
  · isplitl [Hd]
    · iexists κ; isplitr; · iexact HR
      iexact Hd
    iexact He
  isplitl [HO]; · iexact HO
  iexact Hp

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barC c) 0 ∗ G c)) : sProp 𝕄) := by
  rw [show unscopedBufs c (fun b => m ((c : Thread nD τ).loc b)) = StableHlo.held (c : Thread nD τ) bufs (V₀m m c) from bufs_held c (V₀m m c), barrier_only]
  unfold plain Ow
  iintro ⟨Hh, Hus, HO, Hcr, Hp, HG⟩
  ihave Hc := (expected_of (F := F) c) $$ Hcr
  isplitl [Hh Hc HO Hp]
  · isplitl [Hh]; · iexact Hh
    isplitl [Hc]; · iexact Hc
    isplitl [HO]; · iexists ∅; iexact HO
    iexists (ρ c); iexact Hp
  isplitl [Hus]; · iexact Hus
  iexact HG

theorem bar_cells (Φ : GSem nD τ sig → sProp 𝕄) : bigSep barCells Φ = bigSep Finset.univ fun c : Dev nD => Φ (barC c) :=
  bigSep_map (s := Finset.univ) barEmb (Φ := Φ)
theorem copy_cells : bigSep cpCells (fun g => (openTok ER g : sProp 𝕄)) = bigSep Finset.univ fun c : Dev nD => byUse c (openAt c) := by
  rw [bigSep_map, bigSep_univ_prod]
  exact bigSep_congr fun c _ => use_eq c (openAt c)
theorem cells_disjoint : Disjoint (barCells : Finset (GSem nD τ sig)) cpCells := by
  rw [Finset.disjoint_left]
  rintro g h₁ h₂
  obtain ⟨c, -, rfl⟩ := Finset.mem_map.mp h₁
  obtain ⟨cj, -, h⟩ := Finset.mem_map.mp h₂
  exact nomatch congrArg Prod.snd h

/-- The launch deals every device its buffers and its part of the exchange. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barC c) 0 ∗ G c)) : sProp 𝕄) from bigSep_mono fun c _ => core_init m ρ c) $$ H
  ihave H2 := (Entails.of_eq (deal_both _ _)) $$ H'; icases H2 with ⟨HB, H3⟩
  ihave H4 := (Entails.of_eq (deal_both _ _)) $$ H3; icases H4 with ⟨Hv, HG⟩
  ihave Hu := (show bigSep Finset.univ (G (F := F)) ⊢ BI.own (ER (launchOf barCells cpCells payToks)) from
    Entails.of_eq (atFirst_eq (F := F) (BI.own (ER (launchOf barCells cpCells payToks))))) $$ HG
  imod (Rounds.fund_launch ER (Rd (Xm m) (Pm m)) cells_disjoint (fun g _ h => h) payToks) $$ [Hv Hu] with ⟨%κ, -, #Hinv, #Hr, Hat, Hopen, Htok⟩
  · isplitl [Hv]
    · iapply (Entails.of_eq (bar_cells (fun g => (semVal g 0 : sProp 𝕄))).symm) $$ Hv
    · iexact Hu
  imodintro
  iapply (bigSep_with_persistent (R := records (Xm m) (Pm m) κ) (Φ := fun c => iprop(dealt c ∗ plain m c)) fun c _ => T₀_intro m κ c)
  isplitr
  · unfold records
    isplitr; · iexact Hinv
    iexact Hr
  iapply (Entails.of_eq (deal_both _ _).symm)
  isplitr [HB]
  · unfold dealt
    iapply (Entails.of_eq (deal_both _ _).symm); isplitl [Hat]; · iapply (Entails.of_eq (bar_cells (fun g => (atPos ER g 0 ∅ 0 : sProp 𝕄)))) $$ Hat
    iapply (Entails.of_eq (deal_both _ _).symm); isplitl [Hopen]; · iapply (Entails.of_eq (copy_cells (F := F))) $$ Hopen
    iapply (Entails.of_eq (rights_eq (F := F))) $$ Htok
  · iexact HB

end Cert.KernelIdeal

end

end
-- ==== Proof.KRun.lean ====
module

public import proofs.«01_k».proof.Proof.KLaunch
public import Idealize.ShloMosaic.Lib.Pipeline.Value

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat)

/-! ## The run -/

variable (m : (ℓ : Loc nD τ sig) → Buf (Elt F) ℓ) (ρ : Dev nD → PrngReg) (c : Dev nD)

/-! ### Each window is its whole array -/

theorem emb0 (i : S512x1024.Idx) : (win0_0.rect t0_0).emb i = i := funext fun a => Fin.ext (by
  show 0 * win0_0.size a + 1 * (i a).val = (i a).val; omega)
theorem emb1 (i : S8x1024x128.Idx) : (win0_1.rect t0_0).emb i = i := funext fun a => Fin.ext (by
  show 0 * win0_1.size a + 1 * (i a).val = (i a).val; omega)
theorem emb2 (i : S8x128x1024.Idx) : (win0_2.rect t0_0).emb i = i := funext fun a => Fin.ext (by
  show 0 * win0_2.size a + 1 * (i a).val = (i a).val; omega)
theorem emb3 (i : S1x512x1024.Idx) : (win0_3.rect t0_0).emb i = i := funext fun a => Fin.ext (by
  show 0 * win0_3.size a + 1 * (i a).val = (i a).val; omega)

theorem Xm_eq : Xm m c = V m c main_v2 := funext fun i => congrArg (V m c main_v2) (emb0 i)
theorem wqm_eq : wqm m c = V m c main_v5 := funext fun i => congrArg (V m c main_v5) (emb1 i)
theorem wom_eq : wom m c = V m c main_v7 := funext fun i => congrArg (V m c main_v7) (emb2 i)

/-- The result array ends at what the body stored. -/
theorem finalA_eq : finalA m c = Om m c := by
  refine (dat m c).arrAt_eq_of_cover 3 (Om m c) (fun t _ => ?_) (fun i => ⟨t0_0, flush0_3 _, ?_⟩)
  · obtain rfl := fin_N0 t
    exact funext fun i => (congrArg (Om m c) (emb3 i)).symm
  · show i ∈ ((View.whole main_v8).slice (win0_3.rect t0_0)).set
    rw [View.set_slice_whole, Rect.mem_set_unit]
    intro a
    show 0 * win0_3.size a ≤ (i a).val ∧ (i a).val < 0 * win0_3.size a + win0_3.size a
    have h : (i a).val < win0_3.size a := (i a).isLt
    omega

/-! ### The segments of the main computation -/

local notation "𝕊" => Pipeline.Seg (pcfgs (F := F)) adm (pdats m) () defs₀ 𝒱₀ L lv

theorem hostOps_bufs : ∀ op ∈ (hostOps0 : List (HloOp τ sig (Elt F))), op.bufs ⊆ bufs := fun op h =>
  Pipeline.sub_ucRefs op (List.forall_iff_forall_mem.mp hostOps0_sub op h)

/-- The operations before the launch. -/
def before : Pipeline.HostSeg (Ix := Unit) (Name := ℕ) (U := UU) (Lvl := ℕ) (pcfgs (F := F)) defs₀ 𝒱₀ L lv :=
  Pipeline.HostSeg.ofOps (pcfgs (F := F)) defs₀ 𝒱₀ L lv bufs hostOps0 hostOps_bufs (List.forall_iff_forall_mem.mp hostOps0_fresh) (V₀m m) (beside m)

def segs : List 𝕊 := [.host (before m), .region (region m)]

theorem arrays_sub₀ : Pipeline.arrRefs spec0 ⊆ bufs := by decide
theorem arrays_sub : Pipeline.arrRefs (Pipeline.pin (pcfgs (F := F)) adm 0).spec ⊆ bufs := arrays_sub₀

/-- The region takes the arrays its windows name out of the buffers held. -/
theorem region_pre : iprop(StableHlo.held (c : Thread nD τ) bufs (V₁m m c) ∗ beside m c) ⊢ (region m).pre c := by
  unfold beside
  rw [StableHlo.held_sub_split (c : Thread nD τ) (arrays_sub (F := F)) (V₁m m c)]
  show _ ⊢ iprop(StableHlo.held (c : Thread nD τ) (Pipeline.arrRefs (Pipeline.pin (pcfgs (F := F)) adm 0).spec) (V₁m m c) ∗ (∃ r, prngReg c r)
    ∗ (StableHlo.held (c : Thread nD τ) others (V₁m m c) ∗ emp) ∗ Tk (Xm m) (Pm m) c ∗ ∃ W, owes (c : Thread nD τ) (0 + O₀ c) W)
  rw [zero_add]
  unfold Ow
  iintro ⟨⟨Ha, Hr⟩, HT, HO, Hp⟩
  isplitl [Ha]; · iexact Ha
  isplitl [Hp]; · iexact Hp
  isplitl [Hr]; · iapply Laws.sep_emp.2 $$ Hr
  isplitl [HT]; · iexact HT
  iexact HO

/-- The region leaves every buffer held, the result at what the body stored, and the barrier's counter at zero. -/
theorem region_post : (region m).post c
    ⊢ iprop((StableHlo.held (c : Thread nD τ) bufs (V₂m m c) ∗ semVal (barC c) 0) ∗ ∃ W, owes (c : Thread nD τ) (0 : CellTallies nD τ sig Unit) W) := by
  rw [StableHlo.held_sub_split (c : Thread nD τ) (arrays_sub (F := F)) (V₂m m c)]
  show iprop(StableHlo.held (c : Thread nD τ) (Pipeline.arrRefs (Pipeline.pin (pcfgs (F := F)) adm 0).spec) (V₂m m c) ∗ (∃ r, prngReg c r)
    ∗ (StableHlo.held (c : Thread nD τ) others (V₂m m c) ∗ emp) ∗ semVal (barC c) 0 ∗ ∃ W, owes (c : Thread nD τ) (0 : CellTallies nD τ sig Unit) W) ⊢ _
  iintro ⟨Ha, -, ⟨Hr, -⟩, HB, HO⟩
  isplitr [HO]
  · isplitl [Ha Hr]
    · isplitl [Ha]; · iexact Ha
      iexact Hr
    iexact HB
  iexact HO

/-! ### What the buffers hold at the end -/

theorem unscoped_eq : ∀ sm : SemLoc sig, sm.isScoped .tc = false → sm = .reg barrier0 := by decide

/-- The arguments and the result, among all the buffers. -/
abbrev named : List (DevRef τ sig) := [Proc.devRef .tc main_arg0, Proc.devRef .tc main_arg1, Proc.devRef .tc main_arg2, Proc.devRef .tc main_arg3,
  Proc.devRef .tc main_arg4, Proc.devRef .tc main_v8]

theorem ends (W : Valuation τ sig (Elt F)) : (StableHlo.held (c : Thread nD τ) bufs W : sProp 𝕄)
    ⊢ iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_arg4) ↦{fullShare} W main_arg4) ∗ (((c : Thread nD τ).loc main_v8) ↦{fullShare} W main_v8)) := by
  rw [StableHlo.held_sub_split (c : Thread nD τ) (show named.toFinset ⊆ bufs by decide) W]
  iintro ⟨H, -⟩
  iapply (Entails.of_eq (show (StableHlo.held (c : Thread nD τ) named.toFinset W : sProp 𝕄) = _ by
    unfold StableHlo.held
    rw [bigSep_eq_bigSepL_of_eq named rfl (by decide)]
    rfl)) $$ H

/-- What device `c`'s memory holds at the end: the arguments as they were, the result what the body stored. -/
def Ends (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v8) = Om m c

theorem kept (r : Ref sig .tc) (h : (Proc.devRef .tc r : DevRef τ sig) ≠ Proc.devRef .tc main_v8) (hv : V m c r = m ((c : Thread nD τ).loc r)) :
    V₂m m c r = m ((c : Thread nD τ).loc r) := (V₂_of_ne m c _ h).trans hv

set_option backward.isDefEq.respectTransparency.types false in
theorem read_ends (s' : Phys nD τ sig (Elt F)) :
    iprop((StableHlo.held (c : Thread nD τ) bufs (V₂m m c) ∗ semVal (barC c) 0) ∗ SI s')
      ⊢ (|={Set.univ}=> iprop(⌜Ends m c s'.mem ∧ s'.mem.sem (barC c) = 0⌝ ∗ SI s') : sProp 𝕄) := by
  iintro ⟨⟨H, HB⟩, HSI⟩
  ihave H' := (ends c (V₂m m c)) $$ H
  icases H' with ⟨H0, H1, H2, H3, H4, H8⟩
  icombine HSI H0 gives %h0
  icombine HSI H1 gives %h1
  icombine HSI H2 gives %h2
  icombine HSI H3 gives %h3
  icombine HSI H4 gives %h4
  icombine HSI H8 gives %h8
  icombine HSI HB gives %hb
  imodintro
  isplitr
  · ipureintro
    exact ⟨⟨⟨(Buf.eq_of_forall_mem_univ h0).trans (kept m c _ (by decide) (V_main_arg0 m c)),
      (Buf.eq_of_forall_mem_univ h1).trans (kept m c _ (by decide) (V_main_arg1 m c)),
      (Buf.eq_of_forall_mem_univ h2).trans (kept m c _ (by decide) (V_main_arg2 m c)),
      (Buf.eq_of_forall_mem_univ h3).trans (kept m c _ (by decide) (V_main_arg3 m c)),
      (Buf.eq_of_forall_mem_univ h4).trans (kept m c _ (by decide) (V_main_arg4 m c))⟩,
      (Buf.eq_of_forall_mem_univ h8).trans ((V₂_v8 m c).trans (finalA_eq m c))⟩, by simpa using hb⟩
  iexact HSI

set_option backward.isDefEq.respectTransparency.types false in
/-- From any memory with zero counters every fair execution on the four devices ends, with the arguments unchanged, each
    device's result what its body stored, and every counter at zero. -/
theorem run_main : θ_run (defs (F := F)) (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (before m) (region m) rfl c]; rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (own_split _ _) $$ Hu
      icases H with ⟨HP, HX⟩
      imodintro
      isplitl [HP]; · iexact HP
      rw [atFirst_eq]; iexact HX)
    (T₀ := T₀ m) (Tₙ := fun c => iprop(StableHlo.held (c : Thread nD τ) bufs (V₂m m c) ∗ semVal (barC c) 0))
    (hch := ⟨fun c => .rfl, fun c => region_pre m c, fun c => region_post m c⟩)
    (hinit := init m ρ)
    (QY := fun c s => Ends m c s ∧ s.sem (barC c) = 0)
    (hfin := read_ends m)
    (hQ := fun s h hs => ⟨fun c => (h c).1, sem_eq_zero hs fun c sm hsm => by
        obtain rfl := unscoped_eq sm hsm
        exact (h c).2⟩)

end Cert.KernelIdeal

end

end
-- ==== Proof.Twin.lean ====
module

public import proofs.«01_k».proof.Proof.Gen.Kernel
public import proofs.«01_k».proof.Proof.KRun

@[expose] public section

noncomputable section

namespace Cert.Proof

open Idealize.ShloMosaic Idealize.ShloMosaic.TcCoe

variable {F : FTy → Type} [FloatOps F]

/-! ## The two prints of the kernel

The kernel and its idealization are printed from one module and no operation differs between them: the two programs are equal by
unfolding their definitions, so that what is proved of one, for any floats, is proved of the other. -/

set_option maxHeartbeats 4000000 in
/-- The two body tables agree: at their one label both run the same body. -/
theorem bodies_same : Cert.Kernel.defs₀ (F := F) = Cert.KernelIdeal.defs₀ (F := F) :=
  congrArg Defs.onTc (funext fun l => funext fun a => by
    match l, a with
    | 0, (t, s) => with_unfolding_all rfl
    | ⟨_ + 1, h⟩, _ => exact absurd h (Nat.not_lt.2 (Nat.le_add_left _ _)))

theorem defs_same : Cert.Kernel.defs (F := F) = Cert.KernelIdeal.defs (F := F) :=
  congrArg (Pipeline.defs Cert.KernelIdeal.pcfgs) bodies_same

theorem main_same : Cert.Kernel.main (F := F) = Cert.KernelIdeal.main (F := F) := by with_unfolding_all rfl

/-- So the kernel's own print runs as its idealization's does: every execution ends, with each device's arguments unchanged and
    every counter at zero. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD, Cert.KernelIdeal.Ends m c r.2) ∧ r.2.sem = fun _ => 0) := by
  rw [defs_same, main_same]
  exact Cert.KernelIdeal.run_main m ρ

end Cert.Proof

end

end
-- ==== Proof.VSoft.lean ====
/-
  The arithmetic of one head over the extended reals: scores that are real, the softmax quotient written as one
  quotient of sums, and the two-chunk form with a running maximum.
-/
module

public import Idealize.ShloMosaic.Lib.IdealHost
public import Mathlib.Tactic.FieldSimp
public import Mathlib.Tactic.Ring

@[expose] public section

noncomputable section

namespace Cert.Attn

open Idealize.ShloMosaic

/-- The extended real is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A sum of reals, as extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a nonempty finite family of reals, started from minus infinity, is a real. -/
theorem isReal_fold_max {n : ℕ} (f : Fin (n + 1) → EReal) (h : ∀ i, IsReal (f i)) :
    IsReal (Finset.univ.fold max ⊥ f) := by
  have key : ∀ s : Finset (Fin (n + 1)), s.Nonempty → IsReal (s.fold max ⊥ f) := by
    intro s hs
    induction hs using Finset.Nonempty.cons_induction with
    | singleton a => rw [Finset.fold_singleton, max_bot_right]; exact h a
    | cons a s ha _ ih => rw [Finset.fold_cons]; exact (h a).max ih
  exact key _ Finset.univ_nonempty

/-- A real that is not negative multiplies into a sum of two extended reals. -/
theorem coe_mul_add {c : ℝ} (hc : 0 ≤ c) (y z : EReal) : (c : EReal) * (y + z) = c * y + c * z :=
  EReal.left_distrib_of_nonneg_of_ne_top (EReal.coe_nonneg.mpr hc) (EReal.coe_ne_top c) y z

/-- A real that is not negative multiplies into a finite sum of extended reals. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The scale the scores carry: the single-precision neighbour of `1 / √128`. -/
abbrev scale : EReal := Ideal.ofBits .f32 0x3DB504F3#32

theorem scale_real : IsReal scale := by
  refine ⟨?_, ?_⟩
  rotate_left
  · simp only [scale, Ideal.ofBits, Ideal.ieee]
    rw [if_neg (by decide), if_neg (by decide)]

/-- The score of one query row against one key row, with the query scaled. -/
def score (x : Fin 1024 → EReal) (wq : Fin 1024 → Fin 128 → EReal) (k : Fin 128 → EReal) : EReal :=
  ∑ d, (∑ a, x a * wq a d) * scale * k d

theorem score_real {x : Fin 1024 → EReal} {wq : Fin 1024 → Fin 128 → EReal} {k : Fin 128 → EReal} (hx : ∀ a, IsReal (x a))
    (hw : ∀ a d, IsReal (wq a d)) (hk : ∀ d, IsReal (k d)) : IsReal (score x wq k) :=
  IsReal.sum _ fun d => ((IsReal.sum _ fun a => (hx a).mul (hw a d)).mul scale_real).mul (hk d)

/-- Of reals the scale may be applied to the score instead of the query. -/
theorem score_eq {x : Fin 1024 → EReal} {wq : Fin 1024 → Fin 128 → EReal} {k : Fin 128 → EReal} (hx : ∀ a, IsReal (x a))
    (hw : ∀ a d, IsReal (wq a d)) (hk : ∀ d, IsReal (k d)) :
    (∑ d, (∑ a, x a * wq a d) * k d) * scale = score x wq k := by
  obtain ⟨r, hr⟩ := scale_real
  have hq : ∀ d, IsReal (∑ a, x a * wq a d) := fun d => IsReal.sum _ fun a => (hx a).mul (hw a d)
  choose q hq using hq
  choose g hg using hk
  unfold score
  rw [hr]
  simp only [hq, hg, ← EReal.coe_mul, ← coe_sum]
  rw [Finset.sum_mul]
  exact congrArg _ (Finset.sum_congr rfl fun d _ => by ring)

/-- One entry of a head: the values weighted by the exponentials of the scores, over the sum of the exponentials. -/
def head (s v : Fin 2048 → EReal) : EReal := Ideal.div (∑ j, Ideal.exp (s j) * v j) (∑ j, Ideal.exp (s j))

/-- The first and the second half of 2048 positions. -/
def lo (j : Fin 1024) : Fin 2048 := ⟨j.val, by omega⟩
def hi (j : Fin 1024) : Fin 2048 := ⟨1024 + j.val, by omega⟩

theorem sum_halves (f : Fin 2048 → EReal) : ∑ j, f j = ∑ j, f (lo j) + ∑ j, f (hi j) :=
  Fin.sum_univ_add (a := 1024) (b := 1024) f

/-- One chunk's weighted sum with the maximum `m` taken off is the plain one times `e^{-m}`. -/
theorem chunk_sum (m : ℝ) (s : Fin 1024 → ℝ) (v : Fin 1024 → EReal) :
    ∑ j, v j * Ideal.exp ((s j : EReal) - (m : EReal)) = ((Real.exp (-m) : ℝ) : EReal) * ∑ j, Ideal.exp (s j : EReal) * v j := by
  rw [coe_mul_sum _ (Real.exp_pos _).le]
  refine Finset.sum_congr rfl fun j _ => ?_
  rw [← EReal.coe_sub, Ideal.exp_coe, Ideal.exp_coe, ← mul_assoc, ← EReal.coe_mul, ← Real.exp_add, mul_comm, neg_add_eq_sub]

/-- Two chunks: the first rescaled to the second's maximum, then the second added. -/
theorem two_chunks (m1 m2 : ℝ) (A B : EReal) :
    (0 * Ideal.exp (⊥ - (m1 : EReal)) + ((Real.exp (-m1) : ℝ) : EReal) * A) * Ideal.exp ((m1 : EReal) - (m2 : EReal))
      + ((Real.exp (-m2) : ℝ) : EReal) * B = ((Real.exp (-m2) : ℝ) : EReal) * (A + B) := by
  rw [zero_mul, zero_add, ← EReal.coe_sub, Ideal.exp_coe, coe_mul_add (Real.exp_pos _).le, mul_right_comm,
    ← EReal.coe_mul, ← Real.exp_add]
  congr 3
  ring_nf

/-- A quotient does not change when a positive real multiplies both its terms. -/
theorem div_scaled {c l : ℝ} (hc : 0 < c) (hl : 0 < l) (A : EReal) :
    Ideal.div ((c : EReal) * A) ((c : EReal) * (l : EReal)) = Ideal.div A (l : EReal) := by
  rw [← EReal.coe_mul, Ideal.div_coe (mul_pos hc hl).ne', Ideal.div_coe hl.ne', mul_comm (c : EReal) A, mul_assoc, ← EReal.coe_mul]
  congr 2
  field_simp

/-- The two-chunk form with a running maximum: whatever real numbers stand for the maxima, the quotient at the end is the
    head's entry. -/
theorem online_eq {s : Fin 2048 → EReal} (hs : ∀ j, IsReal (s j)) (v : Fin 2048 → EReal) {m1 m2 : EReal} (h1 : IsReal m1) (h2 : IsReal m2) :
    Ideal.div
      ((0 * Ideal.exp (⊥ - m1) + ∑ j, v (lo j) * Ideal.exp (s (lo j) - m1)) * Ideal.exp (m1 - m2)
        + ∑ j, v (hi j) * Ideal.exp (s (hi j) - m2))
      ((0 * Ideal.exp (⊥ - m1) + ∑ j, Ideal.exp (s (lo j) - m1)) * Ideal.exp (m1 - m2) + ∑ j, Ideal.exp (s (hi j) - m2))
    = head s v := by
  obtain ⟨a, rfl⟩ := h1
  obtain ⟨b, rfl⟩ := h2
  choose r hr using hs
  have one : ∀ (m : ℝ) (t : Fin 1024 → ℝ), ∑ j, Ideal.exp ((t j : EReal) - (m : EReal))
      = ((Real.exp (-m) : ℝ) : EReal) * ∑ j, Ideal.exp (t j : EReal) := fun m t => by
    have := chunk_sum m t fun _ => 1
    simpa only [one_mul, mul_one] using this
  unfold head
  rw [sum_halves, sum_halves (fun j => Ideal.exp (s j))]
  simp only [hr]
  rw [chunk_sum a (fun j => r (lo j)), chunk_sum b (fun j => r (hi j)), one a (fun j => r (lo j)), one b (fun j => r (hi j)),
    two_chunks, two_chunks]
  simp only [Ideal.exp_coe, ← coe_sum, ← EReal.coe_add]
  refine div_scaled (Real.exp_pos _) ?_ _
  exact add_pos (Finset.sum_pos (fun j _ => Real.exp_pos _) Finset.univ_nonempty)
    (Finset.sum_pos (fun j _ => Real.exp_pos _) Finset.univ_nonempty)

end Cert.Attn

end
end
-- ==== Proof.VHead.lean ====
/-
  What one head contributes to a partial sum, entry by entry, and what the eight heads of a device contribute together.
-/
module

public import proofs.«01_k».proof.Proof.KSums
public import proofs.«01_k».proof.Proof.VSoft
public import Idealize.ShloMosaic.Lib.Pointwise

@[expose] public section

noncomputable section

namespace Cert.KernelIdeal

open Cert.KernelIdeal.Gen Cert.Attn
open Idealize.ShloMosaic Idealize.ShloMosaic.TcCoe

/-- The fixed block's first column is ones. -/
theorem ones_apply (j : Fin 2048) : k0_pay25 (F := Ideal) (ix3 0 j 0) = (1 : EReal) := by
  pointwise [k0_pay25, k0_pay24]

theorem ix128_eq (r : Fin 2048) (j : Fin 128) : ix128 r j = ix3 0 r j := eq_ix3 _

/-- The first 128 columns of the widened values are the block's. -/
theorem wide_lo (w : S1x2048x128.Idx → Elt Ideal .bf16) (j : Fin 2048) (e : Fin 128) :
    wide w (ix3 0 j ⟨e.val, by omega⟩) = w (ix3 0 j e) :=
  (dif_pos e.isLt).trans (congrArg w (ix128_eq j e))

/-- The next column is ones. -/
theorem wide_one (w : S1x2048x128.Idx → Elt Ideal .bf16) (j : Fin 2048) :
    wide w (ix3 0 j 128) = (1 : EReal) :=
  (dif_neg (show ¬(128 : ℕ) < 128 by decide)).trans ((congrArg (k0_pay25 (F := Ideal)) (ix128_eq j 0)).trans (ones_apply j))

/-- The body of one head at an entry: the running sum, plus the head's entries times the output weights. -/
theorem pay3_apply (kh : FVec Ideal S2048x128 .bf16) (x : Vec Ideal S1x512x1024 .bf16) (wq : Vec Ideal S1x1024x128 .bf16)
    (w : S1x2048x128.Idx → Elt Ideal .bf16) (acc : Vec Ideal S512x1024 .f32) (wo : Vec Ideal S1x128x1024 .bf16) (i : Fin 512) (n : Fin 1024) :
    k0_pay3 kh x wq (wide w) acc wo (ix2 i n)
      = acc (ix2 i n) + ∑ e : Fin 128, head (fun j => score (fun a => x (ix3 0 i a)) (fun a d => wq (ix3 0 a d)) (fun d => kh (ix2 j d)))
          (fun j => w (ix3 0 j e)) * wo (ix3 0 e n) := by
  have h1 := wide_lo w
  have h2 := wide_one w
  revert h1 h2
  generalize wide w = vc
  intro h1 h2
  pointwise [k0_pay3]
  refine congrArg (acc (ix2 i n) + ·) (Finset.sum_congr rfl fun e _ => congrArg (· * _) ?_)
  simp only [h1, h2, mul_one]
  rfl

variable (c : Dev nD) (fwq : S8x1024x128.Idx → Elt Ideal .bf16) (fwo : S8x128x1024.Idx → Elt Ideal .bf16)
  (fK fV : S4x2048x32x128.Idx → Elt Ideal .f32) (b : Fin 4) (X : S1x512x1024.Idx → Elt Ideal .bf16)

/-- Head `n` of device `d` among the 32. -/
def hd (d : Fin 4) (n : Fin 8) : Fin 32 := ⟨8 * d.val + n.val, by omega⟩

/-- A block of the keys (of the values) is one batch's and one head's rows. -/
theorem blkK_apply (n : Fin 8) (j : Fin 2048) (d : Fin 128) :
    k0_pay1 (blk c KM _ (kvo_inb b c n.val n.isLt) fK) (ix2 j d) = fK (ix4 b j (hd c n) d) := by
  have e : blk c KM _ (kvo_inb b c n.val n.isLt) fK (ix4 0 j 0 d) = fK (ix4 b j (hd c n) d) :=
    congrArg fK (funext fun a => Fin.ext (match a with
      | ⟨0, _⟩ => show b.val + 1 * 0 = b.val by omega
      | ⟨1, _⟩ => show 0 + 1 * j.val = j.val by omega
      | ⟨2, _⟩ => show 8 * c.val + n.val + 1 * 0 = 8 * c.val + n.val by omega
      | ⟨3, _⟩ => show 0 + 1 * d.val = d.val by omega))
  revert e
  generalize blk c KM _ (kvo_inb b c n.val n.isLt) fK = y
  intro e
  pointwise [k0_pay1]
  exact e

theorem blkV_apply (n : Fin 8) (j : Fin 2048) (d : Fin 128) :
    k0_pay2 (blk c VM _ (kvo_inb b c n.val n.isLt) fV) (ix3 0 j d) = fV (ix4 b j (hd c n) d) := by
  have e : blk c VM _ (kvo_inb b c n.val n.isLt) fV (ix4 0 j 0 d) = fV (ix4 b j (hd c n) d) :=
    congrArg fV (funext fun a => Fin.ext (match a with
      | ⟨0, _⟩ => show b.val + 1 * 0 = b.val by omega
      | ⟨1, _⟩ => show 0 + 1 * j.val = j.val by omega
      | ⟨2, _⟩ => show 8 * c.val + n.val + 1 * 0 = 8 * c.val + n.val by omega
      | ⟨3, _⟩ => show 0 + 1 * d.val = d.val by omega))
  revert e
  generalize blk c VM _ (kvo_inb b c n.val n.isLt) fV = y
  intro e
  pointwise [k0_pay2]
  exact e

/-- The weights of one head. -/
theorem wqr_apply (n : Fin 8) (a : Fin 1024) (d : Fin 128) :
    (wqM.access (wqr n)).read (Elt Ideal) fwq (ix3 0 a d) = fwq (ix3 n a d) :=
  congrArg fwq (funext fun x => Fin.ext (match x with
    | ⟨0, _⟩ => show n.val + 1 * 0 = n.val by omega
    | ⟨1, _⟩ => show 0 + 1 * a.val = a.val by omega
    | ⟨2, _⟩ => show 0 + 1 * d.val = d.val by omega))
theorem wor_apply (n : Fin 8) (e : Fin 128) (k : Fin 1024) :
    (woM.access (wor n)).read (Elt Ideal) fwo (ix3 0 e k) = fwo (ix3 n e k) :=
  congrArg fwo (funext fun x => Fin.ext (match x with
    | ⟨0, _⟩ => show n.val + 1 * 0 = n.val by omega
    | ⟨1, _⟩ => show 0 + 1 * e.val = e.val by omega
    | ⟨2, _⟩ => show 0 + 1 * k.val = k.val by omega))

/-- What head `n` of device `c` contributes to entry `(i, k)` of batch `b`. -/
def contrib (n : Fin 8) (i : Fin 512) (k : Fin 1024) : EReal :=
  ∑ e : Fin 128, head (fun j => score (fun a => X (ix3 0 i a)) (fun a d => fwq (ix3 n a d)) (fun d => fK (ix4 b j (hd c n) d)))
    (fun j => fV (ix4 b j (hd c n) e)) * fwo (ix3 n e k)

theorem headStep_apply (n : Fin 8) (acc : S512x1024.Idx → Elt Ideal .f32) (i : Fin 512) (k : Fin 1024) :
    headStep c fwq fwo fK fV b X n.val n.isLt acc (ix2 i k) = (acc (ix2 i k) : EReal) + contrib c fwq fwo fK fV b X n i k := by
  unfold headStep contrib
  rw [pay3_apply]
  simp only [blkK_apply, blkV_apply]
  refine congrArg (_ + ·) (Finset.sum_congr rfl fun e _ => ?_)
  refine congrArg₂ (· * ·) (congrArg₂ head (funext fun j => ?_) rfl) (wor_apply fwo n e k)
  exact congrArg (fun w => score _ w _) (funext fun a => funext fun d => wqr_apply fwq n a d)

/-- The running sum after `n` heads. -/
theorem accN_apply (i : Fin 512) (k : Fin 1024) : ∀ n : ℕ, (hn : n ≤ 8) →
    accN c fwq fwo fK fV b X n (ix2 i k) = ∑ h : Fin n, contrib c fwq fwo fK fV b X ⟨h.val, by omega⟩ i k := by
  intro n
  induction n with
  | zero => intro _; unfold accN; pointwise [k0_pay27]; rfl
  | succ n ih =>
    intro hn
    rw [accN_succ _ _ _ _ _ _ _ _ (by omega), headStep_apply c fwq fwo fK fV b X ⟨n, by omega⟩, ih (by omega), Fin.sum_univ_castSucc]
    rfl

/-- The partial sum of batch `b`. -/
theorem sumOf_apply (i : Fin 512) (k : Fin 1024) :
    sumOf c fwq fwo fK fV b X (ix3 0 i k) = ∑ n : Fin 8, contrib c fwq fwo fK fV b X n i k := by
  refine Eq.trans ?_ (accN_apply c fwq fwo fK fV b X i k 8 le_rfl)
  unfold sumOf
  generalize accN c fwq fwo fK fV b X 8 = y
  pointwise [k0_pay28]

end Cert.KernelIdeal
end
end
-- ==== Proof.VArr.lean ====
/-
  What a device's result holds, in the entries of its arguments: the sum of the four devices' partial sums.
-/
module

public import proofs.«01_k».proof.Proof.KRun
public import proofs.«01_k».proof.Proof.VHead

@[expose] public section

noncomputable section

namespace Cert.KernelIdeal

open Cert.KernelIdeal.Gen Cert.Attn
open Idealize.ShloMosaic Idealize.ShloMosaic.TcCoe Idealize.SL.Sem Idealize.ShloMosaic.StableHlo

variable (m : (ℓ : Loc nD τ sig) → Buf (Elt Ideal) ℓ) (c : Dev nD)

/-- The arguments of device `c`. -/
abbrev xA : S1x512x1024.Idx → EReal := m ((c.tc : Thread nD τ).loc main_arg0)
abbrev wqA : S1024x1024.Idx → EReal := m ((c.tc : Thread nD τ).loc main_arg1)
abbrev woA : S1024x1024.Idx → EReal := m ((c.tc : Thread nD τ).loc main_arg2)
abbrev kA : S4x2048x32x128.Idx → EReal := m ((c.tc : Thread nD τ).loc main_arg3)
abbrev vA : S4x2048x32x128.Idx → EReal := m ((c.tc : Thread nD τ).loc main_arg4)

/-- The kernel's input block: the argument with its unit axis dropped. -/
theorem Xm_apply (i : Fin 512) (a : Fin 1024) : Xm m c (ix2 i a) = xA m c (ix3 0 i a) := by
  rw [Xm_eq]
  change after hostOps0 (V₀m m c) main_v2 (ix2 i a) = _
  after_results
  show shapeCast S512x1024 (xA m c) shapeCasts_S1x512x1024_S512x1024 (ix2 i a) = _
  generalize xA m c = y
  pointwise

/-- The query weights: the columns cut into eight heads. -/
theorem wqm_apply (n : Fin 8) (a : Fin 1024) (d : Fin 128) :
    wqm m c (ix3 n a d) = wqA m c (ix2 a ⟨n.val * 128 + d.val, by omega⟩) := by
  rw [wqm_eq]
  change after hostOps0 (V₀m m c) main_v5 (ix3 n a d) = _
  after_results
  show transpose S8x1024x128 [1, 0, 2] (shapeCast S1024x8x128 (wqA m c) shapeCasts_S1024x1024_S1024x8x128)
    transposes_S1024x8x128_S8x1024x128_1_0_2 (ix3 n a d) = _
  generalize wqA m c = y
  pointwise

/-- The output weights: the rows cut into eight heads. -/
theorem wom_apply (n : Fin 8) (e : Fin 128) (k : Fin 1024) :
    wom m c (ix3 n e k) = woA m c (ix2 ⟨n.val * 128 + e.val, by omega⟩ k) := by
  rw [wom_eq]
  change after hostOps0 (V₀m m c) main_v7 (ix3 n e k) = _
  after_results
  show shapeCast S8x128x1024 (woA m c) shapeCasts_S1024x1024_S8x128x1024 (ix3 n e k) = _
  generalize woA m c = y
  pointwise

theorem Km_eq : Km m c = kA m c := V_main_arg3 m c
theorem Vm_eq : Vm m c = vA m c := V_main_arg4 m c

/-- A stacked block is the block. -/
theorem stack_apply (w : S512x1024.Idx → EReal) (i : Fin 512) (a : Fin 1024) :
    stack (F := Ideal) w (ix3 0 i a) = w (ix2 i a) := by
  unfold stack
  refine congrArg w ((Equiv.symm_apply_eq _).mpr ?_)
  pointwise

/-- What head `n` of device `d` contributes to entry `(i, k)` of batch `b`, in the arguments' entries. -/
def part (d b : Dev nD) (n : Fin 8) (i : Fin 512) (k : Fin 1024) : EReal :=
  ∑ e : Fin 128, head
    (fun j => score (fun a => xA m b (ix3 0 i a)) (fun a d' => wqA m d (ix2 a ⟨n.val * 128 + d'.val, by omega⟩))
      (fun d' => kA m d (ix4 b j (hd d n) d')))
    (fun j => vA m d (ix4 b j (hd d n) e)) * woA m d (ix2 ⟨n.val * 128 + e.val, by omega⟩ k)

theorem contrib_eq (d b : Dev nD) (n : Fin 8) (i : Fin 512) (k : Fin 1024) :
    contrib d (wqm m d) (wom m d) (Km m d) (Vm m d) b (stack (Xm m b)) n i k = part m d b n i k := by
  unfold contrib part
  refine Finset.sum_congr rfl fun e _ => ?_
  rw [Km_eq, Vm_eq]
  refine congrArg₂ (· * ·) (congrArg₂ head (funext fun j => ?_) rfl) (wom_apply m d n e k)
  exact congrArg₂ (fun x w => score x w _) (funext fun a => (stack_apply _ i a).trans (Xm_apply m b i a))
    (funext fun a => funext fun d' => wqm_apply m d n a d')

/-- The partial sum device `d` makes for batch `b`. -/
theorem Pm_apply (d b : Dev nD) (i : Fin 512) (k : Fin 1024) : Pm m d b (ix3 0 i k) = ∑ n : Fin 8, part m d b n i k :=
  (sumOf_apply d (wqm m d) (wom m d) (Km m d) (Vm m d) b (stack (Xm m b)) i k).trans
    (Finset.sum_congr rfl fun n _ => contrib_eq m d b n i k)

/-- Four partial sums, in the order a device adds them, are their sum over the devices. -/
theorem sum_ring (c : Dev nD) (f : Dev nD → EReal) : f (pr 3 c) + f (pr 0 c) + (f (pr 1 c) + f (pr 2 c)) = ∑ d : Dev nD, f d := by
  rw [show (∑ d : Dev nD, f d) = f 0 + f 1 + f 2 + f 3 from Fin.sum_univ_four f]
  fin_cases c
  · show f 0 + f 1 + (f 2 + f 3) = _; ac_rfl
  · show f 1 + f 2 + (f 3 + f 0) = _; ac_rfl
  · show f 2 + f 3 + (f 0 + f 1) = _; ac_rfl
  · show f 3 + f 0 + (f 1 + f 2) = _; ac_rfl

theorem pr3 (c : Dev nD) : pr 3 c = c := by fin_cases c <;> rfl

/-- One entry of device `c`'s result: all devices' and all their heads' contributions to batch `c`. -/
theorem Om_apply (i : Fin 512) (k : Fin 1024) : Om m c (ix3 0 i k) = ∑ d : Dev nD, ∑ n : Fin 8, part m d c n i k := by
  have h0 := accN_apply c (wqm m c) (wom m c) (Km m c) (Vm m c) c (stack (Xm m c)) i k 8 le_rfl
  have hp := fun d : Dev nD => Pm_apply m d c i k
  rw [← sum_ring c]
  unfold Om resOf
  rw [pr3]
  revert h0 hp
  generalize accN c (wqm m c) (wom m c) (Km m c) (Vm m c) c (stack (Xm m c)) 8 = A
  generalize Pm m = P
  intro h0 hp
  pointwise [k0_pay37, k0_pay36, k0_pay35]
  simp only [hp]
  refine congrArg (· + _ + _) ?_
  exact h0.trans (Finset.sum_congr rfl fun n _ => contrib_eq m c c n i k)

end Cert.KernelIdeal
end
end
-- ==== Proof.VRef.lean ====
/-
  What the reference computes at one entry: a sum, over the 4096 columns of the heads laid side by side, of a head's
  entry times the output weight, the head being the softmax quotient of its scores.
-/
module

public import proofs.«01_k».proof.Proof.Gen.ReferenceIdeal.Read
public import proofs.«01_k».proof.Proof.VSoft
public import Idealize.ShloMosaic.Lib.Pointwise

@[expose] public section

noncomputable section

namespace Cert.ReferenceIdeal

open Cert.ReferenceIdeal.Read Cert.Attn
open Cert.ReferenceIdeal.Gen
open Idealize.ShloMosaic Idealize.ShloMosaic.TcCoe

variable (x0 : (⟨S4x512x1024, .f32⟩ : BufTy).Contents (Elt Ideal)) (x1 : (⟨S1024x4096, .f32⟩ : BufTy).Contents (Elt Ideal))
  (x2 : (⟨S4096x1024, .f32⟩ : BufTy).Contents (Elt Ideal)) (x3 x4 : (⟨S4x2048x32x128, .f32⟩ : BufTy).Contents (Elt Ideal))

/-- Column `e` of head `h` among the 4096 columns. -/
def col (h : Fin 32) (e : Fin 128) : Fin 4096 := ⟨h.val * 128 + e.val, by omega⟩

/-- The score of query row `i` of batch `b` against key row `j`, in head `h`. -/
def sc (b : Fin 4) (h : Fin 32) (i : Fin 512) (j : Fin 2048) : EReal :=
  score (fun k => x0 (ix3 b i k)) (fun k d => x1 (ix2 k (col h d))) (fun d => x3 (ix4 b j h d))

/-- Every entry of the input, of the query weights and of the keys is a real. -/
structure Reals : Prop where
  x : ∀ i, IsReal (x0 i)
  wq : ∀ i, IsReal (x1 i)
  k : ∀ i, IsReal (x3 i)

variable {x0 x1 x3}

theorem sc_real (H : Reals x0 x1 x3) (b : Fin 4) (h : Fin 32) (i : Fin 512) (j : Fin 2048) : IsReal (sc x0 x1 x3 b h i j) :=
  score_real (fun _ => H.x _) (fun _ _ => H.wq _) (fun _ => H.k _)

/-- The first chunk's scores. -/
theorem v9_eq (H : Reals x0 x1 x3) (b : Fin 4) (h : Fin 32) (i : Fin 512) (j : Fin 1024) :
    val_main_v9 (F := Ideal) x0 x1 x3 (ix4 b h i j) = sc x0 x1 x3 b h i (lo j) := by
  refine Eq.trans ?_ (score_eq (fun _ => H.x _) (fun _ _ => H.wq _) (fun _ => H.k _))
  pointwise [val_main_v9, val_main_v8, val_main_v7, val_main_cst_2, val_main_v5, val_main_v1, val_main_v0]
  rfl

/-- The second chunk's scores. -/
theorem v32_eq (H : Reals x0 x1 x3) (b : Fin 4) (h : Fin 32) (i : Fin 512) (j : Fin 1024) :
    val_main_v32 (F := Ideal) x0 x1 x3 (ix4 b h i j) = sc x0 x1 x3 b h i (hi j) := by
  refine Eq.trans ?_ (score_eq (fun _ => H.x _) (fun _ _ => H.wq _) (fun _ => H.k _))
  pointwise [val_main_v32, val_main_v31, val_main_v30, val_main_cst_5, val_main_v28, val_main_v1, val_main_v0]
  rfl

/-- The pattern the running maximum starts from is minus infinity. -/
theorem ofBits_bot : Ideal.ofBits .f32 0xFF800000#32 = ⊥ := by simp [Ideal.ofBits, Ideal.ieee]

theorem v3_eq (i : S4x32x512x1.Idx) : val_main_v3 (F := Ideal) i = ⊥ := by
  rw [val_main_v3_apply, val_main_cst_0_apply]; exact ofBits_bot
theorem v4_eq (i : S4x32x512x1.Idx) : val_main_v4 (F := Ideal) i = (0 : EReal) := by
  rw [val_main_v4_apply, val_main_cst_1_apply]; exact Ideal.ofBits_zero_f32
theorem v2_eq (i : S4x512x32x128.Idx) : val_main_v2 (F := Ideal) i = (0 : EReal) := by
  rw [val_main_v2_apply, val_main_cst_apply]; exact Ideal.ofBits_zero_f32

/-- A reduction by maximum over the last axis of an array of reals gives reals. -/
theorem reduce_real (y : S4x32x512x1024.Idx → EReal) (hy : ∀ i, IsReal (y i)) (z : S_.Idx → EReal) (hz : ∀ i, z i = ⊥) (j : S4x32x512.Idx) :
    IsReal (Host.reduce (α := EReal) (FloatOps.maximumf (F := Ideal) (φ := .f32)) y z reducesTo_S4x32x512x1024_S4x32x512_d3 h_S_ j) := by
  rw [Host.reduce_eq_fold_single _ y z reducesTo_S4x32x512x1024_S4x32x512_d3 (by decide) h_S_ j, hz]
  exact isReal_fold_max (n := 1023) _ fun _ => hy _

theorem v9_real (H : Reals x0 x1 x3) (i : S4x32x512x1024.Idx) : IsReal (val_main_v9 (F := Ideal) x0 x1 x3 i) := by
  idx_vars i
  rw [v9_eq H]; exact sc_real H _ _ _ _
theorem v32_real (H : Reals x0 x1 x3) (i : S4x32x512x1024.Idx) : IsReal (val_main_v32 (F := Ideal) x0 x1 x3 i) := by
  idx_vars i
  rw [v32_eq H]; exact sc_real H _ _ _ _

/-- The first running maximum is a real. -/
theorem v12_real (H : Reals x0 x1 x3) (i : S4x32x512x1.Idx) : IsReal (val_main_v12 (F := Ideal) x0 x1 x3 i) := by
  rw [val_main_v12_apply, v3_eq, val_main_v11_apply]
  refine (congrArg IsReal (max_bot_left _)).mpr ?_
  exact reduce_real _ (v9_real H) _ (fun j => (val_main_cst_3_apply (F := Ideal) j).trans ofBits_bot) _

/-- The second running maximum is a real. -/
theorem v35_real (H : Reals x0 x1 x3) (i : S4x32x512x1.Idx) : IsReal (val_main_v35 (F := Ideal) x0 x1 x3 i) := by
  rw [val_main_v35_apply, val_main_v34_apply]
  exact (v12_real H i).max (reduce_real _ (v32_real H) _ (fun j => (val_main_cst_6_apply (F := Ideal) j).trans ofBits_bot) _)

/-- The weights of the first chunk. -/
theorem v17_eq (H : Reals x0 x1 x3) (b : Fin 4) (h : Fin 32) (i : Fin 512) (j : Fin 1024) :
    val_main_v17 (F := Ideal) x0 x1 x3 (ix4 b h i j)
      = Ideal.exp (sc x0 x1 x3 b h i (lo j) - val_main_v12 (F := Ideal) x0 x1 x3 (ix4 b h i 0)) := by
  rw [val_main_v17_apply, val_main_v16_apply, val_main_v15_apply, v9_eq H,
    (show idx_main_v15 (ix4 b h i j) = ix4 b h i 0 from eq_ix4 _)]
  rfl

/-- The weights of the second chunk. -/
theorem v40_eq (H : Reals x0 x1 x3) (b : Fin 4) (h : Fin 32) (i : Fin 512) (j : Fin 1024) :
    val_main_v40 (F := Ideal) x0 x1 x3 (ix4 b h i j)
      = Ideal.exp (sc x0 x1 x3 b h i (hi j) - val_main_v35 (F := Ideal) x0 x1 x3 (ix4 b h i 0)) := by
  rw [val_main_v40_apply, val_main_v39_apply, val_main_v38_apply, v32_eq H,
    (show idx_main_v38 (ix4 b h i j) = ix4 b h i 0 from eq_ix4 _)]
  rfl

/-- The factor the first rescaling applies to the empty sums, and the second's to the first chunk. -/
theorem v14_eq (i : S4x32x512x1.Idx) :
    val_main_v14 (F := Ideal) x0 x1 x3 i = Ideal.exp (⊥ - val_main_v12 (F := Ideal) x0 x1 x3 i) := by
  rw [val_main_v14_apply, val_main_v13_apply, v3_eq]
  generalize val_main_v12 (F := Ideal) x0 x1 x3 i = a
  rfl
theorem v37_eq (i : S4x32x512x1.Idx) : val_main_v37 (F := Ideal) x0 x1 x3 i
    = Ideal.exp (val_main_v12 (F := Ideal) x0 x1 x3 i - val_main_v35 (F := Ideal) x0 x1 x3 i) := by
  rw [val_main_v37_apply, val_main_v36_apply]
  generalize val_main_v12 (F := Ideal) x0 x1 x3 i = a
  generalize val_main_v35 (F := Ideal) x0 x1 x3 i = c
  rfl

/-- The sum of the weights. -/
theorem v44_eq (H : Reals x0 x1 x3) (b : Fin 4) (h : Fin 32) (i : Fin 512) :
    val_main_v44 (F := Ideal) x0 x1 x3 (ix4 b h i 0)
      = (0 * Ideal.exp (⊥ - val_main_v12 (F := Ideal) x0 x1 x3 (ix4 b h i 0))
          + ∑ j, Ideal.exp (sc x0 x1 x3 b h i (lo j) - val_main_v12 (F := Ideal) x0 x1 x3 (ix4 b h i 0)))
        * Ideal.exp (val_main_v12 (F := Ideal) x0 x1 x3 (ix4 b h i 0) - val_main_v35 (F := Ideal) x0 x1 x3 (ix4 b h i 0))
        + ∑ j, Ideal.exp (sc x0 x1 x3 b h i (hi j) - val_main_v35 (F := Ideal) x0 x1 x3 (ix4 b h i 0)) := by
  have e19 : ∀ k, idx_main_v19 (ix3 b h i) k = ix4 b h i k := fun k => eq_ix4 (idx_main_v19 (ix3 b h i) k)
  have e42 : ∀ k, idx_main_v42 (ix3 b h i) k = ix4 b h i k := fun k => eq_ix4 (idx_main_v42 (ix3 b h i) k)
  have z4 : val_main_cst_4 (F := Ideal) (Shape.Idx.first h_S_) = (0 : EReal) := (val_main_cst_4_apply (F := Ideal) _).trans Ideal.ofBits_zero_f32
  have z7 : val_main_cst_7 (F := Ideal) (Shape.Idx.first h_S_) = (0 : EReal) := (val_main_cst_7_apply (F := Ideal) _).trans Ideal.ofBits_zero_f32
  have a : val_main_v20 (F := Ideal) x0 x1 x3 (ix4 b h i 0)
      = ∑ j, Ideal.exp (sc x0 x1 x3 b h i (lo j) - val_main_v12 (F := Ideal) x0 x1 x3 (ix4 b h i 0)) := by
    rw [val_main_v20_apply, (show idx_main_v20 (ix4 b h i 0) = ix3 b h i from eq_ix3 _), val_main_v19_apply]
    refine (congrArg (· + _) z4).trans ((zero_add _).trans (Finset.sum_congr rfl fun k _ => ?_))
    rw [e19, v17_eq H]
  have a' : val_main_v43 (F := Ideal) x0 x1 x3 (ix4 b h i 0)
      = ∑ j, Ideal.exp (sc x0 x1 x3 b h i (hi j) - val_main_v35 (F := Ideal) x0 x1 x3 (ix4 b h i 0)) := by
    rw [val_main_v43_apply, (show idx_main_v43 (ix4 b h i 0) = ix3 b h i from eq_ix3 _), val_main_v42_apply]
    refine (congrArg (· + _) z7).trans ((zero_add _).trans (Finset.sum_congr rfl fun k _ => ?_))
    rw [e42, v40_eq H]
  rw [val_main_v44_apply, val_main_v41_apply, val_main_v21_apply, val_main_v18_apply, a, a', v4_eq, v14_eq, v37_eq]
  rfl

/-- The weighted sum of the values. -/
theorem v50_eq (H : Reals x0 x1 x3) (b : Fin 4) (h : Fin 32) (i : Fin 512) (e : Fin 128) :
    val_main_v50 (F := Ideal) x0 x1 x3 x4 (ix4 b i h e)
      = (0 * Ideal.exp (⊥ - val_main_v12 (F := Ideal) x0 x1 x3 (ix4 b h i 0))
          + ∑ j, x4 (ix4 b (lo j) h e) * Ideal.exp (sc x0 x1 x3 b h i (lo j) - val_main_v12 (F := Ideal) x0 x1 x3 (ix4 b h i 0)))
        * Ideal.exp (val_main_v12 (F := Ideal) x0 x1 x3 (ix4 b h i 0) - val_main_v35 (F := Ideal) x0 x1 x3 (ix4 b h i 0))
        + ∑ j, x4 (ix4 b (hi j) h e) * Ideal.exp (sc x0 x1 x3 b h i (hi j) - val_main_v35 (F := Ideal) x0 x1 x3 (ix4 b h i 0)) := by
  have a : val_main_v26 (F := Ideal) x0 x1 x3 x4 (ix4 b i h e)
      = ∑ j, x4 (ix4 b (lo j) h e) * Ideal.exp (sc x0 x1 x3 b h i (lo j) - val_main_v12 (F := Ideal) x0 x1 x3 (ix4 b h i 0)) := by
    rw [val_main_v26_apply, (show idx_main_v26 (ix4 b i h e) = ix4 b h e i from eq_ix4 _), val_main_v25_apply]
    refine Finset.sum_congr rfl fun k _ => ?_
    rw [(show ridx_main_v25 (ix4 b h e i) k = ix4 b h i k from eq_ix4 _), v17_eq H, val_main_v6_apply]
    exact congrArg (x4 · * _) (eq_ix4 (idx_main_v6 (lidx_main_v25 (ix4 b h e i) k)))
  have a' : val_main_v49 (F := Ideal) x0 x1 x3 x4 (ix4 b i h e)
      = ∑ j, x4 (ix4 b (hi j) h e) * Ideal.exp (sc x0 x1 x3 b h i (hi j) - val_main_v35 (F := Ideal) x0 x1 x3 (ix4 b h i 0)) := by
    rw [val_main_v49_apply, (show idx_main_v49 (ix4 b i h e) = ix4 b h e i from eq_ix4 _), val_main_v48_apply]
    refine Finset.sum_congr rfl fun k _ => ?_
    rw [(show ridx_main_v48 (ix4 b h e i) k = ix4 b h i k from eq_ix4 _), v40_eq H, val_main_v29_apply]
    exact congrArg (x4 · * _) (eq_ix4 (idx_main_v29 (lidx_main_v48 (ix4 b h e i) k)))
  rw [val_main_v50_apply, val_main_v47_apply, val_main_v27_apply, val_main_v24_apply, a, a', v2_eq, val_main_v23_apply, val_main_v46_apply,
    val_main_v22_apply, val_main_v45_apply,
    (show idx_main_v22 (idx_main_v23 (ix4 b i h e)) = ix4 b h i 0 from eq_ix4 _),
    (show idx_main_v45 (idx_main_v46 (ix4 b i h e)) = ix4 b h i 0 from eq_ix4 _), v14_eq, v37_eq]
  rfl

/-- One entry of a head. -/
theorem v53_eq (H : Reals x0 x1 x3) (b : Fin 4) (h : Fin 32) (i : Fin 512) (e : Fin 128) :
    val_main_v53 (F := Ideal) x0 x1 x3 x4 (ix4 b i h e) = head (sc x0 x1 x3 b h i) (fun j => x4 (ix4 b j h e)) := by
  rw [val_main_v53_apply, val_main_v52_apply, val_main_v51_apply,
    (show idx_main_v51 (idx_main_v52 (ix4 b i h e)) = ix4 b h i 0 from eq_ix4 _), v44_eq H, v50_eq x4 H]
  have h1 := v12_real H (ix4 b h i 0)
  have h2 := v35_real H (ix4 b h i 0)
  have hs := sc_real H b h i
  revert h1 h2 hs
  generalize val_main_v12 (F := Ideal) x0 x1 x3 (ix4 b h i 0) = m1
  generalize val_main_v35 (F := Ideal) x0 x1 x3 (ix4 b h i 0) = m2
  generalize sc x0 x1 x3 b h i = s
  intro h1 h2 hs
  exact online_eq hs (fun j => x4 (ix4 b j h e)) h1 h2

/-- One entry of the reference's result. -/
theorem v55_eq (H : Reals x0 x1 x3) (b : Fin 4) (i : Fin 512) (n : Fin 1024) :
    val_main_v55 (F := Ideal) x0 x1 x2 x3 x4 (ix3 b i n)
      = ∑ p : Fin 4096, head (sc x0 x1 x3 b ⟨p.val / 128, by omega⟩ i)
          (fun j => x4 (ix4 b j ⟨p.val / 128, by omega⟩ ⟨p.val % 128, by omega⟩)) * x2 (ix2 p n) := by
  have hv := v53_eq x4 H b
  revert hv
  unfold val_main_v55 val_main_v54
  generalize val_main_v53 (F := Ideal) x0 x1 x3 x4 = y
  intro hv
  pointwise
  exact Finset.sum_congr rfl fun p _ => congrArg (· * _) (hv _ i _)

end Cert.ReferenceIdeal
end
end
-- ==== Proof.VSum.lean ====
/-
  Regrouping a sum over 4096 columns by device, head and column of the head.
-/
module

public import proofs.«01_k».proof.Proof.VSoft
public import Mathlib.Algebra.BigOperators.Fin

@[expose] public section

noncomputable section

namespace Cert.Attn

/-- A sum over `m * n` positions is a double sum. -/
theorem sum_grid (m n : ℕ) (f : Fin (m * n) → EReal) : ∑ p, f p = ∑ x : Fin m, ∑ y : Fin n, f (finProdFinEquiv (x, y)) := by
  rw [← Fintype.sum_prod_type', ← Equiv.sum_comp finProdFinEquiv]

/-- Column `e` of head `n` of device `d`. -/
def at4096 (d : Fin 4) (n : Fin 8) (e : Fin 128) : Fin 4096 := ⟨d.val * 1024 + n.val * 128 + e.val, by omega⟩

/-- The columns, device by device, head by head. -/
theorem sum_columns (f : Fin 4096 → EReal) : ∑ p, f p = ∑ d, ∑ n, ∑ e, f (at4096 d n e) := by
  have h1 : ∑ p, f p = ∑ h : Fin 32, ∑ e : Fin 128, f ⟨e.val + 128 * h.val, by omega⟩ := sum_grid 32 128 f
  have h2 : ∑ h : Fin 32, ∑ e : Fin 128, f ⟨e.val + 128 * h.val, by omega⟩
      = ∑ d : Fin 4, ∑ n : Fin 8, ∑ e : Fin 128, f ⟨e.val + 128 * (n.val + 8 * d.val), by omega⟩ :=
    sum_grid 4 8 fun h : Fin 32 => ∑ e : Fin 128, f ⟨e.val + 128 * h.val, by omega⟩
  rw [h1, h2]
  refine Finset.sum_congr rfl fun d _ => Finset.sum_congr rfl fun n _ => Finset.sum_congr rfl fun e _ => congrArg f (Fin.ext ?_)
  show e.val + 128 * (n.val + 8 * d.val) = d.val * 1024 + n.val * 128 + e.val
  omega

end Cert.Attn
end
end
-- ==== Proof.VEq.lean ====
/-
  The equation: a device's result is its block of the reference's, when the devices' arguments are the blocks of the
  reference's arguments.
-/
module

public import proofs.«01_k».proof.Proof.VArr
public import proofs.«01_k».proof.Proof.VRef
public import proofs.«01_k».proof.Proof.VSum
public import Idealize.ShloMosaic.Lib.Layout

@[expose] public section

noncomputable section

namespace Cert.Equation

open Cert.Attn Cert.KernelIdeal
open Cert.ReferenceIdeal (Reals sc col v55_eq)
open Cert.ReferenceIdeal.Read (val_main_v55)
open Idealize.ShloMosaic Idealize.ShloMosaic.TcCoe

abbrev A0 : Shape := ⟨3, ![4, 512, 1024]⟩
abbrev A1 : Shape := ⟨2, ![1024, 4096]⟩
abbrev A2 : Shape := ⟨2, ![4096, 1024]⟩
abbrev A3 : Shape := ⟨4, ![4, 2048, 32, 128]⟩

/-- An entry of a device's block of the input, of the query weights, of the output weights. -/
theorem block0 (v : A0.Idx → EReal) (c : Fin 4) (i : Fin 512) (a : Fin 1024) :
    (Layout.block ⟨3, ![1, 512, 1024]⟩ A0 0 4 c v) (ix3 0 i a) = v (ix3 c i a) :=
  congrArg v (funext fun x => Fin.ext (match x with
    | ⟨0, _⟩ => show c.val * 1 + 0 = c.val by omega
    | ⟨1, _⟩ => rfl
    | ⟨2, _⟩ => rfl))
theorem block1 (v : A1.Idx → EReal) (c : Fin 4) (a q : Fin 1024) :
    (Layout.block ⟨2, ![1024, 1024]⟩ A1 1 4 c v) (ix2 a q) = v (ix2 a ⟨c.val * 1024 + q.val, by omega⟩) :=
  congrArg v (funext fun x => Fin.ext (match x with
    | ⟨0, _⟩ => rfl
    | ⟨1, _⟩ => rfl))
theorem block2 (v : A2.Idx → EReal) (c : Fin 4) (q k : Fin 1024) :
    (Layout.block ⟨2, ![1024, 1024]⟩ A2 0 4 c v) (ix2 q k) = v (ix2 ⟨c.val * 1024 + q.val, by omega⟩ k) :=
  congrArg v (funext fun x => Fin.ext (match x with
    | ⟨0, _⟩ => rfl
    | ⟨1, _⟩ => rfl))

variable (m : (ℓ : Loc nD τ sig) → Buf (Elt Ideal) ℓ) (x0 : A0.Idx → EReal) (x1 : A1.Idx → EReal) (x2 : A2.Idx → EReal)
  (x3 x4 : A3.Idx → EReal)

/-- The devices' arguments are the blocks of the whole arrays, the keys and values whole on every device. -/
structure Agree : Prop where
  x : ∀ c, xA m c = Layout.block ⟨3, ![1, 512, 1024]⟩ A0 0 4 c x0
  wq : ∀ c, wqA m c = Layout.block ⟨2, ![1024, 1024]⟩ A1 1 4 c x1
  wo : ∀ c, woA m c = Layout.block ⟨2, ![1024, 1024]⟩ A2 0 4 c x2
  k : ∀ c, kA m c = x3
  v : ∀ c, vA m c = x4

variable {m x0 x1 x2 x3 x4}

/-- Blocks of reals are the blocks of an array of reals. -/
theorem reals_of_blocks (H : Agree m x0 x1 x2 x3 x4) (h : ∀ c, (∀ i, IsReal (xA m c i)) ∧ (∀ i, IsReal (wqA m c i)) ∧ ∀ i, IsReal (kA m c i)) :
    Reals x0 x1 x3 where
  x i := by
    obtain ⟨b, r, a, rfl⟩ : ∃ (b : Fin 4) (r : Fin 512) (a : Fin 1024), i = ix3 b r a := ⟨i 0, i 1, i 2, eq_ix3 i⟩
    rw [← block0 x0 b r a, ← H.x b]; exact (h b).1 _
  wq i := by
    obtain ⟨a, p, rfl⟩ : ∃ (a : Fin 1024) (p : Fin 4096), i = ix2 a p := ⟨i 0, i 1, eq_ix2 i⟩
    have e := block1 x1 ⟨p.val / 1024, by omega⟩ a ⟨p.val % 1024, by omega⟩
    have hp : (⟨p.val / 1024 * 1024 + p.val % 1024, by omega⟩ : Fin 4096) = p := Fin.ext (by show p.val / 1024 * 1024 + p.val % 1024 = p.val; omega)
    rw [← hp, ← e, ← H.wq]; exact (h _).2.1 _
  k i := by rw [← H.k 0]; exact (h 0).2.2 i

/-- What head `n` of device `d` contributes to batch `b`, in the whole arrays' entries. -/
theorem part_eq (H : Agree m x0 x1 x2 x3 x4) (d b : Fin 4) (n : Fin 8) (i : Fin 512) (k : Fin 1024) :
    part m d b n i k = ∑ e : Fin 128, head (sc x0 x1 x3 b (hd d n) i) (fun j => x4 (ix4 b j (hd d n) e)) * x2 (ix2 (at4096 d n e) k) := by
  unfold part
  refine Finset.sum_congr rfl fun e _ => ?_
  refine congrArg₂ (· * ·) (congrArg₂ head (funext fun j => ?_) ?_) ?_
  · unfold sc
    rw [H.k d]
    refine congrArg₂ (fun x w => score x w _) (funext fun a => ?_) (funext fun a => funext fun d' => ?_)
    · rw [H.x b]; exact block0 x0 b i a
    · rw [H.wq d]
      refine (block1 x1 d a _).trans (congrArg (fun p => x1 (ix2 a p)) (Fin.ext ?_))
      show d.val * 1024 + (n.val * 128 + d'.val) = (8 * d.val + n.val) * 128 + d'.val
      omega
  · rw [H.v d]
  · rw [H.wo d]
    refine (block2 x2 d _ k).trans (congrArg (fun p => x2 (ix2 p k)) (Fin.ext ?_))
    show d.val * 1024 + (n.val * 128 + e.val) = d.val * 1024 + n.val * 128 + e.val
    omega

/-- A device's result is its block of the reference's. -/
theorem result_eq (H : Agree m x0 x1 x2 x3 x4) (hr : Reals x0 x1 x3) (c : Fin 4) :
    Om m c = Layout.block ⟨3, ![1, 512, 1024]⟩ A0 0 4 c (val_main_v55 (F := Ideal) x0 x1 x2 x3 x4) := by
  funext z
  obtain ⟨u, i, k, rfl⟩ : ∃ (u : Fin 1) (i : Fin 512) (k : Fin 1024), z = ix3 u i k := ⟨z 0, z 1, z 2, eq_ix3 z⟩
  obtain rfl : u = 0 := Subsingleton.elim _ _
  refine (Om_apply m c i k).trans (Eq.trans ?_ (block0 _ c i k).symm)
  refine Eq.trans ?_ (v55_eq x2 x4 hr c i k).symm
  rw [sum_columns]
  refine Finset.sum_congr rfl fun d _ => Finset.sum_congr rfl fun n _ => (part_eq H d c n i k).trans ?_
  refine Finset.sum_congr rfl fun e _ => ?_
  have h1 : (⟨(at4096 d n e).val / 128, by omega⟩ : Fin 32) = hd d n := Fin.ext (by show (d.val * 1024 + n.val * 128 + e.val) / 128 = 8 * d.val + n.val; omega)
  have h2 : (⟨(at4096 d n e).val % 128, by omega⟩ : Fin 128) = e := Fin.ext (by show (d.val * 1024 + n.val * 128 + e.val) % 128 = e.val; omega)
  rw [h1, h2]

end Cert.Equation
end
end
-- ==== Proof.VPre.lean ====
/-
  What the precondition says: every entry of a device's input, of its query weights and of the keys is a real.
-/
module

public import proofs.«01_k».proof.Pre_finite_KernelIdeal
public import proofs.«01_k».proof.Proof.VSoft
public import Idealize.ShloMosaic.PureOps.Reduce

@[expose] public section

noncomputable section

namespace Cert.Pre_finite_KernelIdeal

open Cert.Attn
open Idealize.ShloMosaic
open Facts

/-- One bit of a conjunction that is one is one. -/
theorem and_one (a b : BitVec 1) (h : IntOp.andi a b = 1#1) : a = 1#1 ∧ b = 1#1 := by
  revert a b; decide

theorem foldl_and {ι : Type} (x : ι → BitVec 1) (l : List ι) (r : BitVec 1)
    (h : l.foldl (fun r i => IntOp.andi r (x i)) r = 1#1) : r = 1#1 ∧ ∀ i ∈ l, x i = 1#1 := by
  induction l generalizing r with
  | nil => exact ⟨h, fun _ hi => absurd hi List.not_mem_nil⟩
  | cons a l ih =>
    obtain ⟨h1, h2⟩ := ih _ h
    obtain ⟨h3, h4⟩ := and_one _ _ h1
    refine ⟨h3, fun i hi => ?_⟩
    rcases List.mem_cons.mp hi with rfl | hi
    · exact h4
    · exact h2 i hi

/-- A conjunction over a whole array is one only when each of its bits is. -/
theorem all_of_reduce {s : Shape} {axes : List (Fin s.rank)} (x : s.Idx → BitVec 1) (z : S_.Idx → BitVec 1) (h : s.ReducesTo axes S_) (hu : 0 < S_.numel)
    (j : S_.Idx) (e : Host.reduce IntOp.andi x z h hu j = 1#1) (i : s.Idx) : x i = 1#1 := by
  rw [Host.reduce_eq_foldl] at e
  refine (foldl_and x _ _ e).2 i (List.mem_filter.mpr ⟨List.mem_map.mpr ⟨s.rowMajor i, List.mem_finRange _, Equiv.symm_apply_apply _ _⟩, ?_⟩)
  exact decide_eq_true (funext fun a => a.elim0)

/-- An extended real below infinity in absolute value is a real. -/
theorem isReal_of_abs_lt (x : EReal) (h : max x (-x) < ⊤) : IsReal x := by
  induction x using EReal.rec with
  | bot => simp at h
  | coe r => exact ⟨r, rfl⟩
  | top => simp at h

theorem ofBits_top : Ideal.ofBits .f32 0x7F800000#32 = ⊤ := by simp [Ideal.ofBits, Ideal.ieee]

/-- The comparison against infinity, where it is one. -/
theorem isReal_of_bit (x : EReal) (h : (FloatOps.cmpf (F := Ideal) (φ := .f32) .olt (max x (-x) : EReal) (Ideal.ofBits .f32 0x7F800000#32)) = 1#1) : IsReal x := by
  rw [ofBits_top] at h
  refine isReal_of_abs_lt x ?_
  by_contra hc
  have : (FloatOps.cmpf (F := Ideal) (φ := .f32) .olt (max x (-x) : EReal) (⊤ : EReal)) = 0#1 := by
    show BitVec.ofBool (decide (max x (-x) < ⊤)) = 0#1
    rw [decide_eq_false hc]; rfl
  rw [this] at h
  exact absurd h (by decide)

variable [Facts]

theorem reals_of_pre (a0 : FVec Ideal S1x512x1024 .f32) (a1 a2 : FVec Ideal S1024x1024 .f32) (a3 a4 : FVec Ideal S4x2048x32x128 .f32)
    (h : fn (F := Ideal) a0 a1 a2 a3 a4 = fun _ => 1#1) :
    (∀ i, IsReal (a0 i)) ∧ (∀ i, IsReal (a1 i)) ∧ ∀ i, IsReal (a3 i) := by
  have h0 := congrFun h (Shape.Idx.first h_S_)
  unfold fn at h0
  obtain ⟨h1, hk⟩ := and_one _ _ h0
  obtain ⟨hx, hw⟩ := and_one _ _ h1
  refine ⟨fun i => isReal_of_bit _ (all_of_reduce _ _ reducesTo_S1x512x1024_S_d0_1_2 h_S_ _ hx i),
    fun i => isReal_of_bit _ (all_of_reduce _ _ reducesTo_S1024x1024_S_d0_1 h_S_ _ hw i),
    fun i => isReal_of_bit _ (all_of_reduce _ _ reducesTo_S4x2048x32x128_S_d0_1_2_3 h_S_ _ hk i)⟩

end Cert.Pre_finite_KernelIdeal
end
end
-- ==== Proof.VFacts.lean ====
/-
  The shape facts that the precondition's two programs ask for.
-/
module

public import proofs.«01_k».proof.Pre_finite_KernelIdeal
public import proofs.«01_k».proof.Pre_finite_ReferenceIdeal

@[expose] public section

namespace Cert.Pre_finite_KernelIdeal

instance : Facts :=
  ⟨by decide, by decide, by decide, by decide, by decide, by decide, by decide⟩

end Cert.Pre_finite_KernelIdeal

namespace Cert.Pre_finite_ReferenceIdeal

instance : Facts :=
  ⟨by decide, by decide, by decide, by decide, by decide, by decide, by decide⟩

end Cert.Pre_finite_ReferenceIdeal
end
-- ==== Proof.lean ====
module

public import proofs.«01_k».proof.Defs
public import proofs.«01_k».proof.Proof.Twin
public import proofs.«01_k».proof.Proof.VEq
public import proofs.«01_k».proof.Proof.VPre
public import proofs.«01_k».proof.Proof.VFacts
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe

/-- The kernel at machine floats ends in every execution, its arguments unchanged and every counter at zero. -/
theorem frame_kernel : Cert.quiescent_Kernel := fun m ρ _ =>
  (θ_run _ _ _).mono (fun _ h => ⟨fun c => (h.1 c).1, h.2⟩) (run_kernel (F := Bits) m ρ)

/-- So does the kernel over the extended reals. -/
theorem frame_ideal : Cert.quiescent_KernelIdeal := fun m ρ _ =>
  (θ_run _ _ _).mono (fun _ h => ⟨fun c => (h.1 c).1, h.2⟩) (Cert.KernelIdeal.run_main (F := Ideal) m ρ)

/-- So does the reference, on its one device. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- On finite inputs, queries' weights and keys, each device's result over the extended reals is its block of the
    reference's. -/
theorem algebraic : Cert.algebraic_KernelIdeal_ReferenceIdeal_pre_finite_KernelIdeal := by
  intro m ρ m' ρ' hpre hagree
  have H : Cert.Equation.Agree m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hagree c).1, fun c => (hagree c).2.1, fun c => (hagree c).2.2.1, fun c => (hagree c).2.2.2.1, fun c => (hagree c).2.2.2.2⟩
  have hr := Cert.Equation.reals_of_blocks H fun c => Cert.Pre_finite_KernelIdeal.reals_of_pre _ _ _ _ _ (hpre c)
  refine ⟨Cert.ReferenceIdeal.Value.res_main_v55 m' 0, ?_, ?_⟩
  · refine (θ_run _ _ _).mono (fun r h c => ⟨(h.1 c).2.trans ?_, (h.1 c).1⟩) (Cert.KernelIdeal.run_main (F := Ideal) m ρ)
    rw [Cert.ReferenceIdeal.Read.val_main_v55_eq]
    exact Cert.Equation.result_eq H hr c
  · exact (θ_run _ _ _).mono (fun r h => h 0) (Cert.ReferenceIdeal.Value.run (F := Ideal) m' ρ')

/-- All claims together. -/
theorem claim : Cert.Claim :=
  ⟨inferInstance, inferInstance, inferInstance, inferInstance, inferInstance, frame_kernel, frame_ideal,
    fun m ρ _ => frame_ideal m ρ trivial, frame_reference, fun m ρ _ => frame_reference m ρ trivial, trivial, algebraic⟩

end Cert.Proof

end

end
